-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  IdealRules.named_const.Statement Cert.KernelIdeal.κ "gelu_ca" .f32 0x3D122279#32 ((80338380498831 / 2251799813685248 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v56_0)) (v1 : (c : Dev Cert.KernelIdeal.nD) → Buf (Elt Ideal) ((c.tc : Thread Cert.KernelIdeal.nD Cert.KernelIdeal.τ).loc Cert.KernelIdeal.main_v56_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56_0) = v0 c
          ∧ r.2.mem ((c.tc : Thread Cert.KernelIdeal.nD Cert.KernelIdeal.τ).loc Cert.KernelIdeal.main_v56_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v6) = v1 c
          ∧ r.2.mem ((c.tc : Thread Cert.Reference2Ideal.nD Cert.Reference2Ideal.τ).loc Cert.Reference2Ideal.main_v7) = v2 c
          ∧ r.2.mem ((c.tc : Thread Cert.Reference2Ideal.nD Cert.Reference2Ideal.τ).loc Cert.Reference2Ideal.main_v8) = v3 c
          ∧ r.2.mem ((c.tc : Thread Cert.Reference2Ideal.nD Cert.Reference2Ideal.τ).loc Cert.Reference2Ideal.main_v9) = v4 c
          ∧ r.2.mem ((c.tc : Thread Cert.Reference2Ideal.nD Cert.Reference2Ideal.τ).loc Cert.Reference2Ideal.main_v10) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_v9) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v22) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v32) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v33) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v33) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v13)) (v1 : (c : Dev Cert.Kernel11Ideal.nD) → Buf (Elt Ideal) ((c.tc : Thread Cert.Kernel11Ideal.nD Cert.Kernel11Ideal.τ).loc Cert.Kernel11Ideal.main_v12_1)) (v2 : (c : Dev Cert.Kernel11Ideal.nD) → Buf (Elt Ideal) ((c.tc : Thread Cert.Kernel11Ideal.nD Cert.Kernel11Ideal.τ).loc Cert.Kernel11Ideal.main_v12_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v13) = v0 c
          ∧ r.2.mem ((c.tc : Thread Cert.Kernel11Ideal.nD Cert.Kernel11Ideal.τ).loc Cert.Kernel11Ideal.main_v12_1) = v1 c
          ∧ r.2.mem ((c.tc : Thread Cert.Kernel11Ideal.nD Cert.Kernel11Ideal.τ).loc Cert.Kernel11Ideal.main_v12_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v16) = v0 c
          ∧ r.2.mem ((c.tc : Thread Cert.Reference11Ideal.nD Cert.Reference11Ideal.τ).loc Cert.Reference11Ideal.main_v18) = v1 c
          ∧ r.2.mem ((c.tc : Thread Cert.Reference11Ideal.nD Cert.Reference11Ideal.τ).loc Cert.Reference11Ideal.main_v20) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite2 : Cert.Pre_finite2.Facts) (hPre_finite5 : Cert.Pre_finite5.Facts) (hPre_finite11 : Cert.Pre_finite11.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
-- ==== Pre_finite.lean ====
abbrev S16384x12288 : Shape := ⟨2, ![16384, 12288]⟩
abbrev S8x128x128 : Shape := ⟨3, ![8, 128, 128]⟩
abbrev S8x128 : Shape := ⟨2, ![8, 128]⟩
abbrev S16384x6144 : Shape := ⟨2, ![16384, 6144]⟩
abbrev S_ : Shape := ⟨0, ![]⟩
abbrev S16384x2048 : Shape := ⟨2, ![16384, 2048]⟩

class Facts : Prop where
  bitsLt_bf16_f32 : FTy.bits .bf16 < FTy.bits .f32
  slices_S16384x12288_S16384x6144_0_0 : S16384x12288.Slices ![0, 0] S16384x6144
  bcast_S_S16384x6144 : S_.BroadcastsInDim S16384x6144 (![] : Fin 0 → Fin S16384x6144.rank)
  reducesTo_S16384x6144_S_d0_1 : S16384x6144.ReducesTo [0, 1] S_
  h_S_ : 0 < S_.numel
  slices_S16384x12288_S16384x2048_0_8192 : S16384x12288.Slices ![0, 8192] S16384x2048
  bcast_S_S16384x2048 : S_.BroadcastsInDim S16384x2048 (![] : Fin 0 → Fin S16384x2048.rank)
  reducesTo_S16384x2048_S_d0_1 : S16384x2048.ReducesTo [0, 1] S_

variable [Facts]

def fn {F : FTy → Type} [FloatOps F] (main_arg0 : FVec F S16384x12288 .bf16) (main_arg1 : FVec F S8x128x128 .f32) (main_arg2 : FVec F S8x128 .f32) : IVec S_ 1 :=
  let main_v0 : FVec F S16384x12288 .f32 := (extf .f32 · bitsLt_bf16_f32) main_arg0
  let main_v1 : FVec F S16384x6144 .f32 := (extractStridedSlice S16384x6144 ![0, 0] · slices_S16384x12288_S16384x6144_0_0) main_v0
  let main_v2 : FVec F S16384x6144 .f32 := Host.absf main_v1
  let main_cst : FVec F S_ .f32 := constant S_ .f32 0x7F800000#32
  let main_v3 : FVec F S16384x6144 .f32 := broadcastInDim S16384x6144 ![] bcast_S_S16384x6144 main_cst
  let main_v4 : IVec S16384x6144 1 := cmpf .olt main_v2 main_v3
  let main_c : IVec S_ 1 := constantI S_ 1 1#1
  let main_v5 : IVec S_ 1 := (fun x v => Host.reduce IntOp.andi x v reducesTo_S16384x6144_S_d0_1 h_S_) main_v4 main_c
  let main_v6 : FVec F S16384x2048 .f32 := (extractStridedSlice S16384x2048 ![0, 8192] · slices_S16384x12288_S16384x2048_0_8192) main_v0
  let main_v7 : FVec F S16384x2048 .f32 := Host.absf main_v6
  let main_cst_0 : FVec F S_ .f32 := constant S_ .f32 0x7F800000#32
  let main_v8 : FVec F S16384x2048 .f32 := broadcastInDim S16384x2048 ![] bcast_S_S16384x2048 main_cst_0
  let main_v9 : IVec S16384x2048 1 := cmpf .olt main_v7 main_v8
  let main_c_1 : IVec S_ 1 := constantI S_ 1 1#1
  let main_v10 : IVec S_ 1 := (fun x v => Host.reduce IntOp.andi x v reducesTo_S16384x2048_S_d0_1 h_S_) main_v9 main_c_1
  let main_v11 : IVec S_ 1 := andi main_v5 main_v10
  main_v11
-- ==== Pre_finite11.lean ====
abbrev S4x4096 : Shape := ⟨2, ![4, 4096]⟩
abbrev S4096x36864 : Shape := ⟨2, ![4096, 36864]⟩
abbrev S36864 : Shape := ⟨1, ![36864]⟩
abbrev S_ : Shape := ⟨0, ![]⟩

class Facts : Prop where
  bcast_S_S4x4096 : S_.BroadcastsInDim S4x4096 (![] : Fin 0 → Fin S4x4096.rank)
  reducesTo_S4x4096_S_d0_1 : S4x4096.ReducesTo [0, 1] S_
  h_S_ : 0 < S_.numel

variable [Facts]

def fn {F : FTy → Type} [FloatOps F] (main_arg0 : FVec F S4x4096 .f32) (main_arg1 : IVec S4x4096 32) (main_arg2 : FVec F S4096x36864 .f32) (main_arg3 : FVec F S36864 .f32) : IVec S_ 1 :=
  let main_v0 : FVec F S4x4096 .f32 := Host.absf main_arg0
  let main_cst : FVec F S_ .f32 := constant S_ .f32 0x7F800000#32
  let main_v1 : FVec F S4x4096 .f32 := broadcastInDim S4x4096 ![] bcast_S_S4x4096 main_cst
  let main_v2 : IVec S4x4096 1 := cmpf .olt main_v0 main_v1
  let main_c : IVec S_ 1 := constantI S_ 1 1#1
  let main_v3 : IVec S_ 1 := (fun x v => Host.reduce IntOp.andi x v reducesTo_S4x4096_S_d0_1 h_S_) main_v2 main_c
  main_v3
-- ==== Pre_finite2.lean ====
abbrev S16384x4096 : Shape := ⟨2, ![16384, 4096]⟩
abbrev S4096x11008 : Shape := ⟨2, ![4096, 11008]⟩
abbrev S11008x4096 : Shape := ⟨2, ![11008, 4096]⟩
abbrev S4096x12288 : Shape := ⟨2, ![4096, 12288]⟩
abbrev S4096x4096 : Shape := ⟨2, ![4096, 4096]⟩
abbrev S_ : Shape := ⟨0, ![]⟩

class Facts : Prop where
  bitsLt_bf16_f32 : FTy.bits .bf16 < FTy.bits .f32
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x11008 : S_.BroadcastsInDim S4096x11008 (![] : Fin 0 → Fin S4096x11008.rank)
  reducesTo_S4096x11008_S_d0_1 : S4096x11008.ReducesTo [0, 1] S_

variable [Facts]

def fn {F : FTy → Type} [FloatOps F] (main_arg0 : FVec F S16384x4096 .bf16) (main_arg1 : FVec F S4096x11008 .f32) (main_arg2 : FVec F S4096x11008 .f32) (main_arg3 : FVec F S11008x4096 .f32) (main_arg4 : FVec F S4096x12288 .f32) (main_arg5 : FVec F S4096x4096 .f32) (main_arg6 : FVec F S4096x11008 .f32) (main_arg7 : FVec F S4096x11008 .f32) : IVec S_ 1 :=
  let main_v0 : FVec F S16384x4096 .f32 := (extf .f32 · bitsLt_bf16_f32) main_arg0
  let main_v1 : FVec F S16384x4096 .f32 := Host.absf main_v0
  let main_cst : FVec F S_ .f32 := constant S_ .f32 0x7F800000#32
  let main_v2 : FVec F S16384x4096 .f32 := broadcastInDim S16384x4096 ![] bcast_S_S16384x4096 main_cst
  let main_v3 : IVec S16384x4096 1 := cmpf .olt main_v1 main_v2
  let main_c : IVec S_ 1 := constantI S_ 1 1#1
  let main_v4 : IVec S_ 1 := (fun x v => Host.reduce IntOp.andi x v reducesTo_S16384x4096_S_d0_1 h_S_) main_v3 main_c
  let main_v5 : FVec F S4096x11008 .f32 := Host.absf main_arg1
  let main_cst_0 : FVec F S_ .f32 := constant S_ .f32 0x7F800000#32
  let main_v6 : FVec F S4096x11008 .f32 := broadcastInDim S4096x11008 ![] bcast_S_S4096x11008 main_cst_0
  let main_v7 : IVec S4096x11008 1 := cmpf .olt main_v5 main_v6
  let main_c_1 : IVec S_ 1 := constantI S_ 1 1#1
  let main_v8 : IVec S_ 1 := (fun x v => Host.reduce IntOp.andi x v reducesTo_S4096x11008_S_d0_1 h_S_) main_v7 main_c_1
  let main_v9 : IVec S_ 1 := andi main_v4 main_v8
  main_v9
-- ==== Pre_finite5.lean ====
abbrev S16384x4096 : Shape := ⟨2, ![16384, 4096]⟩
abbrev S4096x11008 : Shape := ⟨2, ![4096, 11008]⟩
abbrev S11008x4096 : Shape := ⟨2, ![11008, 4096]⟩
abbrev S_ : Shape := ⟨0, ![]⟩

class Facts : Prop where
  bitsLt_bf16_f32 : FTy.bits .bf16 < FTy.bits .f32
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x11008 : S_.BroadcastsInDim S4096x11008 (![] : Fin 0 → Fin S4096x11008.rank)
  reducesTo_S4096x11008_S_d0_1 : S4096x11008.ReducesTo [0, 1] S_

variable [Facts]

def fn {F : FTy → Type} [FloatOps F] (main_arg0 : FVec F S16384x4096 .bf16) (main_arg1 : FVec F S4096x11008 .bf16) (main_arg2 : FVec F S4096x11008 .bf16) (main_arg3 : FVec F S11008x4096 .f32) : IVec S_ 1 :=
  let main_v0 : FVec F S16384x4096 .f32 := (extf .f32 · bitsLt_bf16_f32) main_arg0
  let main_v1 : FVec F S16384x4096 .f32 := Host.absf main_v0
  let main_cst : FVec F S_ .f32 := constant S_ .f32 0x7F800000#32
  let main_v2 : FVec F S16384x4096 .f32 := broadcastInDim S16384x4096 ![] bcast_S_S16384x4096 main_cst
  let main_v3 : IVec S16384x4096 1 := cmpf .olt main_v1 main_v2
  let main_c : IVec S_ 1 := constantI S_ 1 1#1
  let main_v4 : IVec S_ 1 := (fun x v => Host.reduce IntOp.andi x v reducesTo_S16384x4096_S_d0_1 h_S_) main_v3 main_c
  let main_v5 : FVec F S4096x11008 .f32 := (extf .f32 · bitsLt_bf16_f32) main_arg1
  let main_v6 : FVec F S4096x11008 .f32 := Host.absf main_v5
  let main_cst_0 : FVec F S_ .f32 := constant S_ .f32 0x7F800000#32
  let main_v7 : FVec F S4096x11008 .f32 := broadcastInDim S4096x11008 ![] bcast_S_S4096x11008 main_cst_0
  let main_v8 : IVec S4096x11008 1 := cmpf .olt main_v6 main_v7
  let main_c_1 : IVec S_ 1 := constantI S_ 1 1#1
  let main_v9 : IVec S_ 1 := (fun x v => Host.reduce IntOp.andi x v reducesTo_S4096x11008_S_d0_1 h_S_) main_v8 main_c_1
  let main_v10 : IVec S_ 1 := andi main_v4 main_v9
  main_v10
-- ==== Kernel.lean ====
abbrev S16384x12288 : Shape := ⟨2, ![16384, 12288]⟩
abbrev S8x128x128 : Shape := ⟨3, ![8, 128, 128]⟩
abbrev S8x128 : Shape := ⟨2, ![8, 128]⟩
abbrev S8 : Shape := ⟨1, ![8]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S8x1x1 : Shape := ⟨3, ![8, 1, 1]⟩
abbrev S8x256x256 : Shape := ⟨3, ![8, 256, 256]⟩
abbrev S8x1 : Shape := ⟨2, ![8, 1]⟩
abbrev S8x256 : Shape := ⟨2, ![8, 256]⟩
abbrev S8x256x1 : Shape := ⟨3, ![8, 256, 1]⟩
abbrev S8x1x256 : Shape := ⟨3, ![8, 1, 256]⟩
abbrev S8x128x1 : Shape := ⟨3, ![8, 128, 1]⟩
abbrev S8x128x256 : Shape := ⟨3, ![8, 128, 256]⟩
abbrev S16384x2048 : Shape := ⟨2, ![16384, 2048]⟩
abbrev S512x2048 : Shape := ⟨2, ![512, 2048]⟩
abbrev S1x1x256 : Shape := ⟨3, ![1, 1, 256]⟩
abbrev S128x128 : Shape := ⟨2, ![128, 128]⟩
abbrev S1x128x128 : Shape := ⟨3, ![1, 128, 128]⟩
abbrev S1x128x256 : Shape := ⟨3, ![1, 128, 256]⟩
abbrev S128x256 : Shape := ⟨2, ![128, 256]⟩

abbrev nBuf : Space → Nat
  | .hbm => 73
  | .vmem => 23
  | .smem => 0
  | _ => 0

abbrev bufTy : (tb : Table) → Fin (tcTables nBuf tb) → BufTy
  | .hbm, ⟨0, _⟩ => ⟨S16384x12288, .bf16⟩
  | .hbm, ⟨1, _⟩ => ⟨S8x128x128, .f32⟩
  | .hbm, ⟨2, _⟩ => ⟨S8x128, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S256, .i32⟩
  | .hbm, ⟨15, _⟩ => ⟨S256x1, .i32⟩
  | .hbm, ⟨16, _⟩ => ⟨S1x256, .i32⟩
  | .hbm, ⟨17, _⟩ => ⟨S256x256, .i32⟩
  | .hbm, ⟨18, _⟩ => ⟨S256x256, .i32⟩
  | .hbm, ⟨19, _⟩ => ⟨S256x256, .i32⟩
  | .hbm, ⟨20, _⟩ => ⟨S256x256, .f32⟩
  | .hbm, ⟨21, _⟩ => ⟨S1x256x256, .f32⟩
  | .hbm, ⟨22, _⟩ => ⟨S_, .f32⟩
  | .hbm, ⟨23, _⟩ => ⟨S1x256x256, .f32⟩
  | .hbm, ⟨24, _⟩ => ⟨S1x256x256, .i1⟩
  | .hbm, ⟨25, _⟩ => ⟨S8x1x1, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S1x256x256, .f32⟩
  | .hbm, ⟨30, _⟩ => ⟨S8x256x256, .f32⟩
  | .hbm, ⟨31, _⟩ => ⟨S8x256x256, .f32⟩
  | .hbm, ⟨32, _⟩ => ⟨S8x256x256, .f32⟩
  | .hbm, ⟨33, _⟩ => ⟨S8x256x256, .f32⟩
  | .hbm, ⟨34, _⟩ => ⟨S_, .f32⟩
  | .hbm, ⟨35, _⟩ => ⟨S_, .f32⟩
  | .hbm, ⟨36, _⟩ => ⟨S8x256x256, .i1⟩
  | .hbm, ⟨37, _⟩ => ⟨S8x256x256, .f32⟩
  | .hbm, ⟨38, _⟩ => ⟨S8x256x256, .f32⟩
  | .hbm, ⟨39, _⟩ => ⟨S8x1, .f32⟩
  | .hbm, ⟨40, _⟩ => ⟨S_, .i32⟩
  | .hbm, ⟨41, _⟩ => ⟨S256, .i32⟩
  | .hbm, ⟨42, _⟩ => ⟨S256, .i32⟩
  | .hbm, ⟨43, _⟩ => ⟨S256, .f32⟩
  | .hbm, ⟨44, _⟩ => ⟨S1x256, .f32⟩
  | .hbm, ⟨45, _⟩ => ⟨S8x256, .f32⟩
  | .hbm, ⟨46, _⟩ => ⟨S8x256, .f32⟩
  | .hbm, ⟨47, _⟩ => ⟨S8x256, .f32⟩
  | .hbm, ⟨48, _⟩ => ⟨S8x256, .f32⟩
  | .hbm, ⟨49, _⟩ => ⟨S8x1, .f32⟩
  | .hbm, ⟨50, _⟩ => ⟨S_, .i32⟩
  | .hbm, ⟨51, _⟩ => ⟨S256, .i32⟩
  | .hbm, ⟨52, _⟩ => ⟨S256, .i32⟩
  | .hbm, ⟨53, _⟩ => ⟨S256, .f32⟩
  | .hbm, ⟨54, _⟩ => ⟨S1x256, .f32⟩
  | .hbm, ⟨55, _⟩ => ⟨S8x256, .f32⟩
  | .hbm, ⟨56, _⟩ => ⟨S8x256, .f32⟩
  | .hbm, ⟨57, _⟩ => ⟨S8x256, .f32⟩
  | .hbm, ⟨58, _⟩ => ⟨S8x256, .f32⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S8, .f32⟩
  | .hbm, ⟨63, _⟩ => ⟨S8x256x1, .f32⟩
  | .hbm, ⟨64, _⟩ => ⟨S8x256x256, .f32⟩
  | .hbm, ⟨65, _⟩ => ⟨S8x256x1, .f32⟩
  | .hbm, ⟨66, _⟩ => ⟨S8x256x256, .f32⟩
  | .hbm, ⟨67, _⟩ => ⟨S8x1x1, .f32⟩
  | .hbm, ⟨68, _⟩ => ⟨S8x1x256, .f32⟩
  | .hbm, ⟨69, _⟩ => ⟨S8x128x1, .f32⟩
  | .hbm, ⟨70, _⟩ => ⟨S8x128x256, .f32⟩
  | .hbm, ⟨71, _⟩ => ⟨S16384x2048, .bf16⟩
  | .hbm, ⟨72, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S8x256x256, .f32⟩
  | .local _ .vmem, ⟨9, _⟩ => ⟨S8x256x256, .f32⟩
  | .local _ .vmem, ⟨10, _⟩ => ⟨S8x256x256, .f32⟩
  | .local _ .vmem, ⟨11, _⟩ => ⟨S8x1x256, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S8x128x128, .f32⟩
  | .local _ .vmem, ⟨17, _⟩ => ⟨S8x128x256, .f32⟩
  | .local _ .vmem, ⟨18, _⟩ => ⟨S512x2048, .bf16⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | .local _ .vmem, ⟨22, _⟩ => ⟨S8x256x256, .f32⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v26 : Ref sig .tc := ⟨.hbm, 38, rfl⟩
abbrev main_v27 : Ref sig .tc := ⟨.hbm, 39, rfl⟩
abbrev main_c : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56_0 : Ref sig .tc := ⟨.hbm, 71, rfl⟩
abbrev main_v56_1 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c5_i32 : BitVec 32 := 5#32
  let c0_i32 : BitVec 32 := 0#32
  ![v1.toNat, c5_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "gelu_ca" => some ((80338380498831 / 2251799813685248 : ℝ) : EReal)
  | _ => none
-- ==== ReferenceIdeal.lean ====
abbrev S16384x12288 : Shape := ⟨2, ![16384, 12288]⟩
abbrev S8x128x128 : Shape := ⟨3, ![8, 128, 128]⟩
abbrev S8x128 : Shape := ⟨2, ![8, 128]⟩
abbrev S16384x2048 : Shape := ⟨2, ![16384, 2048]⟩
abbrev S4x4096x8x256 : Shape := ⟨4, ![4, 4096, 8, 256]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x1 : Shape := ⟨2, ![8, 1]⟩
abbrev S1x8x128x1 : Shape := ⟨4, ![1, 8, 128, 1]⟩
abbrev S1x8x1x1 : Shape := ⟨4, ![1, 8, 1, 1]⟩
abbrev S4x32x128x8x256 : Shape := ⟨5, ![4, 32, 128, 8, 256]⟩
abbrev S32x4x8x128x256 : Shape := ⟨5, ![32, 4, 8, 128, 256]⟩
abbrev S4x8x256x256 : Shape := ⟨4, ![4, 8, 256, 256]⟩
abbrev S1x4x8x128x256 : Shape := ⟨5, ![1, 4, 8, 128, 256]⟩
abbrev S4x8x128x256 : Shape := ⟨4, ![4, 8, 128, 256]⟩
abbrev S4x8x128x128 : Shape := ⟨4, ![4, 8, 128, 128]⟩
abbrev S1x8x128x128 : Shape := ⟨4, ![1, 8, 128, 128]⟩
abbrev S4x4096x8 : Shape := ⟨3, ![4, 4096, 8]⟩
abbrev S4x4096x8x1 : Shape := ⟨4, ![4, 4096, 8, 1]⟩
abbrev S8x4x32x256x128 : Shape := ⟨5, ![8, 4, 32, 256, 128]⟩
abbrev S128x8 : Shape := ⟨2, ![128, 8]⟩
abbrev S1x1x128x8x1 : Shape := ⟨5, ![1, 1, 128, 8, 1]⟩

abbrev nBuf : Space → Nat
  | .hbm => 204
  | .vmem => 0
  | .smem => 0
  | _ => 0

abbrev hbmTy0_0 (i : Nat) : BufTy := match i % 128 with
  | 0 => ⟨S16384x12288, .bf16⟩
  | 1 => ⟨S8x128x128, .f32⟩
  | 2 => ⟨S8x128, .f32⟩
  | 3 => ⟨S16384x2048, .bf16⟩
  | 4 => ⟨S16384x2048, .f32⟩
  | 5 => ⟨S16384x2048, .bf16⟩
  | 6 => ⟨S16384x2048, .f32⟩
  | 7 => ⟨S16384x2048, .bf16⟩
  | 8 => ⟨S16384x2048, .f32⟩
  | 9 => ⟨S4x4096x8x256, .f32⟩
  | 10 => ⟨S4x4096x8x256, .f32⟩
  | 11 => ⟨S4x4096x8x256, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S8, .f32⟩
  | 23 => ⟨S128, .i32⟩
  | 24 => ⟨S128x1, .i32⟩
  | 25 => ⟨S1x128, .i32⟩
  | 26 => ⟨S128x128, .i32⟩
  | 27 => ⟨S128x128, .i32⟩
  | 28 => ⟨S128x128, .i32⟩
  | 29 => ⟨S128x128, .f32⟩
  | 30 => ⟨S1x128x128, .f32⟩
  | 31 => ⟨S_, .f32⟩
  | 32 => ⟨S1x128x128, .f32⟩
  | 33 => ⟨S1x128x128, .i1⟩
  | 34 => ⟨S8x1x1, .f32⟩
  | 35 => ⟨S_, .f32⟩
  | 36 => ⟨S128x128, .f32⟩
  | 37 => ⟨S128x128, .f32⟩
  | 38 => ⟨S1x128x128, .f32⟩
  | 39 => ⟨S8x128x128, .f32⟩
  | 40 => ⟨S8x128x128, .f32⟩
  | 41 => ⟨S8x128x128, .f32⟩
  | 42 => ⟨S8x128x128, .f32⟩
  | 43 => ⟨S_, .f32⟩
  | 44 => ⟨S_, .f32⟩
  | 45 => ⟨S8x128x128, .i1⟩
  | 46 => ⟨S8x128x128, .f32⟩
  | 47 => ⟨S8x128x128, .f32⟩
  | 48 => ⟨S8x1, .f32⟩
  | 49 => ⟨S_, .i32⟩
  | 50 => ⟨S128, .i32⟩
  | 51 => ⟨S128, .i32⟩
  | 52 => ⟨S128, .f32⟩
  | 53 => ⟨S1x128, .f32⟩
  | 54 => ⟨S8x128, .f32⟩
  | 55 => ⟨S8x128, .f32⟩
  | 56 => ⟨S8x128, .f32⟩
  | 57 => ⟨S8x128, .f32⟩
  | 58 => ⟨S1x8x128x1, .f32⟩
  | 59 => ⟨S8x1, .f32⟩
  | 60 => ⟨S_, .i32⟩
  | 61 => ⟨S128, .i32⟩
  | 62 => ⟨S128, .i32⟩
  | 63 => ⟨S128, .f32⟩
  | 64 => ⟨S1x128, .f32⟩
  | 65 => ⟨S8x128, .f32⟩
  | 66 => ⟨S8x128, .f32⟩
  | 67 => ⟨S8x128, .f32⟩
  | 68 => ⟨S8x128, .f32⟩
  | 69 => ⟨S1x8x128x1, .f32⟩
  | 70 => ⟨S_, .f32⟩
  | 71 => ⟨S8, .f32⟩
  | 72 => ⟨S8, .f32⟩
  | 73 => ⟨S8, .f32⟩
  | 74 => ⟨S1x8x1x1, .f32⟩
  | 75 => ⟨S4x32x128x8x256, .f32⟩
  | 76 => ⟨S32x4x8x128x256, .f32⟩
  | 77 => ⟨S4x32x128x8x256, .f32⟩
  | 78 => ⟨S32x4x8x128x256, .f32⟩
  | 79 => ⟨S4x32x128x8x256, .f32⟩
  | 80 => ⟨S32x4x8x128x256, .f32⟩
  | 81 => ⟨S_, .f32⟩
  | 82 => ⟨S4x8x256x256, .f32⟩
  | 83 => ⟨S_, .f32⟩
  | 84 => ⟨S32x4x8x128x256, .f32⟩
  | 85 => ⟨S_, .i32⟩
  | 86 => ⟨S32x4x8x128x256, .f32⟩
  | 87 => ⟨S32x4x8x128x256, .f32⟩
  | 88 => ⟨S32x4x8x128x256, .f32⟩
  | 89 => ⟨S8x128x128, .f32⟩
  | 90 => ⟨S1x8x128x1, .f32⟩
  | 91 => ⟨S1x8x1x1, .f32⟩
  | 92 => ⟨S1x8x128x1, .f32⟩
  | 93 => ⟨S_, .i32⟩
  | 94 => ⟨S4x8x256x256, .f32⟩
  | 95 => ⟨S32x4x8x128x256, .f32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S1x4x8x128x256, .f32⟩
  | 103 => ⟨S4x8x128x256, .f32⟩
  | 104 => ⟨S_, .i32⟩
  | 105 => ⟨S_, .i32⟩
  | 106 => ⟨S_, .i32⟩
  | 107 => ⟨S_, .i32⟩
  | 108 => ⟨S1x4x8x128x256, .f32⟩
  | 109 => ⟨S4x8x128x256, .f32⟩
  | 110 => ⟨S_, .i32⟩
  | 111 => ⟨S_, .i32⟩
  | 112 => ⟨S_, .i32⟩
  | 113 => ⟨S_, .i32⟩
  | 114 => ⟨S1x4x8x128x256, .f32⟩
  | 115 => ⟨S4x8x128x256, .f32⟩
  | 116 => ⟨S4x8x128x128, .f32⟩
  | 117 => ⟨S1x8x128x128, .f32⟩
  | 118 => ⟨S4x8x128x128, .f32⟩
  | 119 => ⟨S4x8x128x128, .f32⟩
  | 120 => ⟨S4x8x128x256, .f32⟩
  | 121 => ⟨S4x8x128x256, .f32⟩
  | 122 => ⟨S4x8x128x256, .f32⟩
  | 123 => ⟨S4x8x128x256, .f32⟩
  | 124 => ⟨S4x8x256x256, .f32⟩
  | 125 => ⟨S4x8x256x256, .f32⟩
  | 126 => ⟨S4x8x128x256, .f32⟩
  | 127 => ⟨S4x8x128x256, .f32⟩
  | _ => ⟨S16384x12288, .bf16⟩

abbrev hbmTy0_1 (i : Nat) : BufTy := match i % 128 with
  | 0 => ⟨S4x8x256x256, .f32⟩
  | 1 => ⟨S4x8x256x256, .f32⟩
  | 2 => ⟨S4x8x128x256, .f32⟩
  | 3 => ⟨S1x4x8x128x256, .f32⟩
  | 4 => ⟨S_, .i32⟩
  | 5 => ⟨S_, .i32⟩
  | 6 => ⟨S_, .i32⟩
  | 7 => ⟨S_, .i32⟩
  | 8 => ⟨S32x4x8x128x256, .f32⟩
  | 9 => ⟨S_, .i32⟩
  | 10 => ⟨S_, .i32⟩
  | 11 => ⟨S4x32x128x8x256, .f32⟩
  | 12 => ⟨S4x4096x8x256, .f32⟩
  | 13 => ⟨S4x4096x8x256, .f32⟩
  | 14 => ⟨S_, .f32⟩
  | 15 => ⟨S4x4096x8, .f32⟩
  | 16 => ⟨S4x4096x8x1, .f32⟩
  | 17 => ⟨S_, .f32⟩
  | 18 => ⟨S4x4096x8x1, .f32⟩
  | 19 => ⟨S4x4096x8x1, .f32⟩
  | 20 => ⟨S_, .f32⟩
  | 21 => ⟨S4x4096x8x1, .f32⟩
  | 22 => ⟨S4x4096x8x1, .f32⟩
  | 23 => ⟨S4x4096x8x1, .f32⟩
  | 24 => ⟨S4x4096x8x256, .f32⟩
  | 25 => ⟨S4x4096x8x256, .f32⟩
  | 26 => ⟨S16384x2048, .bf16⟩
  | 27 => ⟨S16384x2048, .f32⟩
  | 28 => ⟨S16384x2048, .bf16⟩
  | 29 => ⟨S16384x2048, .f32⟩
  | 30 => ⟨S16384x2048, .bf16⟩
  | 31 => ⟨S16384x2048, .f32⟩
  | 32 => ⟨S16384x2048, .f32⟩
  | 33 => ⟨S16384x2048, .f32⟩
  | 34 => ⟨S4x32x128x8x256, .f32⟩
  | 35 => ⟨S_, .f32⟩
  | 36 => ⟨S128x128, .f32⟩
  | 37 => ⟨S128x128, .i32⟩
  | 38 => ⟨S_, .i32⟩
  | 39 => ⟨S128x128, .i32⟩
  | 40 => ⟨S128x128, .i32⟩
  | 41 => ⟨S128x128, .i32⟩
  | 42 => ⟨S128x128, .i1⟩
  | 43 => ⟨S_, .f32⟩
  | 44 => ⟨S128x128, .f32⟩
  | 45 => ⟨S128x128, .f32⟩
  | 46 => ⟨S1x128x128, .f32⟩
  | 47 => ⟨S8x128x128, .f32⟩
  | 48 => ⟨S8x128x128, .f32⟩
  | 49 => ⟨S8x4x32x256x128, .f32⟩
  | 50 => ⟨S4x32x128x8x256, .f32⟩
  | 51 => ⟨S128x8, .f32⟩
  | 52 => ⟨S1x1x128x8x1, .f32⟩
  | 53 => ⟨S4x32x128x8x256, .f32⟩
  | 54 => ⟨S4x32x128x8x256, .f32⟩
  | 55 => ⟨S16384x2048, .f32⟩
  | 56 => ⟨S16384x2048, .f32⟩
  | 57 => ⟨S_, .f32⟩
  | 58 => ⟨S16384x2048, .f32⟩
  | 59 => ⟨S16384x2048, .f32⟩
  | 60 => ⟨S16384x2048, .f32⟩
  | 61 => ⟨S_, .f32⟩
  | 62 => ⟨S16384x2048, .f32⟩
  | 63 => ⟨S16384x2048, .f32⟩
  | 64 => ⟨S16384x2048, .f32⟩
  | 65 => ⟨S_, .f32⟩
  | 66 => ⟨S16384x2048, .f32⟩
  | 67 => ⟨S16384x2048, .f32⟩
  | 68 => ⟨S_, .f32⟩
  | 69 => ⟨S16384x2048, .f32⟩
  | 70 => ⟨S16384x2048, .f32⟩
  | 71 => ⟨S16384x2048, .f32⟩
  | 72 => ⟨S16384x2048, .f32⟩
  | 73 => ⟨S16384x2048, .f32⟩
  | 74 => ⟨S16384x2048, .bf16⟩
  | 75 => ⟨S16384x2048, .bf16⟩
  | _ => ⟨S16384x12288, .bf16⟩

abbrev hbmTy (i : Nat) : BufTy := match i / 128 with
  | 0 => hbmTy0_0 i
  | 1 => hbmTy0_1 i
  | _ => ⟨S16384x12288, .bf16⟩

abbrev bufTy : (tb : Table) → Fin (tcTables nBuf tb) → BufTy
  | .hbm, ⟨i, _⟩ => hbmTy i
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v35 : Ref sig .tc := ⟨.hbm, 47, rfl⟩
abbrev main_v36 : Ref sig .tc := ⟨.hbm, 48, rfl⟩
abbrev main_c : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_5 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_7 : Ref sig .tc := ⟨.hbm, 81, rfl⟩
abbrev main_v66 : Ref sig .tc := ⟨.hbm, 82, rfl⟩
abbrev main_cst_8 : Ref sig .tc := ⟨.hbm, 83, rfl⟩
abbrev main_v67 : Ref sig .tc := ⟨.hbm, 84, rfl⟩
abbrev main_c_9 : Ref sig .tc := ⟨.hbm, 85, rfl⟩
abbrev main_v68_0 : Ref sig .tc := ⟨.hbm, 86, rfl⟩
abbrev main_v68_1 : Ref sig .tc := ⟨.hbm, 87, rfl⟩
abbrev main_v68_2 : Ref sig .tc := ⟨.hbm, 88, rfl⟩
abbrev main_v68_3 : Ref sig .tc := ⟨.hbm, 89, rfl⟩
abbrev main_v68_4 : Ref sig .tc := ⟨.hbm, 90, rfl⟩
abbrev main_v68_5 : Ref sig .tc := ⟨.hbm, 91, rfl⟩
abbrev main_v68_6 : Ref sig .tc := ⟨.hbm, 92, rfl⟩
abbrev main_v68_7 : Ref sig .tc := ⟨.hbm, 93, rfl⟩
abbrev main_v68_8 : Ref sig .tc := ⟨.hbm, 94, rfl⟩
abbrev main_v68_9 : Ref sig .tc := ⟨.hbm, 95, rfl⟩
abbrev main_while0c_c_27 : Ref sig .tc := ⟨.hbm, 96, rfl⟩
abbrev main_while0c_v118 : Ref sig .tc := ⟨.hbm, 97, rfl⟩
abbrev main_while0b_call1_c : Ref sig .tc := ⟨.hbm, 98, rfl⟩
abbrev main_while0b_call1_c_0 : Ref sig .tc := ⟨.hbm, 99, rfl⟩
abbrev main_while0b_call1_c_1 : Ref sig .tc := ⟨.hbm, 100, rfl⟩
abbrev main_while0b_call1_c_2 : Ref sig .tc := ⟨.hbm, 101, rfl⟩
abbrev main_while0b_call1_v0 : Ref sig .tc := ⟨.hbm, 102, rfl⟩
abbrev main_while0b_v118 : Ref sig .tc := ⟨.hbm, 103, rfl⟩
abbrev main_while0b_call2_c : Ref sig .tc := ⟨.hbm, 104, rfl⟩
abbrev main_while0b_call2_c_0 : Ref sig .tc := ⟨.hbm, 105, rfl⟩
abbrev main_while0b_call2_c_1 : Ref sig .tc := ⟨.hbm, 106, rfl⟩
abbrev main_while0b_call2_c_2 : Ref sig .tc := ⟨.hbm, 107, rfl⟩
abbrev main_while0b_call2_v0 : Ref sig .tc := ⟨.hbm, 108, rfl⟩
abbrev main_while0b_v119 : Ref sig .tc := ⟨.hbm, 109, rfl⟩
abbrev main_while0b_call3_c : Ref sig .tc := ⟨.hbm, 110, rfl⟩
abbrev main_while0b_call3_c_0 : Ref sig .tc := ⟨.hbm, 111, rfl⟩
abbrev main_while0b_call3_c_1 : Ref sig .tc := ⟨.hbm, 112, rfl⟩
abbrev main_while0b_call3_c_2 : Ref sig .tc := ⟨.hbm, 113, rfl⟩
abbrev main_while0b_call3_v0 : Ref sig .tc := ⟨.hbm, 114, rfl⟩
abbrev main_while0b_v120 : Ref sig .tc := ⟨.hbm, 115, rfl⟩
abbrev main_while0b_v121 : Ref sig .tc := ⟨.hbm, 116, rfl⟩
abbrev main_while0b_v122 : Ref sig .tc := ⟨.hbm, 117, rfl⟩
abbrev main_while0b_v123 : Ref sig .tc := ⟨.hbm, 118, rfl⟩
abbrev main_while0b_v124 : Ref sig .tc := ⟨.hbm, 119, rfl⟩
abbrev main_while0b_v125 : Ref sig .tc := ⟨.hbm, 120, rfl⟩
abbrev main_while0b_v126 : Ref sig .tc := ⟨.hbm, 121, rfl⟩
abbrev main_while0b_v127 : Ref sig .tc := ⟨.hbm, 122, rfl⟩
abbrev main_while0b_v128 : Ref sig .tc := ⟨.hbm, 123, rfl⟩
abbrev main_while0b_v129 : Ref sig .tc := ⟨.hbm, 124, rfl⟩
abbrev main_while0b_v130 : Ref sig .tc := ⟨.hbm, 125, rfl⟩
abbrev main_while0b_v131 : Ref sig .tc := ⟨.hbm, 126, rfl⟩
abbrev main_while0b_v132 : Ref sig .tc := ⟨.hbm, 127, rfl⟩
abbrev main_while0b_v133 : Ref sig .tc := ⟨.hbm, 128, rfl⟩
abbrev main_while0b_v134 : Ref sig .tc := ⟨.hbm, 129, rfl⟩
abbrev main_while0b_v135 : Ref sig .tc := ⟨.hbm, 130, rfl⟩
abbrev main_while0b_call4_v0 : Ref sig .tc := ⟨.hbm, 131, rfl⟩
abbrev main_while0b_call4_c : Ref sig .tc := ⟨.hbm, 132, rfl⟩
abbrev main_while0b_call4_c_0 : Ref sig .tc := ⟨.hbm, 133, rfl⟩
abbrev main_while0b_call4_c_1 : Ref sig .tc := ⟨.hbm, 134, rfl⟩
abbrev main_while0b_call4_c_2 : Ref sig .tc := ⟨.hbm, 135, rfl⟩
abbrev main_while0b_v136 : Ref sig .tc := ⟨.hbm, 136, rfl⟩
abbrev main_while0b_c_27 : Ref sig .tc := ⟨.hbm, 137, rfl⟩
abbrev main_while0b_v137 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_cst_10 : Ref sig .tc := ⟨.hbm, 142, rfl⟩
abbrev main_v72 : Ref sig .tc := ⟨.hbm, 143, rfl⟩
abbrev main_v73 : Ref sig .tc := ⟨.hbm, 144, rfl⟩
abbrev main_cst_11 : Ref sig .tc := ⟨.hbm, 145, rfl⟩
abbrev main_v74 : Ref sig .tc := ⟨.hbm, 146, rfl⟩
abbrev main_v75 : Ref sig .tc := ⟨.hbm, 147, rfl⟩
abbrev main_cst_12 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_cst_13 : Ref sig .tc := ⟨.hbm, 163, rfl⟩
abbrev main_v90 : Ref sig .tc := ⟨.hbm, 164, rfl⟩
abbrev main_call5_v0 : Ref sig .tc := ⟨.hbm, 165, rfl⟩
abbrev main_call5_c : Ref sig .tc := ⟨.hbm, 166, rfl⟩
abbrev main_call5_v1 : Ref sig .tc := ⟨.hbm, 167, rfl⟩
abbrev main_call5_v2 : Ref sig .tc := ⟨.hbm, 168, rfl⟩
abbrev main_call5_v3 : Ref sig .tc := ⟨.hbm, 169, rfl⟩
abbrev main_call5_v4 : Ref sig .tc := ⟨.hbm, 170, rfl⟩
abbrev main_call5_cst : Ref sig .tc := ⟨.hbm, 171, rfl⟩
abbrev main_call5_v5 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_cst_14 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_cst_15 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_cst_16 : Ref sig .tc := ⟨.hbm, 193, rfl⟩
abbrev main_v109 : Ref sig .tc := ⟨.hbm, 194, rfl⟩
abbrev main_v110 : Ref sig .tc := ⟨.hbm, 195, rfl⟩
abbrev main_cst_17 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16384x4096 : Shape := ⟨2, ![16384, 4096]⟩
abbrev S4096x11008 : Shape := ⟨2, ![4096, 11008]⟩
abbrev S11008x4096 : Shape := ⟨2, ![11008, 4096]⟩
abbrev S4096x12288 : Shape := ⟨2, ![4096, 12288]⟩
abbrev S4096x4096 : Shape := ⟨2, ![4096, 4096]⟩
abbrev S16384x11008 : Shape := ⟨2, ![16384, 11008]⟩
abbrev S2048x4096 : Shape := ⟨2, ![2048, 4096]⟩
abbrev S4096x256 : Shape := ⟨2, ![4096, 256]⟩
abbrev S32x4096 : Shape := ⟨2, ![32, 4096]⟩
abbrev S16x12288 : Shape := ⟨2, ![16, 12288]⟩
abbrev S16x4096 : Shape := ⟨2, ![16, 4096]⟩
abbrev S16x11008 : Shape := ⟨2, ![16, 11008]⟩
abbrev S2048x256 : Shape := ⟨2, ![2048, 256]⟩

abbrev nBuf : Space → Nat
  | .hbm => 14
  | .vmem => 27
  | .smem => 0
  | _ => 0

abbrev bufTy : (tb : Table) → Fin (tcTables nBuf tb) → BufTy
  | .hbm, ⟨0, _⟩ => ⟨S16384x4096, .bf16⟩
  | .hbm, ⟨1, _⟩ => ⟨S4096x11008, .f32⟩
  | .hbm, ⟨2, _⟩ => ⟨S4096x11008, .f32⟩
  | .hbm, ⟨3, _⟩ => ⟨S11008x4096, .f32⟩
  | .hbm, ⟨4, _⟩ => ⟨S4096x12288, .f32⟩
  | .hbm, ⟨5, _⟩ => ⟨S4096x4096, .f32⟩
  | .hbm, ⟨6, _⟩ => ⟨S4096x11008, .f32⟩
  | .hbm, ⟨7, _⟩ => ⟨S4096x11008, .f32⟩
  | .hbm, ⟨8, _⟩ => ⟨S16384x11008, .bf16⟩
  | .hbm, ⟨9, _⟩ => ⟨S11008x4096, .bf16⟩
  | .hbm, ⟨10, _⟩ => ⟨S4096x12288, .bf16⟩
  | .hbm, ⟨11, _⟩ => ⟨S4096x4096, .bf16⟩
  | .hbm, ⟨12, _⟩ => ⟨S4096x11008, .bf16⟩
  | .hbm, ⟨13, _⟩ => ⟨S4096x11008, .bf16⟩
  | .local _ .vmem, ⟨0, _⟩ => ⟨S2048x4096, .bf16⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S32x4096, .f32⟩
  | .local _ .vmem, ⟨6, _⟩ => ⟨S32x4096, .f32⟩
  | .local _ .vmem, ⟨7, _⟩ => ⟨S16x12288, .f32⟩
  | .local _ .vmem, ⟨8, _⟩ => ⟨S16x12288, .f32⟩
  | .local _ .vmem, ⟨9, _⟩ => ⟨S16x4096, .f32⟩
  | .local _ .vmem, ⟨10, _⟩ => ⟨S16x4096, .f32⟩
  | .local _ .vmem, ⟨11, _⟩ => ⟨S16x11008, .f32⟩
  | .local _ .vmem, ⟨12, _⟩ => ⟨S16x11008, .f32⟩
  | .local _ .vmem, ⟨13, _⟩ => ⟨S16x11008, .f32⟩
  | .local _ .vmem, ⟨14, _⟩ => ⟨S16x11008, .f32⟩
  | .local _ .vmem, ⟨15, _⟩ => ⟨S2048x256, .bf16⟩
  | .local _ .vmem, ⟨16, _⟩ => ⟨S2048x256, .bf16⟩
  | .local _ .vmem, ⟨17, _⟩ => ⟨S32x4096, .bf16⟩
  | .local _ .vmem, ⟨18, _⟩ => ⟨S32x4096, .bf16⟩
  | .local _ .vmem, ⟨19, _⟩ => ⟨S16x12288, .bf16⟩
  | .local _ .vmem, ⟨20, _⟩ => ⟨S16x12288, .bf16⟩
  | .local _ .vmem, ⟨21, _⟩ => ⟨S16x4096, .bf16⟩
  | .local _ .vmem, ⟨22, _⟩ => ⟨S16x4096, .bf16⟩
  | .local _ .vmem, ⟨23, _⟩ => ⟨S16x11008, .bf16⟩
  | .local _ .vmem, ⟨24, _⟩ => ⟨S16x11008, .bf16⟩
  | .local _ .vmem, ⟨25, _⟩ => ⟨S16x11008, .bf16⟩
  | .local _ .vmem, ⟨26, _⟩ => ⟨S16x11008, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c42_i32 : BitVec 32 := 42#32
  let v2 : BitVec 32 := Scalar.minsi v1 c42_i32
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c42_i32 : BitVec 32 := 42#32
  let v2 : BitVec 32 := Scalar.minsi v1 c42_i32
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x12288 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x11008 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x11008 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x12288 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x11008 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x11008 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S16384x4096 : Shape := ⟨2, ![16384, 4096]⟩
abbrev S4096x11008 : Shape := ⟨2, ![4096, 11008]⟩
abbrev S11008x4096 : Shape := ⟨2, ![11008, 4096]⟩
abbrev S4096x12288 : Shape := ⟨2, ![4096, 12288]⟩
abbrev S4096x4096 : Shape := ⟨2, ![4096, 4096]⟩
abbrev S16384x11008 : Shape := ⟨2, ![16384, 11008]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x11008, .f32⟩
  | .hbm, ⟨2, _⟩ => ⟨S4096x11008, .f32⟩
  | .hbm, ⟨3, _⟩ => ⟨S11008x4096, .f32⟩
  | .hbm, ⟨4, _⟩ => ⟨S4096x12288, .f32⟩
  | .hbm, ⟨5, _⟩ => ⟨S4096x4096, .f32⟩
  | .hbm, ⟨6, _⟩ => ⟨S4096x11008, .f32⟩
  | .hbm, ⟨7, _⟩ => ⟨S4096x11008, .f32⟩
  | .hbm, ⟨8, _⟩ => ⟨S16384x4096, .f32⟩
  | .hbm, ⟨9, _⟩ => ⟨S16384x11008, .f32⟩
  | .hbm, ⟨10, _⟩ => ⟨S16384x11008, .f32⟩
  | .hbm, ⟨11, _⟩ => ⟨S16384x11008, .f32⟩
  | .hbm, ⟨12, _⟩ => ⟨S_, .f32⟩
  | .hbm, ⟨13, _⟩ => ⟨S16384x11008, .f32⟩
  | .hbm, ⟨14, _⟩ => ⟨S16384x11008, .f32⟩
  | .hbm, ⟨15, _⟩ => ⟨S_, .f32⟩
  | .hbm, ⟨16, _⟩ => ⟨S16384x11008, .f32⟩
  | .hbm, ⟨17, _⟩ => ⟨S16384x11008, .f32⟩
  | .hbm, ⟨18, _⟩ => ⟨S16384x11008, .f32⟩
  | .hbm, ⟨19, _⟩ => ⟨S16384x11008, .f32⟩
  | .hbm, ⟨20, _⟩ => ⟨S16384x11008, .f32⟩
  | .hbm, ⟨21, _⟩ => ⟨S16384x11008, .bf16⟩
  | .hbm, ⟨22, _⟩ => ⟨S11008x4096, .bf16⟩
  | .hbm, ⟨23, _⟩ => ⟨S4096x12288, .bf16⟩
  | .hbm, ⟨24, _⟩ => ⟨S4096x4096, .bf16⟩
  | .hbm, ⟨25, _⟩ => ⟨S4096x11008, .bf16⟩
  | .hbm, ⟨26, _⟩ => ⟨S4096x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩

abbrev nD : Nat := 1
abbrev τ : Topo := Topo.v7x

variable {F : FTy → Type} [FloatOps F]
-- ==== Kernel3.lean ====
abbrev S16384x11008 : Shape := ⟨2, ![16384, 11008]⟩
abbrev S11008x4096 : Shape := ⟨2, ![11008, 4096]⟩
abbrev S4x4096x4096 : Shape := ⟨3, ![4, 4096, 4096]⟩
abbrev S4x36864 : Shape := ⟨2, ![4, 36864]⟩
abbrev S16384x4096 : Shape := ⟨2, ![16384, 4096]⟩
abbrev S4x1x36864 : Shape := ⟨3, ![4, 1, 36864]⟩
abbrev S512x11008 : Shape := ⟨2, ![512, 11008]⟩
abbrev S11008x512 : Shape := ⟨2, ![11008, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 8
  | .vmem => 12
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .bf16⟩
  | .hbm, ⟨2, _⟩ => ⟨S4x4096x4096, .f32⟩
  | .hbm, ⟨3, _⟩ => ⟨S4x36864, .f32⟩
  | .hbm, ⟨4, _⟩ => ⟨S16384x4096, .f32⟩
  | .hbm, ⟨5, _⟩ => ⟨S4x1x36864, .f32⟩
  | .hbm, ⟨6, _⟩ => ⟨S16384x4096, .f32⟩
  | .hbm, ⟨7, _⟩ => ⟨S16384x4096, .bf16⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.addi c16_i32 arg0
  let c0_i32_4 : BitVec 32 := 0#32
  let c0_i32_5 : BitVec 32 := 0#32
  ![v17.toNat, c0_i32_4.toNat, v18.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S16384x11008 : Shape := ⟨2, ![16384, 11008]⟩
abbrev S11008x4096 : Shape := ⟨2, ![11008, 4096]⟩
abbrev S4x4096x4096 : Shape := ⟨3, ![4, 4096, 4096]⟩
abbrev S4x36864 : Shape := ⟨2, ![4, 36864]⟩
abbrev S4x4096 : Shape := ⟨2, ![4, 4096]⟩
abbrev S16384x4096 : Shape := ⟨2, ![16384, 4096]⟩
abbrev S4x1x4096 : Shape := ⟨3, ![4, 1, 4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .bf16⟩
  | .hbm, ⟨2, _⟩ => ⟨S4x4096x4096, .f32⟩
  | .hbm, ⟨3, _⟩ => ⟨S4x36864, .f32⟩
  | .hbm, ⟨4, _⟩ => ⟨S4x4096, .f32⟩
  | .hbm, ⟨5, _⟩ => ⟨S4x4096, .f32⟩
  | .hbm, ⟨6, _⟩ => ⟨S4x4096, .f32⟩
  | .hbm, ⟨7, _⟩ => ⟨S4x4096, .f32⟩
  | .hbm, ⟨8, _⟩ => ⟨S4x4096, .f32⟩
  | .hbm, ⟨9, _⟩ => ⟨S4x4096, .f32⟩
  | .hbm, ⟨10, _⟩ => ⟨S4x4096, .f32⟩
  | .hbm, ⟨11, _⟩ => ⟨S4x4096, .f32⟩
  | .hbm, ⟨12, _⟩ => ⟨S4x4096, .f32⟩
  | .hbm, ⟨13, _⟩ => ⟨S16384x11008, .f32⟩
  | .hbm, ⟨14, _⟩ => ⟨S11008x4096, .f32⟩
  | .hbm, ⟨15, _⟩ => ⟨S16384x4096, .f32⟩
  | .hbm, ⟨16, _⟩ => ⟨S4x4096x4096, .f32⟩
  | .hbm, ⟨17, _⟩ => ⟨S4x1x4096, .f32⟩
  | .hbm, ⟨18, _⟩ => ⟨S_, .f32⟩
  | .hbm, ⟨19, _⟩ => ⟨S4x1x4096, .f32⟩
  | .hbm, ⟨20, _⟩ => ⟨S4x1x4096, .f32⟩
  | .hbm, ⟨21, _⟩ => ⟨S4x4096x4096, .f32⟩
  | .hbm, ⟨22, _⟩ => ⟨S4x4096x4096, .f32⟩
  | .hbm, ⟨23, _⟩ => ⟨S4x4096x4096, .f32⟩
  | .hbm, ⟨24, _⟩ => ⟨S16384x4096, .f32⟩
  | .hbm, ⟨25, _⟩ => ⟨S16384x4096, .bf16⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Kernel4.lean ====
abbrev S16384x2048 : Shape := ⟨2, ![16384, 2048]⟩
abbrev S4096x4096 : Shape := ⟨2, ![4096, 4096]⟩
abbrev S16384x4096 : Shape := ⟨2, ![16384, 4096]⟩
abbrev S4x36864 : Shape := ⟨2, ![4, 36864]⟩
abbrev S4x1x36864 : Shape := ⟨3, ![4, 1, 36864]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 8
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S16384x4096, .f32⟩
  | .hbm, ⟨4, _⟩ => ⟨S4x36864, .f32⟩
  | .hbm, ⟨5, _⟩ => ⟨S4x1x36864, .f32⟩
  | .hbm, ⟨6, _⟩ => ⟨S16384x4096, .f32⟩
  | .hbm, ⟨7, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c20_i32 : BitVec 32 := 20#32
  let v18 : BitVec 32 := Scalar.addi c20_i32 arg0
  let c0_i32_4 : BitVec 32 := 0#32
  let c0_i32_5 : BitVec 32 := 0#32
  ![v17.toNat, c0_i32_4.toNat, v18.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S16384x2048 : Shape := ⟨2, ![16384, 2048]⟩
abbrev S4096x4096 : Shape := ⟨2, ![4096, 4096]⟩
abbrev S16384x4096 : Shape := ⟨2, ![16384, 4096]⟩
abbrev S4x36864 : Shape := ⟨2, ![4, 36864]⟩
abbrev S4x4096 : Shape := ⟨2, ![4, 4096]⟩
abbrev S4x4096x4096 : Shape := ⟨3, ![4, 4096, 4096]⟩
abbrev S4x1x4096 : Shape := ⟨3, ![4, 1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S16384x4096, .f32⟩
  | .hbm, ⟨4, _⟩ => ⟨S4x36864, .f32⟩
  | .hbm, ⟨5, _⟩ => ⟨S4x4096, .f32⟩
  | .hbm, ⟨6, _⟩ => ⟨S4x4096, .f32⟩
  | .hbm, ⟨7, _⟩ => ⟨S4x4096, .f32⟩
  | .hbm, ⟨8, _⟩ => ⟨S4x4096, .f32⟩
  | .hbm, ⟨9, _⟩ => ⟨S4x4096, .f32⟩
  | .hbm, ⟨10, _⟩ => ⟨S4x4096, .f32⟩
  | .hbm, ⟨11, _⟩ => ⟨S4x4096, .f32⟩
  | .hbm, ⟨12, _⟩ => ⟨S4x4096, .f32⟩
  | .hbm, ⟨13, _⟩ => ⟨S4x4096, .f32⟩
  | .hbm, ⟨14, _⟩ => ⟨S16384x4096, .bf16⟩
  | .hbm, ⟨15, _⟩ => ⟨S16384x4096, .f32⟩
  | .hbm, ⟨16, _⟩ => ⟨S4096x4096, .f32⟩
  | .hbm, ⟨17, _⟩ => ⟨S16384x4096, .f32⟩
  | .hbm, ⟨18, _⟩ => ⟨S4x4096x4096, .f32⟩
  | .hbm, ⟨19, _⟩ => ⟨S4x4096x4096, .f32⟩
  | .hbm, ⟨20, _⟩ => ⟨S4x1x4096, .f32⟩
  | .hbm, ⟨21, _⟩ => ⟨S4x4096x4096, .f32⟩
  | .hbm, ⟨22, _⟩ => ⟨S4x4096x4096, .f32⟩
  | .hbm, ⟨23, _⟩ => ⟨S4x4096x4096, .f32⟩
  | .hbm, ⟨24, _⟩ => ⟨S16384x4096, .f32⟩
  | .hbm, ⟨25, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Kernel5.lean ====
abbrev S16384x4096 : Shape := ⟨2, ![16384, 4096]⟩
abbrev S4096x11008 : Shape := ⟨2, ![4096, 11008]⟩
abbrev S11008x4096 : Shape := ⟨2, ![11008, 4096]⟩
abbrev S16384x11264 : Shape := ⟨2, ![16384, 11264]⟩
abbrev S2048x4096 : Shape := ⟨2, ![2048, 4096]⟩
abbrev S4096x256 : Shape := ⟨2, ![4096, 256]⟩
abbrev S128x4096 : Shape := ⟨2, ![128, 4096]⟩
abbrev S2048x512 : Shape := ⟨2, ![2048, 512]⟩
abbrev S2048x256 : Shape := ⟨2, ![2048, 256]⟩

abbrev nBuf : Space → Nat
  | .hbm => 6
  | .vmem => 15
  | .smem => 0
  | _ => 0

abbrev bufTy : (tb : Table) → Fin (tcTables nBuf tb) → BufTy
  | .hbm, ⟨0, _⟩ => ⟨S16384x4096, .bf16⟩
  | .hbm, ⟨1, _⟩ => ⟨S4096x11008, .bf16⟩
  | .hbm, ⟨2, _⟩ => ⟨S4096x11008, .bf16⟩
  | .hbm, ⟨3, _⟩ => ⟨S11008x4096, .f32⟩
  | .hbm, ⟨4, _⟩ => ⟨S16384x11264, .bf16⟩
  | .hbm, ⟨5, _⟩ => ⟨S11008x4096, .bf16⟩
  | .local _ .vmem, ⟨0, _⟩ => ⟨S2048x4096, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S128x4096, .f32⟩
  | .local _ .vmem, ⟨10, _⟩ => ⟨S128x4096, .f32⟩
  | .local _ .vmem, ⟨11, _⟩ => ⟨S2048x512, .bf16⟩
  | .local _ .vmem, ⟨12, _⟩ => ⟨S2048x512, .bf16⟩
  | .local _ .vmem, ⟨13, _⟩ => ⟨S128x4096, .bf16⟩
  | .local _ .vmem, ⟨14, _⟩ => ⟨S128x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 22], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.addi v0 c2_i32_0
  let c1_i32 : BitVec 32 := 1#32
  let v2 : BitVec 32 := Scalar.subi v1 c1_i32
  let c42_i32 : BitVec 32 := 42#32
  let v3 : BitVec 1 := Scalar.cmpi .sle v2 c42_i32
  let v4 : BitVec 32 := Scalar.extui v3
  let c0_i32 : BitVec 32 := 0#32
  let v5 : BitVec 1 := Scalar.cmpi .ne v4 c0_i32
  v5

def k0_cond2 (i : grid0.Coords) : BitVec 1 :=
  let arg1 : BitVec 32 := BitVec.ofNat 32 (i 1).val
  let c2_i32 : BitVec 32 := 2#32
  let v0 : BitVec 32 := Scalar.muli arg1 c2_i32
  let c2_i32_1 : BitVec 32 := 2#32
  let v6 : BitVec 32 := Scalar.addi v0 c2_i32_1
  let c1_i32_2 : BitVec 32 := 1#32
  let v7 : BitVec 32 := Scalar.subi v6 c1_i32_2
  let c42_i32_3 : BitVec 32 := 42#32
  let v8 : BitVec 1 := Scalar.cmpi .sgt v7 c42_i32_3
  let v9 : BitVec 32 := Scalar.extui v8
  let c0_i32_4 : BitVec 32 := 0#32
  let v10 : BitVec 1 := Scalar.cmpi .ne v9 c0_i32_4
  v10

def k0_cond3 (i : grid0.Coords) : BitVec 1 :=
  let arg1 : BitVec 32 := BitVec.ofNat 32 (i 1).val
  let c2_i32 : BitVec 32 := 2#32
  let v0 : BitVec 32 := Scalar.muli arg1 c2_i32
  let c0_i32_8 : BitVec 32 := 0#32
  let v14 : BitVec 32 := Scalar.addi v0 c0_i32_8
  let c42_i32_9 : BitVec 32 := 42#32
  let v15 : BitVec 1 := Scalar.cmpi .sle v14 c42_i32_9
  let v16 : BitVec 32 := Scalar.extui v15
  let c0_i32_10 : BitVec 32 := 0#32
  let v17 : BitVec 1 := Scalar.cmpi .ne v16 c0_i32_10
  v17

def k0_cond4 (i : grid0.Coords) : BitVec 1 :=
  let arg1 : BitVec 32 := BitVec.ofNat 32 (i 1).val
  let c2_i32 : BitVec 32 := 2#32
  let v0 : BitVec 32 := Scalar.muli arg1 c2_i32
  let c0_i32_8 : BitVec 32 := 0#32
  let v14 : BitVec 32 := Scalar.addi v0 c0_i32_8
  let c42_i32_9 : BitVec 32 := 42#32
  let v15 : BitVec 1 := Scalar.cmpi .sle v14 c42_i32_9
  let v_true : BitVec 1 := 1#1
  let v18 : BitVec 1 := Scalar.xori v15 v_true
  let v19 : BitVec 32 := Scalar.extui v18
  let c0_i32_11 : BitVec 32 := 0#32
  let v20 : BitVec 1 := Scalar.cmpi .ne v19 c0_i32_11
  v20

def k0_cond5 (i : grid0.Coords) : BitVec 1 :=
  let arg1 : BitVec 32 := BitVec.ofNat 32 (i 1).val
  let c2_i32 : BitVec 32 := 2#32
  let v0 : BitVec 32 := Scalar.muli arg1 c2_i32
  let c1_i32_12 : BitVec 32 := 1#32
  let v21 : BitVec 32 := Scalar.addi v0 c1_i32_12
  let c42_i32_13 : BitVec 32 := 42#32
  let v22 : BitVec 1 := Scalar.cmpi .sle v21 c42_i32_13
  let v23 : BitVec 32 := Scalar.extui v22
  let c0_i32_14 : BitVec 32 := 0#32
  let v24 : BitVec 1 := Scalar.cmpi .ne v23 c0_i32_14
  v24

def k0_cond6 (i : grid0.Coords) : BitVec 1 :=
  let arg1 : BitVec 32 := BitVec.ofNat 32 (i 1).val
  let c2_i32 : BitVec 32 := 2#32
  let v0 : BitVec 32 := Scalar.muli arg1 c2_i32
  let c1_i32_12 : BitVec 32 := 1#32
  let v21 : BitVec 32 := Scalar.addi v0 c1_i32_12
  let c42_i32_13 : BitVec 32 := 42#32
  let v22 : BitVec 1 := Scalar.cmpi .sle v21 c42_i32_13
  let true_15 : BitVec 1 := 1#1
  let v25 : BitVec 1 := Scalar.xori v22 true_15
  let v26 : BitVec 32 := Scalar.extui v25
  let c0_i32_16 : BitVec 32 := 0#32
  let v27 : BitVec 1 := Scalar.cmpi .ne v26 c0_i32_16
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c42_i32 : BitVec 32 := 42#32
  let v2 : BitVec 32 := Scalar.minsi v1 c42_i32
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c42_i32 : BitVec 32 := 42#32
  let v2 : BitVec 32 := Scalar.minsi v1 c42_i32
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c0_i32 : BitVec 32 := 0#32
  let v1 : BitVec 32 := Scalar.addi v0 c0_i32
  let c42_i32 : BitVec 32 := 42#32
  let v2 : BitVec 32 := Scalar.minsi v1 c42_i32
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.addi v0 c1_i32
  let c42_i32 : BitVec 32 := 42#32
  let v2 : BitVec 32 := Scalar.minsi v1 c42_i32
  let c0_i32 : BitVec 32 := 0#32
  let c0_i32_0 : BitVec 32 := 0#32
  ![c0_i32.toNat, v2.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.muli arg0 c22_i32
  let v1 : BitVec 32 := Scalar.addi v0 arg1
  let c85_i32 : BitVec 32 := 85#32
  let v2 : BitVec 32 := Scalar.minsi v1 c85_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.muli arg0 c22_i32
  let v1 : BitVec 32 := Scalar.addi v0 arg1
  let c85_i32 : BitVec 32 := 85#32
  let v2 : BitVec 32 := Scalar.minsi v1 c85_i32
  let c0_i32 : BitVec 32 := 0#32
  let c0_i32_0 : BitVec 32 := 0#32
  ![v2.toNat, c0_i32.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S16384x4096 : Shape := ⟨2, ![16384, 4096]⟩
abbrev S4096x11008 : Shape := ⟨2, ![4096, 11008]⟩
abbrev S11008x4096 : Shape := ⟨2, ![11008, 4096]⟩
abbrev S16384x11008 : Shape := ⟨2, ![16384, 11008]⟩
abbrev S_ : Shape := ⟨0, ![]⟩
abbrev S16384x11264 : Shape := ⟨2, ![16384, 11264]⟩

abbrev nBuf : Space → Nat
  | .hbm => 24
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x11008, .bf16⟩
  | .hbm, ⟨2, _⟩ => ⟨S4096x11008, .bf16⟩
  | .hbm, ⟨3, _⟩ => ⟨S11008x4096, .f32⟩
  | .hbm, ⟨4, _⟩ => ⟨S16384x4096, .f32⟩
  | .hbm, ⟨5, _⟩ => ⟨S4096x11008, .f32⟩
  | .hbm, ⟨6, _⟩ => ⟨S16384x11008, .f32⟩
  | .hbm, ⟨7, _⟩ => ⟨S16384x11008, .f32⟩
  | .hbm, ⟨8, _⟩ => ⟨S16384x11008, .f32⟩
  | .hbm, ⟨9, _⟩ => ⟨S_, .f32⟩
  | .hbm, ⟨10, _⟩ => ⟨S16384x11008, .f32⟩
  | .hbm, ⟨11, _⟩ => ⟨S16384x11008, .f32⟩
  | .hbm, ⟨12, _⟩ => ⟨S_, .f32⟩
  | .hbm, ⟨13, _⟩ => ⟨S16384x11008, .f32⟩
  | .hbm, ⟨14, _⟩ => ⟨S16384x11008, .f32⟩
  | .hbm, ⟨15, _⟩ => ⟨S16384x11008, .f32⟩
  | .hbm, ⟨16, _⟩ => ⟨S4096x11008, .f32⟩
  | .hbm, ⟨17, _⟩ => ⟨S16384x11008, .f32⟩
  | .hbm, ⟨18, _⟩ => ⟨S16384x11008, .f32⟩
  | .hbm, ⟨19, _⟩ => ⟨S_, .i32⟩
  | .hbm, ⟨20, _⟩ => ⟨S_, .f32⟩
  | .hbm, ⟨21, _⟩ => ⟨S16384x11264, .f32⟩
  | .hbm, ⟨22, _⟩ => ⟨S16384x11264, .bf16⟩
  | .hbm, ⟨23, _⟩ => ⟨S11008x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_call1_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩

abbrev nD : Nat := 1
abbrev τ : Topo := Topo.v7x

variable {F : FTy → Type} [FloatOps F]
-- ==== Kernel6.lean ====
abbrev S16384x11264 : Shape := ⟨2, ![16384, 11264]⟩
abbrev S11008x4096 : Shape := ⟨2, ![11008, 4096]⟩
abbrev S16384x4096 : Shape := ⟨2, ![16384, 4096]⟩
abbrev S4x36864 : Shape := ⟨2, ![4, 36864]⟩
abbrev S4x1x36864 : Shape := ⟨3, ![4, 1, 36864]⟩
abbrev S512x11264 : Shape := ⟨2, ![512, 11264]⟩
abbrev S11008x512 : Shape := ⟨2, ![11008, 512]⟩
abbrev S512x512 : Shape := ⟨2, ![512, 512]⟩
abbrev S1x1x512 : Shape := ⟨3, ![1, 1, 512]⟩
abbrev S512x11008 : Shape := ⟨2, ![512, 11008]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S16384x11264, .bf16⟩
  | .hbm, ⟨1, _⟩ => ⟨S11008x4096, .bf16⟩
  | .hbm, ⟨2, _⟩ => ⟨S16384x4096, .f32⟩
  | .hbm, ⟨3, _⟩ => ⟨S4x36864, .f32⟩
  | .hbm, ⟨4, _⟩ => ⟨S4x1x36864, .f32⟩
  | .hbm, ⟨5, _⟩ => ⟨S16384x4096, .bf16⟩
  | .local _ .vmem, ⟨0, _⟩ => ⟨S512x11264, .bf16⟩
  | .local _ .vmem, ⟨1, _⟩ => ⟨S512x11264, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .bf16⟩
  | .local _ .vmem, ⟨9, _⟩ => ⟨S512x512, .bf16⟩
  | _, _ => ⟨S16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c64_i32 : BitVec 32 := 64#32
  let v18 : BitVec 32 := Scalar.addi c64_i32 arg0
  let c0_i32_4 : BitVec 32 := 0#32
  let c0_i32_5 : BitVec 32 := 0#32
  ![v17.toNat, c0_i32_4.toNat, v18.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S16384x11264 : Shape := ⟨2, ![16384, 11264]⟩
abbrev S11008x4096 : Shape := ⟨2, ![11008, 4096]⟩
abbrev S16384x4096 : Shape := ⟨2, ![16384, 4096]⟩
abbrev S4x36864 : Shape := ⟨2, ![4, 36864]⟩
abbrev S4x4096 : Shape := ⟨2, ![4, 4096]⟩
abbrev S16384x11008 : Shape := ⟨2, ![16384, 11008]⟩
abbrev S4x4096x4096 : Shape := ⟨3, ![4, 4096, 4096]⟩
abbrev S4x1x4096 : Shape := ⟨3, ![4, 1, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16384x11264, .bf16⟩
  | .hbm, ⟨1, _⟩ => ⟨S11008x4096, .bf16⟩
  | .hbm, ⟨2, _⟩ => ⟨S16384x4096, .f32⟩
  | .hbm, ⟨3, _⟩ => ⟨S4x36864, .f32⟩
  | .hbm, ⟨4, _⟩ => ⟨S4x4096, .f32⟩
  | .hbm, ⟨5, _⟩ => ⟨S4x4096, .f32⟩
  | .hbm, ⟨6, _⟩ => ⟨S4x4096, .f32⟩
  | .hbm, ⟨7, _⟩ => ⟨S4x4096, .f32⟩
  | .hbm, ⟨8, _⟩ => ⟨S4x4096, .f32⟩
  | .hbm, ⟨9, _⟩ => ⟨S4x4096, .f32⟩
  | .hbm, ⟨10, _⟩ => ⟨S4x4096, .f32⟩
  | .hbm, ⟨11, _⟩ => ⟨S4x4096, .f32⟩
  | .hbm, ⟨12, _⟩ => ⟨S4x4096, .f32⟩
  | .hbm, ⟨13, _⟩ => ⟨S16384x11008, .bf16⟩
  | .hbm, ⟨14, _⟩ => ⟨S16384x11008, .f32⟩
  | .hbm, ⟨15, _⟩ => ⟨S11008x4096, .f32⟩
  | .hbm, ⟨16, _⟩ => ⟨S16384x4096, .f32⟩
  | .hbm, ⟨17, _⟩ => ⟨S4x4096x4096, .f32⟩
  | .hbm, ⟨18, _⟩ => ⟨S4x4096x4096, .f32⟩
  | .hbm, ⟨19, _⟩ => ⟨S4x1x4096, .f32⟩
  | .hbm, ⟨20, _⟩ => ⟨S_, .f32⟩
  | .hbm, ⟨21, _⟩ => ⟨S4x1x4096, .f32⟩
  | .hbm, ⟨22, _⟩ => ⟨S4x1x4096, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S16384x4096, .f32⟩
  | .hbm, ⟨27, _⟩ => ⟨S16384x4096, .bf16⟩
  | _, _ => ⟨S16384x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== Kernel7.lean ====
abbrev S16384x4096 : Shape := ⟨2, ![16384, 4096]⟩
abbrev S4096 : Shape := ⟨1, ![4096]⟩
abbrev S4x36864 : Shape := ⟨2, ![4, 36864]⟩
abbrev S4x1x36864 : Shape := ⟨3, ![4, 1, 36864]⟩
abbrev S1x4096 : Shape := ⟨2, ![1, 4096]⟩
abbrev S1024x4096 : Shape := ⟨2, ![1024, 4096]⟩
abbrev S1x1x4096 : Shape := ⟨3, ![1, 1, 4096]⟩
abbrev S8x4096 : Shape := ⟨2, ![8, 4096]⟩
abbrev S8 : Shape := ⟨1, ![8]⟩
abbrev S8x1 : Shape := ⟨2, ![8, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4x36864, .f32⟩
  | .hbm, ⟨3, _⟩ => ⟨S4x1x36864, .f32⟩
  | .hbm, ⟨4, _⟩ => ⟨S1x4096, .f32⟩
  | .hbm, ⟨5, _⟩ => ⟨S16384x4096, .bf16⟩
  | .local _ .vmem, ⟨0, _⟩ => ⟨S1024x4096, .f32⟩
  | .local _ .vmem, ⟨1, _⟩ => ⟨S1024x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1024x4096, .bf16⟩
  | .local _ .vmem, ⟨8, _⟩ => ⟨S1024x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c128_i32 : BitVec 32 := 128#32
  let v9 : BitVec 32 := Scalar.addi c0_i32 c128_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  v10
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let v11 : BitVec 32 := v10
  let v12 : Index := Scalar.indexCast v11
  let c0_8 : Index := 0#32
  ![v12.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c1_i32_5 : BitVec 32 := 1#32
  let c0_i32_6 : BitVec 32 := 0#32
  ![v17.toNat, c0_i32_4.toNat, c1_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S16384x4096 : Shape := ⟨2, ![16384, 4096]⟩
abbrev S4096 : Shape := ⟨1, ![4096]⟩
abbrev S4x36864 : Shape := ⟨2, ![4, 36864]⟩
abbrev S4x4096 : Shape := ⟨2, ![4, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S4x4096x4096 : Shape := ⟨3, ![4, 4096, 4096]⟩
abbrev S4x1x4096 : Shape := ⟨3, ![4, 1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4x36864, .f32⟩
  | .hbm, ⟨3, _⟩ => ⟨S4x4096, .f32⟩
  | .hbm, ⟨4, _⟩ => ⟨S4x4096, .f32⟩
  | .hbm, ⟨5, _⟩ => ⟨S4x4096, .f32⟩
  | .hbm, ⟨6, _⟩ => ⟨S4x4096, .f32⟩
  | .hbm, ⟨7, _⟩ => ⟨S4x4096, .f32⟩
  | .hbm, ⟨8, _⟩ => ⟨S4x4096, .f32⟩
  | .hbm, ⟨9, _⟩ => ⟨S4x4096, .f32⟩
  | .hbm, ⟨10, _⟩ => ⟨S4x4096, .f32⟩
  | .hbm, ⟨11, _⟩ => ⟨S4x4096, .f32⟩
  | .hbm, ⟨12, _⟩ => ⟨S16384x4096, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x4096, .f32⟩
  | .hbm, ⟨24, _⟩ => ⟨S16384x4096, .f32⟩
  | .hbm, ⟨25, _⟩ => ⟨S1x4096, .f32⟩
  | .hbm, ⟨26, _⟩ => ⟨S16384x4096, .f32⟩
  | .hbm, ⟨27, _⟩ => ⟨S16384x4096, .f32⟩
  | .hbm, ⟨28, _⟩ => ⟨S4x4096x4096, .f32⟩
  | .hbm, ⟨29, _⟩ => ⟨S4x1x4096, .f32⟩
  | .hbm, ⟨30, _⟩ => ⟨S_, .f32⟩
  | .hbm, ⟨31, _⟩ => ⟨S4x1x4096, .f32⟩
  | .hbm, ⟨32, _⟩ => ⟨S4x1x4096, .f32⟩
  | .hbm, ⟨33, _⟩ => ⟨S4x4096x4096, .f32⟩
  | .hbm, ⟨34, _⟩ => ⟨S4x4096x4096, .f32⟩
  | .hbm, ⟨35, _⟩ => ⟨S4x1x4096, .f32⟩
  | .hbm, ⟨36, _⟩ => ⟨S4x4096x4096, .f32⟩
  | .hbm, ⟨37, _⟩ => ⟨S4x4096x4096, .f32⟩
  | .hbm, ⟨38, _⟩ => ⟨S16384x4096, .f32⟩
  | .hbm, ⟨39, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Kernel8.lean ====
abbrev S16384x4096 : Shape := ⟨2, ![16384, 4096]⟩
abbrev S4096 : Shape := ⟨1, ![4096]⟩
abbrev S1x4096 : Shape := ⟨2, ![1, 4096]⟩
abbrev S1024x4096 : Shape := ⟨2, ![1024, 4096]⟩
abbrev S8x4096 : Shape := ⟨2, ![8, 4096]⟩
abbrev S8 : Shape := ⟨1, ![8]⟩
abbrev S8x1 : Shape := ⟨2, ![8, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096, .f32⟩
  | .local _ .vmem, ⟨3, _⟩ => ⟨S1024x4096, .f32⟩
  | .local _ .vmem, ⟨4, _⟩ => ⟨S1024x4096, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c128_i32 : BitVec 32 := 128#32
  let v2 : BitVec 32 := Scalar.addi c0_i32 c128_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c8_i32 : BitVec 32 := 8#32
  let v3 : BitVec 32 := Scalar.muli arg4 c8_i32
  v3
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c8_i32 : BitVec 32 := 8#32
  let v3 : BitVec 32 := Scalar.muli arg4 c8_i32
  let v4 : BitVec 32 := v3
  let v5 : Index := Scalar.indexCast v4
  let c0_2 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096, .f32⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel9.lean ====
abbrev S16384x4096 : Shape := ⟨2, ![16384, 4096]⟩
abbrev S4096 : Shape := ⟨1, ![4096]⟩
abbrev S4x36864 : Shape := ⟨2, ![4, 36864]⟩
abbrev S4x1x36864 : Shape := ⟨3, ![4, 1, 36864]⟩
abbrev S1x4096 : Shape := ⟨2, ![1, 4096]⟩
abbrev S1024x4096 : Shape := ⟨2, ![1024, 4096]⟩
abbrev S1x1x4096 : Shape := ⟨3, ![1, 1, 4096]⟩
abbrev S8x4096 : Shape := ⟨2, ![8, 4096]⟩
abbrev S8 : Shape := ⟨1, ![8]⟩
abbrev S8x1 : Shape := ⟨2, ![8, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S4096, .f32⟩
  | .hbm, ⟨2, _⟩ => ⟨S4x36864, .f32⟩
  | .hbm, ⟨3, _⟩ => ⟨S4x1x36864, .f32⟩
  | .hbm, ⟨4, _⟩ => ⟨S1x4096, .f32⟩
  | .hbm, ⟨5, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1024x4096, .bf16⟩
  | .local _ .vmem, ⟨8, _⟩ => ⟨S1024x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c128_i32 : BitVec 32 := 128#32
  let v9 : BitVec 32 := Scalar.addi c0_i32 c128_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  v10
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let v11 : BitVec 32 := v10
  let v12 : Index := Scalar.indexCast v11
  let c0_8 : Index := 0#32
  ![v12.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c3_i32 : BitVec 32 := 3#32
  let c0_i32_5 : BitVec 32 := 0#32
  ![v17.toNat, c0_i32_4.toNat, c3_i32.toNat]

def cc0_transform_3 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c4_i32 : BitVec 32 := 4#32
  let c0_i32_5 : BitVec 32 := 0#32
  ![v17.toNat, c0_i32_4.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S16384x4096 : Shape := ⟨2, ![16384, 4096]⟩
abbrev S4096 : Shape := ⟨1, ![4096]⟩
abbrev S4x36864 : Shape := ⟨2, ![4, 36864]⟩
abbrev S4x4096 : Shape := ⟨2, ![4, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S4x4096x4096 : Shape := ⟨3, ![4, 4096, 4096]⟩
abbrev S4x1x4096 : Shape := ⟨3, ![4, 1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096, .f32⟩
  | .hbm, ⟨2, _⟩ => ⟨S4x36864, .f32⟩
  | .hbm, ⟨3, _⟩ => ⟨S4x4096, .f32⟩
  | .hbm, ⟨4, _⟩ => ⟨S4x4096, .f32⟩
  | .hbm, ⟨5, _⟩ => ⟨S4x4096, .f32⟩
  | .hbm, ⟨6, _⟩ => ⟨S4x4096, .f32⟩
  | .hbm, ⟨7, _⟩ => ⟨S4x4096, .f32⟩
  | .hbm, ⟨8, _⟩ => ⟨S4x4096, .f32⟩
  | .hbm, ⟨9, _⟩ => ⟨S4x4096, .f32⟩
  | .hbm, ⟨10, _⟩ => ⟨S4x4096, .f32⟩
  | .hbm, ⟨11, _⟩ => ⟨S4x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S1x4096, .f32⟩
  | .hbm, ⟨27, _⟩ => ⟨S16384x4096, .f32⟩
  | .hbm, ⟨28, _⟩ => ⟨S16384x4096, .f32⟩
  | .hbm, ⟨29, _⟩ => ⟨S4x4096x4096, .f32⟩
  | .hbm, ⟨30, _⟩ => ⟨S4x1x4096, .f32⟩
  | .hbm, ⟨31, _⟩ => ⟨S_, .f32⟩
  | .hbm, ⟨32, _⟩ => ⟨S4x1x4096, .f32⟩
  | .hbm, ⟨33, _⟩ => ⟨S4x1x4096, .f32⟩
  | .hbm, ⟨34, _⟩ => ⟨S4x4096x4096, .f32⟩
  | .hbm, ⟨35, _⟩ => ⟨S4x4096x4096, .f32⟩
  | .hbm, ⟨36, _⟩ => ⟨S4x1x4096, .f32⟩
  | .hbm, ⟨37, _⟩ => ⟨S4x4096x4096, .f32⟩
  | .hbm, ⟨38, _⟩ => ⟨S4x4096x4096, .f32⟩
  | .hbm, ⟨39, _⟩ => ⟨S16384x4096, .f32⟩
  | .hbm, ⟨40, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Kernel10.lean ====
abbrev S16384x4096 : Shape := ⟨2, ![16384, 4096]⟩
abbrev S4096 : Shape := ⟨1, ![4096]⟩
abbrev S4x36864 : Shape := ⟨2, ![4, 36864]⟩
abbrev S4x1x36864 : Shape := ⟨3, ![4, 1, 36864]⟩
abbrev S1x4096 : Shape := ⟨2, ![1, 4096]⟩
abbrev S1024x4096 : Shape := ⟨2, ![1024, 4096]⟩
abbrev S1x1x4096 : Shape := ⟨3, ![1, 1, 4096]⟩
abbrev S8x4096 : Shape := ⟨2, ![8, 4096]⟩
abbrev S8 : Shape := ⟨1, ![8]⟩
abbrev S8x1 : Shape := ⟨2, ![8, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S4096, .f32⟩
  | .hbm, ⟨2, _⟩ => ⟨S4x36864, .f32⟩
  | .hbm, ⟨3, _⟩ => ⟨S4x1x36864, .f32⟩
  | .hbm, ⟨4, _⟩ => ⟨S1x4096, .f32⟩
  | .hbm, ⟨5, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1024x4096, .bf16⟩
  | .local _ .vmem, ⟨8, _⟩ => ⟨S1024x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c128_i32 : BitVec 32 := 128#32
  let v9 : BitVec 32 := Scalar.addi c0_i32 c128_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  v10
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32 : BitVec 32 := 8#32
  let v10 : BitVec 32 := Scalar.muli arg6 c8_i32
  let v11 : BitVec 32 := v10
  let v12 : Index := Scalar.indexCast v11
  let c0_8 : Index := 0#32
  ![v12.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c6_i32 : BitVec 32 := 6#32
  let c0_i32_5 : BitVec 32 := 0#32
  ![v17.toNat, c0_i32_4.toNat, c6_i32.toNat]

def cc0_transform_3 (i : grid0.Coords) : Fin 3 → Nat :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c7_i32 : BitVec 32 := 7#32
  let c0_i32_5 : BitVec 32 := 0#32
  ![v17.toNat, c0_i32_4.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S16384x4096 : Shape := ⟨2, ![16384, 4096]⟩
abbrev S4096 : Shape := ⟨1, ![4096]⟩
abbrev S4x36864 : Shape := ⟨2, ![4, 36864]⟩
abbrev S4x4096 : Shape := ⟨2, ![4, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S4x4096x4096 : Shape := ⟨3, ![4, 4096, 4096]⟩
abbrev S4x1x4096 : Shape := ⟨3, ![4, 1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096, .f32⟩
  | .hbm, ⟨2, _⟩ => ⟨S4x36864, .f32⟩
  | .hbm, ⟨3, _⟩ => ⟨S4x4096, .f32⟩
  | .hbm, ⟨4, _⟩ => ⟨S4x4096, .f32⟩
  | .hbm, ⟨5, _⟩ => ⟨S4x4096, .f32⟩
  | .hbm, ⟨6, _⟩ => ⟨S4x4096, .f32⟩
  | .hbm, ⟨7, _⟩ => ⟨S4x4096, .f32⟩
  | .hbm, ⟨8, _⟩ => ⟨S4x4096, .f32⟩
  | .hbm, ⟨9, _⟩ => ⟨S4x4096, .f32⟩
  | .hbm, ⟨10, _⟩ => ⟨S4x4096, .f32⟩
  | .hbm, ⟨11, _⟩ => ⟨S4x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S1x4096, .f32⟩
  | .hbm, ⟨27, _⟩ => ⟨S16384x4096, .f32⟩
  | .hbm, ⟨28, _⟩ => ⟨S16384x4096, .f32⟩
  | .hbm, ⟨29, _⟩ => ⟨S4x4096x4096, .f32⟩
  | .hbm, ⟨30, _⟩ => ⟨S4x1x4096, .f32⟩
  | .hbm, ⟨31, _⟩ => ⟨S_, .f32⟩
  | .hbm, ⟨32, _⟩ => ⟨S4x1x4096, .f32⟩
  | .hbm, ⟨33, _⟩ => ⟨S4x1x4096, .f32⟩
  | .hbm, ⟨34, _⟩ => ⟨S4x4096x4096, .f32⟩
  | .hbm, ⟨35, _⟩ => ⟨S4x4096x4096, .f32⟩
  | .hbm, ⟨36, _⟩ => ⟨S4x1x4096, .f32⟩
  | .hbm, ⟨37, _⟩ => ⟨S4x4096x4096, .f32⟩
  | .hbm, ⟨38, _⟩ => ⟨S4x4096x4096, .f32⟩
  | .hbm, ⟨39, _⟩ => ⟨S16384x4096, .f32⟩
  | .hbm, ⟨40, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Kernel11.lean ====
abbrev S4x4096 : Shape := ⟨2, ![4, 4096]⟩
abbrev S4096x36864 : Shape := ⟨2, ![4096, 36864]⟩
abbrev S36864 : Shape := ⟨1, ![36864]⟩
abbrev S_ : Shape := ⟨0, ![]⟩
abbrev S8x4096 : Shape := ⟨2, ![8, 4096]⟩
abbrev S1 : Shape := ⟨1, ![1]⟩
abbrev S128 : Shape := ⟨1, ![128]⟩
abbrev S16384x1 : Shape := ⟨2, ![16384, 1]⟩
abbrev S1x36864 : Shape := ⟨2, ![1, 36864]⟩
abbrev S1x128 : Shape := ⟨2, ![1, 128]⟩
abbrev S8x36864 : Shape := ⟨2, ![8, 36864]⟩
abbrev S16384x128 : Shape := ⟨2, ![16384, 128]⟩
abbrev S4096x512 : Shape := ⟨2, ![4096, 512]⟩
abbrev S1x512 : Shape := ⟨2, ![1, 512]⟩
abbrev S256x1 : Shape := ⟨2, ![256, 1]⟩
abbrev S8x512 : Shape := ⟨2, ![8, 512]⟩
abbrev S256x128 : Shape := ⟨2, ![256, 128]⟩
abbrev S4x36864 : Shape := ⟨2, ![4, 36864]⟩

abbrev nBuf : Space → Nat
  | .hbm => 24
  | .vmem => 14
  | .smem => 0
  | _ => 0

abbrev bufTy : (tb : Table) → Fin (tcTables nBuf tb) → BufTy
  | .hbm, ⟨0, _⟩ => ⟨S4x4096, .f32⟩
  | .hbm, ⟨1, _⟩ => ⟨S4x4096, .i32⟩
  | .hbm, ⟨2, _⟩ => ⟨S4096x36864, .f32⟩
  | .hbm, ⟨3, _⟩ => ⟨S36864, .f32⟩
  | .hbm, ⟨4, _⟩ => ⟨S_, .f32⟩
  | .hbm, ⟨5, _⟩ => ⟨S8x4096, .f32⟩
  | .hbm, ⟨6, _⟩ => ⟨S_, .i32⟩
  | .hbm, ⟨7, _⟩ => ⟨S1, .i32⟩
  | .hbm, ⟨8, _⟩ => ⟨S8x4096, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S16384x1, .i32⟩
  | .hbm, ⟨18, _⟩ => ⟨S1x36864, .f32⟩
  | .hbm, ⟨19, _⟩ => ⟨S1x128, .f32⟩
  | .hbm, ⟨20, _⟩ => ⟨S8x36864, .f32⟩
  | .hbm, ⟨21, _⟩ => ⟨S16384x128, .f32⟩
  | .hbm, ⟨22, _⟩ => ⟨S16384x128, .f32⟩
  | .hbm, ⟨23, _⟩ => ⟨S4x36864, .f32⟩
  | .local _ .vmem, ⟨0, _⟩ => ⟨S8x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S256x1, .i32⟩
  | .local _ .vmem, ⟨6, _⟩ => ⟨S256x1, .i32⟩
  | .local _ .vmem, ⟨7, _⟩ => ⟨S1x128, .f32⟩
  | .local _ .vmem, ⟨8, _⟩ => ⟨S8x512, .f32⟩
  | .local _ .vmem, ⟨9, _⟩ => ⟨S8x512, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v13 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S4x4096 : Shape := ⟨2, ![4, 4096]⟩
abbrev S4096x36864 : Shape := ⟨2, ![4096, 36864]⟩
abbrev S36864 : Shape := ⟨1, ![36864]⟩
abbrev S128 : Shape := ⟨1, ![128]⟩
abbrev S_ : Shape := ⟨0, ![]⟩
abbrev S4x4096x1 : Shape := ⟨3, ![4, 4096, 1]⟩
abbrev S1x1x128 : Shape := ⟨3, ![1, 1, 128]⟩
abbrev S4x4096x128 : Shape := ⟨3, ![4, 4096, 128]⟩
abbrev S4x36864 : Shape := ⟨2, ![4, 36864]⟩
abbrev S1x36864 : Shape := ⟨2, ![1, 36864]⟩
abbrev S16384x128 : Shape := ⟨2, ![16384, 128]⟩

abbrev nBuf : Space → Nat
  | .hbm => 35
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S4x4096, .i32⟩
  | .hbm, ⟨2, _⟩ => ⟨S4096x36864, .f32⟩
  | .hbm, ⟨3, _⟩ => ⟨S36864, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S4x4096, .f32⟩
  | .hbm, ⟨13, _⟩ => ⟨S4x4096x1, .f32⟩
  | .hbm, ⟨14, _⟩ => ⟨S1x1x128, .f32⟩
  | .hbm, ⟨15, _⟩ => ⟨S4x4096x128, .f32⟩
  | .hbm, ⟨16, _⟩ => ⟨S4x4096x128, .f32⟩
  | .hbm, ⟨17, _⟩ => ⟨S4x4096x128, .f32⟩
  | .hbm, ⟨18, _⟩ => ⟨S4x4096, .f32⟩
  | .hbm, ⟨19, _⟩ => ⟨S4x4096, .f32⟩
  | .hbm, ⟨20, _⟩ => ⟨S_, .f32⟩
  | .hbm, ⟨21, _⟩ => ⟨S4x4096, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S4x4096, .f32⟩
  | .hbm, ⟨27, _⟩ => ⟨S4x36864, .f32⟩
  | .hbm, ⟨28, _⟩ => ⟨S1x36864, .f32⟩
  | .hbm, ⟨29, _⟩ => ⟨S4x36864, .f32⟩
  | .hbm, ⟨30, _⟩ => ⟨S4x36864, .f32⟩
  | .hbm, ⟨31, _⟩ => ⟨S4x4096x128, .f32⟩
  | .hbm, ⟨32, _⟩ => ⟨S16384x128, .f32⟩
  | .hbm, ⟨33, _⟩ => ⟨S4x4096x128, .f32⟩
  | .hbm, ⟨34, _⟩ => ⟨S16384x128, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Proof.Retention.lean ====
/- Retention over the real numbers, for one head: the state and the output as sums over all earlier
   tokens, and what one chunk of any length makes of them. Nothing here is about a program. -/
module

public import Idealize.ShloMosaic.Lib.Pipeline.ValueKit

@[expose] public section

noncomputable section

namespace Cert.Retention

open Finset

/-- The state after the first `n` tokens: each token's outer product, decayed by its age. -/
def state (L : ℝ) (k v : ℕ → Fin 256 → ℝ) (n : ℕ) (d e : Fin 256) : ℝ :=
  ∑ j ∈ range n, k j d * Real.exp (L * ((n : ℝ) - 1 - j)) * v j e

/-- The output at token `n`: every token up to it, weighted by its score and its decay. -/
def out (L : ℝ) (q k v : ℕ → Fin 256 → ℝ) (n : ℕ) (e : Fin 256) : ℝ :=
  ∑ j ∈ range (n + 1), (∑ d, q n d * k j d) * Real.exp (L * ((n : ℝ) - j)) * v j e

/-- No token, no state. -/
theorem state_zero (L : ℝ) (k v : ℕ → Fin 256 → ℝ) (d e : Fin 256) : state L k v 0 d e = 0 := by
  simp [state]

/-- One chunk of `C` tokens takes the state after `n` tokens to the state after `n + C`. -/
theorem state_add (L : ℝ) (k v : ℕ → Fin 256 → ℝ) (n C : ℕ) (d e : Fin 256) :
    state L k v (n + C) d e
      = state L k v n d e * Real.exp (L * C)
        + ∑ j : Fin C, k (n + j) d * Real.exp (L * ((C : ℝ) - 1 - (j : ℕ))) * v (n + j) e := by
  unfold state
  rw [sum_range_add, Finset.sum_range (fun x => k (n + x) d * _ * v (n + x) e), Finset.sum_mul]
  congr 1
  · refine Finset.sum_congr rfl fun j _ => ?_
    rw [show L * (((n + C : ℕ) : ℝ) - 1 - j) = L * ((n : ℝ) - 1 - j) + L * C by push_cast; ring, Real.exp_add]
    ring
  · refine Finset.sum_congr rfl fun j _ => ?_
    rw [show L * (((n + C : ℕ) : ℝ) - 1 - ((n + (j : ℕ) : ℕ) : ℝ)) = L * ((C : ℝ) - 1 - (j : ℕ)) by push_cast; ring]

/-- Token `i` of a chunk that starts at token `n`: the chunk's own tokens up to it, and the state before the
    chunk, decayed. -/
theorem out_add (L : ℝ) (q k v : ℕ → Fin 256 → ℝ) (n C : ℕ) (i : Fin C) (e : Fin 256) :
    out L q k v (n + i) e
      = (∑ j : Fin C, (∑ d, q (n + i) d * k (n + j) d)
            * (if (j : ℕ) ≤ (i : ℕ) then Real.exp (L * (((i : ℕ) : ℝ) - (j : ℕ))) else 0) * v (n + j) e)
        + (∑ d, q (n + i) d * state L k v n d e) * Real.exp (L * (((i : ℕ) : ℝ) + 1)) := by
  unfold out
  rw [show n + (i : ℕ) + 1 = n + ((i : ℕ) + 1) by ring, sum_range_add, add_comm]
  congr 1
  · rw [← Finset.sum_range (fun j => (∑ d, q (n + i) d * k (n + j) d)
      * (if j ≤ (i : ℕ) then Real.exp (L * (((i : ℕ) : ℝ) - (j : ℝ))) else 0) * v (n + j) e)]
    rw [← Finset.sum_subset (Finset.range_subset_range.2 (show (i : ℕ) + 1 ≤ C from i.2))]
    · refine Finset.sum_congr rfl fun j hj => ?_
      rw [if_pos (by have := Finset.mem_range.1 hj; omega)]
      rw [show L * (((n + (i : ℕ) : ℕ) : ℝ) - ((n + j : ℕ) : ℝ)) = L * (((i : ℕ) : ℝ) - (j : ℝ)) by push_cast; ring]
    · intro j _ hj
      rw [if_neg (by intro h; exact hj (Finset.mem_range.2 (by omega)))]
      ring
  · unfold state
    simp only [Finset.mul_sum, Finset.sum_mul]
    rw [Finset.sum_comm]
    refine Finset.sum_congr rfl fun d _ => Finset.sum_congr rfl fun j _ => ?_
    rw [show L * (((n + (i : ℕ) : ℕ) : ℝ) - (j : ℝ)) = L * ((n : ℝ) - 1 - j) + L * (((i : ℕ) : ℝ) + 1) by
      push_cast; ring, Real.exp_add]
    ring

/-- A sum of reals is the same sum of them as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The state's chunk step, over the extended reals. -/
theorem state_chunk (L : ℝ) (k v : ℕ → Fin 256 → ℝ) (n C : ℕ) (d e : Fin 256) (K V : Fin C → Fin 256 → EReal)
    (S c : EReal) (Z : Fin C → EReal) (hK : ∀ j d, K j d = (k (n + j) d : EReal))
    (hV : ∀ j e, V j e = (v (n + j) e : EReal)) (hS : S = (state L k v n d e : EReal))
    (hc : c = (Real.exp (L * C) : EReal)) (hZ : ∀ j : Fin C, Z j = (Real.exp (L * ((C : ℝ) - 1 - (j : ℕ))) : EReal)) :
    S * c + ∑ j : Fin C, K j d * Z j * V j e = (state L k v (n + C) d e : EReal) := by
  rw [state_add, EReal.coe_add, EReal.coe_mul, coe_sum, hS, hc]
  congr 1
  exact Finset.sum_congr rfl fun j _ => by rw [hK, hV, hZ, EReal.coe_mul, EReal.coe_mul]

/-- The output's chunk step, over the extended reals. -/
theorem out_chunk (L : ℝ) (q k v : ℕ → Fin 256 → ℝ) (n C : ℕ) (i : Fin C) (e : Fin 256) (Q : Fin 256 → EReal)
    (K V : Fin C → Fin 256 → EReal) (S : Fin 256 → EReal) (x : EReal) (D : Fin C → EReal)
    (hQ : ∀ d, Q d = (q (n + i) d : EReal)) (hK : ∀ j d, K j d = (k (n + j) d : EReal))
    (hV : ∀ j e, V j e = (v (n + j) e : EReal)) (hS : ∀ d, S d = (state L k v n d e : EReal))
    (hD : ∀ j : Fin C, D j
      = ((if (j : ℕ) ≤ (i : ℕ) then Real.exp (L * (((i : ℕ) : ℝ) - (j : ℕ))) else 0 : ℝ) : EReal))
    (hx : x = (Real.exp (L * (((i : ℕ) : ℝ) + 1)) : EReal)) :
    (∑ j : Fin C, (∑ d, Q d * K j d) * D j * V j e) + (∑ d, Q d * S d) * x = (out L q k v (n + i) e : EReal) := by
  rw [out_add, EReal.coe_add, EReal.coe_mul, coe_sum, coe_sum, hx]
  congr 1
  · refine Finset.sum_congr rfl fun j _ => ?_
    rw [hV, hD, EReal.coe_mul, EReal.coe_mul, coe_sum]
    congr 2
    exact Finset.sum_congr rfl fun d _ => by rw [hQ, hK, EReal.coe_mul]
  · congr 1
    exact Finset.sum_congr rfl fun d _ => by rw [hQ, hS, EReal.coe_mul]

end Cert.Retention

end
-- ==== Proof.Decay.lean ====
/- The scalars of the decay tables over the extended reals: the constants both programs print, a head's log decay,
   and the exponentials of its multiples. -/
module

public import proofs.«01_k».proof.Proof.Retention

@[expose] public section

noncomputable section

namespace Cert.Decay

open Idealize.ShloMosaic

theorem two : Ideal.ofBits .f32 1073741824#32 = ((2 : ℝ) : EReal) := by
  simp [Ideal.ofBits, Ideal.ieee, -EReal.coe_mul]; norm_num
theorem minus_five : Ideal.ofBits .f32 3231711232#32 = ((-5 : ℝ) : EReal) := by
  simp [Ideal.ofBits, Ideal.ieee, -EReal.coe_mul]; norm_num
theorem c256 : Ideal.ofBits .f32 1132462080#32 = ((256 : ℝ) : EReal) := by
  simp [Ideal.ofBits, Ideal.ieee, -EReal.coe_mul]; norm_num
theorem c128 : Ideal.ofBits .f32 1124073472#32 = ((128 : ℝ) : EReal) := by
  simp [Ideal.ofBits, Ideal.ieee, -EReal.coe_mul]; norm_num
theorem half : Ideal.ofBits .f32 1056964608#32 = ((1 / 2 : ℝ) : EReal) := by
  simp [Ideal.ofBits, Ideal.ieee, -EReal.coe_mul]; norm_num

/-- The log decay of head `h`. -/
def lam (h : ℕ) : ℝ := Real.log (1 - (2 : ℝ) ^ (-5 - (h : ℝ)))

theorem toInt_ofNat (n : ℕ) (hn : n < 2147483648) : (BitVec.ofNat 32 n).toInt = (n : ℤ) := by
  rw [BitVec.toInt_ofNat', Int.bmod_eq_of_le (by omega) (by omega)]

theorem word (n : ℕ) (hn : n < 2147483648) :
    (FloatOps.sitofp (F := Ideal) .f32 (BitVec.ofNat 32 n) : EReal) = ((n : ℝ) : EReal) := by
  show (((BitVec.ofNat 32 n).toInt : ℝ) : EReal) = _
  rw [toInt_ofNat n hn]; simp

theorem word_sub (i j : ℕ) (hi : i < 1073741824) (hj : j < 1073741824) :
    (FloatOps.sitofp (F := Ideal) .f32 (IntOp.subi (BitVec.ofNat 32 i) (BitVec.ofNat 32 j)) : EReal)
      = (((i : ℝ) - j : ℝ) : EReal) := by
  show (((BitVec.ofNat 32 i - BitVec.ofNat 32 j).toInt : ℝ) : EReal) = _
  rw [BitVec.toInt_sub, toInt_ofNat i (by omega), toInt_ofNat j (by omega), Int.bmod_eq_of_le (by omega) (by omega)]
  push_cast; rfl

theorem word_succ (i : ℕ) (hi : i < 1073741824) :
    (FloatOps.sitofp (F := Ideal) .f32 (IntOp.addi (BitVec.ofNat 32 i) 1#32) : EReal)
      = (((i : ℝ) + 1 : ℝ) : EReal) := by
  show (((BitVec.ofNat 32 i + BitVec.ofNat 32 1).toInt : ℝ) : EReal) = _
  rw [BitVec.toInt_add, toInt_ofNat i (by omega), toInt_ofNat 1 (by omega), Int.bmod_eq_of_le (by omega) (by omega)]
  push_cast; rfl

/-- Head `h`'s log decay as both programs compute it. -/
theorem lam_eq (h : Fin 8) :
    Ideal.log (1 - Ideal.pow (Ideal.ofBits .f32 1073741824#32)
        (Ideal.ofBits .f32 3231711232#32 - (FloatOps.sitofp (F := Ideal) .f32 (BitVec.ofNat 32 (h : ℕ)) : EReal)))
      = (lam h : EReal) := by
  rw [two, minus_five, word h (by omega), ← EReal.coe_sub, Ideal.pow_coe_coe, ← EReal.coe_one, ← EReal.coe_sub,
    Ideal.log_coe, if_neg]
  · rfl
  · have : Real.rpow 2 (-5 - ((h : ℕ) : ℝ)) < 1 :=
      Real.rpow_lt_one_of_one_lt_of_neg (by norm_num) (by
        have : (0 : ℝ) ≤ ((h : ℕ) : ℝ) := Nat.cast_nonneg _
        linarith)
    linarith

/-- The decay from token `j` to token `i` of one chunk, as both programs compute it. -/
theorem decay_eq (L : ℝ) (i j : ℕ) (hi : i < 1073741824) (hj : j < 1073741824) :
    (if (0 : EReal) ≤ FloatOps.sitofp (F := Ideal) .f32 (IntOp.subi (BitVec.ofNat 32 i) (BitVec.ofNat 32 j)) then
      Ideal.exp ((L : EReal) * max (FloatOps.sitofp (F := Ideal) .f32 (IntOp.subi (BitVec.ofNat 32 i) (BitVec.ofNat 32 j)) : EReal) 0)
      else 0) = ((if j ≤ i then Real.exp (L * ((i : ℝ) - j)) else 0 : ℝ) : EReal) := by
  rw [word_sub i j hi hj]
  have e : ((0 : EReal) ≤ (((i : ℝ) - j : ℝ) : EReal)) ↔ j ≤ i := by
    rw [← EReal.coe_zero, EReal.coe_le_coe_iff, sub_nonneg, Nat.cast_le]
  by_cases h : j ≤ i
  · rw [if_pos (e.2 h), if_pos h, max_eq_left (e.2 h), ← EReal.coe_mul, Ideal.exp_coe]
  · rw [if_neg (fun k => h (e.1 k)), if_neg h, EReal.coe_zero]

/-- The output at token `n`, divided by the root mean square of its head's 256 lanes (`1e-6` under the root). -/
def normed (L : ℝ) (q k v : ℕ → Fin 256 → ℝ) (n : ℕ) (e : Fin 256) : EReal :=
  (Retention.out L q k v n e : EReal)
    * Ideal.rsqrt (Ideal.div (∑ d : Fin 256, (Retention.out L q k v n d : EReal) * (Retention.out L q k v n d : EReal))
        (Ideal.ofBits .f32 1132462080#32) + Ideal.ofBits .f32 897988541#32)

end Cert.Decay

end
-- ==== Proof.Spec.lean ====
/- What both programs compute, over the entries of the three arguments. -/
module

public import proofs.«01_k».proof.Proof.Decay

@[expose] public section

noncomputable section

namespace Cert.Spec

open Idealize.ShloMosaic

/-- Entry `(r, k)` of the projections, `0` outside them. -/
def ent (A : Fin 16384 → Fin 12288 → EReal) (r k : ℕ) : EReal :=
  if h : r < 16384 ∧ k < 12288 then A ⟨r, h.1⟩ ⟨k, h.2⟩ else 0

theorem ent_eq (A : Fin 16384 → Fin 12288 → EReal) (r k : ℕ) (i : Fin 16384) (j : Fin 12288) (hi : (i : ℕ) = r)
    (hj : (j : ℕ) = k) : A i j = ent A r k := by
  subst hi hj
  rw [ent, dif_pos ⟨i.2, j.2⟩]

/-- The real sequence of batch `b` and head `h` that starts at column `col`. -/
def seq (A : Fin 16384 → Fin 12288 → EReal) (col b h n : ℕ) (d : Fin 256) : ℝ :=
  (ent A (b * 4096 + n) (col + (h * 256 + d))).toReal

/-- Every query, key and value is finite. -/
def Real3 (A : Fin 16384 → Fin 12288 → EReal) : Prop :=
  ∀ r k : ℕ, k < 6144 → ent A r k = ((ent A r k).toReal : EReal)

/-- Every gating input is finite. -/
def RealU (A : Fin 16384 → Fin 12288 → EReal) : Prop :=
  ∀ r k : ℕ, 8192 ≤ k → k < 10240 → ent A r k = ((ent A r k).toReal : EReal)

/-- The retention output of batch `b`, head `h`, token `n`, lane `e`: normalized and gated. -/
def ret (A : Fin 16384 → Fin 12288 → EReal) (b h n : ℕ) (e : Fin 256) : EReal :=
  Decay.normed (Decay.lam h) (seq A 0 b h) (seq A 2048 b h) (seq A 4096 b h) n e
    * ent A (b * 4096 + n) (6144 + (h * 256 + e))

end Cert.Spec

end
-- ==== Proof.Pre.lean ====
/- The precondition read: every query, key, value and gating input is a real number. -/
module

public import proofs.«01_k».proof.Proof.Spec
public import proofs.«01_k».proof.Proof.Gen.Pre_finite
public import Idealize.ShloMosaic.Lib.Pipeline.ValueKit
public import Idealize.ShloMosaic.Lib.ReduceAll
public import Idealize.ShloMosaic.Lib.Pointwise.Select

@[expose] public section

set_option maxRecDepth 16384

noncomputable section

namespace Cert.Finite

open Idealize.ShloMosaic Idealize.ShloMosaic.TcCoe
open Cert.Pre_finite Cert.Pre_finite.Gen

theorem top_bits : Ideal.ofBits .f32 2139095040#32 = ⊤ := by
  simp [Ideal.ofBits, Ideal.ieee]

/-- A number whose absolute value is below infinity is a real. -/
theorem real_of_lt (x : EReal) (h : Ideal.cmp .olt (max x (-x)) (Ideal.ofBits .f32 2139095040#32) = 1#1) :
    x = (x.toReal : EReal) := by
  rw [top_bits] at h
  have h' := (Ideal.cmp_olt_eq_one _ _).mp h
  induction x using EReal.rec with
  | bot => simp at h'
  | top => simp at h'
  | coe r => rfl

instance : Subsingleton S_.Idx := ⟨fun _ _ => funext fun a => a.elim0⟩

theorem both (a : FVec Ideal S16384x12288 .bf16) (w : FVec Ideal S8x128x128 .f32) (v : FVec Ideal S8x128 .f32)
    (h : Cert.Pre_finite.fn (F := Ideal) a w v = fun _ => 1#1) :
    (∀ (r : Fin 16384) (k : Fin 6144), @Eq EReal (a (ix2 r ⟨k, by omega⟩)) (EReal.toReal (a (ix2 r ⟨k, by omega⟩)) : ℝ))
    ∧ ∀ (r : Fin 16384) (k : Fin 2048), @Eq EReal (a (ix2 r ⟨8192 + k, by omega⟩)) (EReal.toReal (a (ix2 r ⟨8192 + k, by omega⟩)) : ℝ) := by
  have h0 := congrFun h (fun a => a.elim0)
  have andi_one : ∀ a b : BitVec 1, IntOp.andi a b = 1#1 → a = 1#1 ∧ b = 1#1 := by decide
  unfold Cert.Pre_finite.fn at h0
  obtain ⟨h1, h2⟩ := andi_one _ _ h0
  refine ⟨fun r k => real_of_lt _ ?_, fun r k => real_of_lt _ ?_⟩
  · have e := Host.reduce_andi_all _ _ _ _ _ h1 (ix2 r k)
    rw [← e]
    pointwise
    rfl
  · have e := Host.reduce_andi_all _ _ _ _ _ h2 (ix2 r k)
    rw [← e]
    pointwise
    rfl

theorem real3 (a : FVec Ideal S16384x12288 .bf16) (w : FVec Ideal S8x128x128 .f32) (v : FVec Ideal S8x128 .f32)
    (h : Cert.Pre_finite.fn (F := Ideal) a w v = fun _ => 1#1) : Spec.Real3 fun i j => a (ix2 i j) := fun r k hk => by
  by_cases hr : r < 16384
  · rw [Spec.ent, dif_pos ⟨hr, by omega⟩]
    exact (both a w v h).1 ⟨r, hr⟩ ⟨k, hk⟩
  · rw [Spec.ent, dif_neg (fun e => hr e.1)]
    simp

theorem realU (a : FVec Ideal S16384x12288 .bf16) (w : FVec Ideal S8x128x128 .f32) (v : FVec Ideal S8x128 .f32)
    (h : Cert.Pre_finite.fn (F := Ideal) a w v = fun _ => 1#1) : Spec.RealU fun i j => a (ix2 i j) := fun r k h1 h2 => by
  obtain ⟨j, rfl⟩ := Nat.exists_eq_add_of_le h1
  by_cases hr : r < 16384
  · rw [Spec.ent, dif_pos ⟨hr, by omega⟩]
    exact (both a w v h).2 ⟨r, hr⟩ ⟨j, by omega⟩
  · rw [Spec.ent, dif_neg (fun e => hr e.1)]
    simp

end Cert.Finite

end
-- ==== Proof.KTables.lean ====
/- The kernel's decay tables, which the host computes, read at an index. -/
module

public import proofs.«01_k».proof.Proof.Decay
public import proofs.«01_k».proof.Proof.Gen.KernelIdeal.Frame.Runs
public import Idealize.ShloMosaic.Lib.Pipeline.ValueKit
public import Idealize.ShloMosaic.Lib.StableHlo.ReadAt

@[expose] public section

set_option maxRecDepth 16384

noncomputable section

namespace Cert.KernelIdeal.Tables

open Idealize.ShloMosaic Idealize.ShloMosaic.TcCoe Idealize.SL.Sem
open Cert.KernelIdeal Cert.KernelIdeal.Gen

variable (m : (ℓ : Loc nD τ sig) → Buf (Elt Ideal) ℓ) (c : Dev nD)

theorem decay_at (h : Fin 8) (i j : Fin 256) : @Eq EReal (V m c main_v26 (ix3 h i j))
    ((if (j : ℕ) ≤ (i : ℕ) then Real.exp (Decay.lam h * (((i : ℕ) : ℝ) - (j : ℕ))) else 0 : ℝ)) := by
  unfold V
  after_reads_at
  rw [Decay.lam_eq h]
  refine Eq.trans ?_ (Decay.decay_eq (Decay.lam h) i j (by omega) (by omega))
  pointwise [id_eq]

theorem xi_at (h : Fin 8) (i j : Fin 256) : @Eq EReal (V m c main_v49 (ix3 h i j))
    (Real.exp (Decay.lam h * (((i : ℕ) : ℝ) + 1)) : ℝ) := by
  unfold V
  after_reads_at
  rw [Decay.lam_eq h, Decay.word_succ i (by omega), ← EReal.coe_mul, Ideal.exp_coe]

theorem zeta_at (h : Fin 8) (i j : Fin 256) : @Eq EReal (V m c main_v51 (ix3 h i j))
    (Real.exp (Decay.lam h * (((256 : ℕ) : ℝ) - 1 - (i : ℕ))) : ℝ) := by
  unfold V
  after_reads_at
  rw [Decay.lam_eq h]
  refine (congrArg (fun z : EReal => Ideal.exp ((Decay.lam h : EReal) * z)) (Decay.word_sub 255 i (by omega) (by omega))).trans ?_
  rw [← EReal.coe_mul, Ideal.exp_coe]
  norm_num

theorem cd_at (h : Fin 8) (j : Fin 256) : @Eq EReal (V m c main_v53 (ix3 h 0 j))
    (Real.exp (Decay.lam h * ((256 : ℕ) : ℝ)) : ℝ) := by
  unfold V
  after_reads_at
  rw [Decay.lam_eq h, Decay.c256, ← EReal.coe_mul, Ideal.exp_coe]
  norm_num

theorem bias_at (h : Fin 8) (i : Fin 128) (j : Fin 256) :
    @Eq EReal (V m c main_v55 (ix3 h i j)) (m (c, Proc.tc.devRef main_arg2) (ix2 h i)) := by
  unfold V
  after_reads_at

end Cert.KernelIdeal.Tables

end
-- ==== Proof.KPieces.lean ====
/- What the kernel's body stores for one head and one chunk of 256 tokens: the chunk's output and the next state,
   over variables. -/
module

public import proofs.«01_k».proof.Proof.Decay
public import proofs.«01_k».proof.Proof.Gen.KernelIdeal.Skeleton
public import Idealize.ShloMosaic.Lib.Pipeline.ValueKit

@[expose] public section

set_option maxRecDepth 16384

noncomputable section

namespace Cert.KernelIdeal.Pieces

open Idealize.ShloMosaic Idealize.ShloMosaic.TcCoe Idealize.SL.Sem
open Cert.KernelIdeal Cert.KernelIdeal.Gen

variable (L : ℝ) (q k v : ℕ → Fin 256 → ℝ) (n : ℕ)

/-- The normalized output of one chunk, times the gate. -/
theorem ret_piece (Q K W g : FVec Ideal S256x256 .bf16) (st D xi : FVec Ideal S1x256x256 .f32)
    (hQ : ∀ i d : Fin 256, @Eq EReal (Q (ix2 i d)) (q (n + i) d : ℝ))
    (hK : ∀ i d : Fin 256, @Eq EReal (K (ix2 i d)) (k (n + i) d : ℝ))
    (hW : ∀ i d : Fin 256, @Eq EReal (W (ix2 i d)) (v (n + i) d : ℝ))
    (hS : ∀ d e : Fin 256, @Eq EReal (st (ix3 0 d e)) (Retention.state L k v n d e : ℝ))
    (hD : ∀ i j : Fin 256, @Eq EReal (D (ix3 0 i j))
      ((if (j : ℕ) ≤ (i : ℕ) then Real.exp (L * (((i : ℕ) : ℝ) - (j : ℕ))) else 0 : ℝ)))
    (hx : ∀ i d : Fin 256, @Eq EReal (xi (ix3 0 i d)) (Real.exp (L * (((i : ℕ) : ℝ) + 1)) : ℝ))
    (i e : Fin 256) :
    @Eq EReal (k0_pay9 (F := Ideal) (k0_pay5 Q K W D) (k0_pay6 Q st xi) g (ix2 i e))
      (Decay.normed L q k v (n + i) e * g (ix2 i e)) := by
  have key : ∀ e : Fin 256,
      (∑ j : Fin 256, (∑ d, Q (ix2 i d) * K (ix2 j d)) * D (ix3 0 i j) * W (ix2 j e))
        + (∑ d, Q (ix2 i d) * st (ix3 0 d e)) * xi (ix3 0 i e) = (Retention.out L q k v (n + i) e : EReal) := fun e =>
    Retention.out_chunk L q k v n 256 i e (fun d => Q (ix2 i d)) (fun j d => K (ix2 j d)) (fun j d => W (ix2 j d))
      (fun d => st (ix3 0 d e)) (xi (ix3 0 i e)) (fun j => D (ix3 0 i j)) (hQ i) hK hW (fun d => hS d e) (hD i) (hx i e)
  pointwise [k0_pay9, k0_pay5, k0_pay6, k0_pay4, key]
  rfl

/-- The state after one chunk. -/
theorem state_piece (K W : FVec Ideal S256x256 .bf16) (st Z : FVec Ideal S1x256x256 .f32) (cd : FVec Ideal S1x1x256 .f32)
    (hK : ∀ i d : Fin 256, @Eq EReal (K (ix2 i d)) (k (n + i) d : ℝ))
    (hW : ∀ i d : Fin 256, @Eq EReal (W (ix2 i d)) (v (n + i) d : ℝ))
    (hS : ∀ d e : Fin 256, @Eq EReal (st (ix3 0 d e)) (Retention.state L k v n d e : ℝ))
    (hc : ∀ d : Fin 256, @Eq EReal (cd (ix3 0 0 d)) (Real.exp (L * ((256 : ℕ) : ℝ)) : ℝ))
    (hZ : ∀ i d : Fin 256, @Eq EReal (Z (ix3 0 i d)) (Real.exp (L * (((256 : ℕ) : ℝ) - 1 - (i : ℕ))) : ℝ))
    (d e : Fin 256) :
    @Eq EReal (k0_pay8 (F := Ideal) (k0_pay7 K W st Z cd) (ix3 0 d e))
      (Retention.state L k v (n + 256) d e : ℝ) := by
  have key := Retention.state_chunk L k v n 256 d e (fun j d => K (ix2 j d)) (fun j d => W (ix2 j d))
      (st (ix3 0 d e)) (cd (ix3 0 0 e)) (fun j => Z (ix3 0 j d)) hK hW (hS d e) (hc e) (fun j => hZ j d)
  pointwise [k0_pay8, k0_pay7, k0_pay4]
  exact key

end Cert.KernelIdeal.Pieces

end
-- ==== Proof.KBlocks.lean ====
module

public import proofs.«01_k».proof.Proof.KTables
public import proofs.«01_k».proof.Proof.KPieces
public import proofs.«01_k».proof.Proof.Spec
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Blocks

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The projections, entry by entry. -/
def A (i : Fin 16384) (j : Fin 12288) : EReal := m (c, Proc.tc.devRef main_arg0) (ix2 i j)

theorem idx0 : ∀ t : Fin cfg0.N, win0_0.index t = ![t.val, 0] :=
  (by decide +kernel : ∀ t : Fin grid0.N, _)

theorem blk0 (t : Fin cfg0.N) (i : Fin 512) (j : Fin 2048) :
    @Eq EReal (iblk m c 0 t (ix2 i j)) (Spec.ent (A m c) (t.val * 512 + (i : ℕ)) (0 + (j : ℕ))) := by
  have ht : t.val < 32 := t.isLt
  rw [← Spec.ent_eq (A m c) _ _ ⟨t.val * 512 + i, by omega⟩ ⟨0 + j, by omega⟩ rfl rfl]
  unfold A
  blk_point [iblk, V, idx0 t]

theorem idx1 : ∀ t : Fin cfg0.N, win0_1.index t = ![t.val, 1] :=
  (by decide +kernel : ∀ t : Fin grid0.N, _)

theorem blk1 (t : Fin cfg0.N) (i : Fin 512) (j : Fin 2048) :
    @Eq EReal (iblk m c 1 t (ix2 i j)) (Spec.ent (A m c) (t.val * 512 + (i : ℕ)) (2048 + (j : ℕ))) := by
  have ht : t.val < 32 := t.isLt
  rw [← Spec.ent_eq (A m c) _ _ ⟨t.val * 512 + i, by omega⟩ ⟨2048 + j, by omega⟩ rfl rfl]
  unfold A
  blk_point [iblk, V, idx1 t]

theorem idx2 : ∀ t : Fin cfg0.N, win0_2.index t = ![t.val, 2] :=
  (by decide +kernel : ∀ t : Fin grid0.N, _)

theorem blk2 (t : Fin cfg0.N) (i : Fin 512) (j : Fin 2048) :
    @Eq EReal (iblk m c 2 t (ix2 i j)) (Spec.ent (A m c) (t.val * 512 + (i : ℕ)) (4096 + (j : ℕ))) := by
  have ht : t.val < 32 := t.isLt
  rw [← Spec.ent_eq (A m c) _ _ ⟨t.val * 512 + i, by omega⟩ ⟨4096 + j, by omega⟩ rfl rfl]
  unfold A
  blk_point [iblk, V, idx2 t]

theorem idx3 : ∀ t : Fin cfg0.N, win0_3.index t = ![t.val, 3] :=
  (by decide +kernel : ∀ t : Fin grid0.N, _)

theorem blk3 (t : Fin cfg0.N) (i : Fin 512) (j : Fin 2048) :
    @Eq EReal (iblk m c 3 t (ix2 i j)) (Spec.ent (A m c) (t.val * 512 + (i : ℕ)) (6144 + (j : ℕ))) := by
  have ht : t.val < 32 := t.isLt
  rw [← Spec.ent_eq (A m c) _ _ ⟨t.val * 512 + i, by omega⟩ ⟨6144 + j, by omega⟩ rfl rfl]
  unfold A
  blk_point [iblk, V, idx3 t]

theorem idx8 : ∀ t : Fin cfg0.N, win0_8.index t = ![t.val, 4] :=
  (by decide +kernel : ∀ t : Fin grid0.N, _)

theorem blk8 (t : Fin cfg0.N) (i : Fin 512) (j : Fin 2048) :
    @Eq EReal (iblk m c 8 t (ix2 i j)) (Spec.ent (A m c) (t.val * 512 + (i : ℕ)) (8192 + (j : ℕ))) := by
  have ht : t.val < 32 := t.isLt
  rw [← Spec.ent_eq (A m c) _ _ ⟨t.val * 512 + i, by omega⟩ ⟨8192 + j, by omega⟩ rfl rfl]
  unfold A
  blk_point [iblk, V, idx8 t]

theorem idx9 : ∀ t : Fin cfg0.N, win0_9.index t = ![t.val, 5] :=
  (by decide +kernel : ∀ t : Fin grid0.N, _)

theorem blk9 (t : Fin cfg0.N) (i : Fin 512) (j : Fin 2048) :
    @Eq EReal (iblk m c 9 t (ix2 i j)) (Spec.ent (A m c) (t.val * 512 + (i : ℕ)) (10240 + (j : ℕ))) := by
  have ht : t.val < 32 := t.isLt
  rw [← Spec.ent_eq (A m c) _ _ ⟨t.val * 512 + i, by omega⟩ ⟨10240 + j, by omega⟩ rfl rfl]
  unfold A
  blk_point [iblk, V, idx9 t]

theorem idx4 : ∀ t : Fin cfg0.N, win0_4.index t = ![0, 0, 0] :=
  (by decide +kernel : ∀ t : Fin grid0.N, _)

theorem blk4 (t : Fin cfg0.N) (h : Fin 8) (i : Fin 256) (j : Fin 256) :
    @Eq EReal (iblk m c 4 t (ix3 h i j)) (V m c main_v26 (ix3 h i j)) := by
  blk_simp [iblk, idx4 t]
  blk_ext [idx4 t]

theorem idx5 : ∀ t : Fin cfg0.N, win0_5.index t = ![0, 0, 0] :=
  (by decide +kernel : ∀ t : Fin grid0.N, _)

theorem blk5 (t : Fin cfg0.N) (h : Fin 8) (i : Fin 256) (j : Fin 256) :
    @Eq EReal (iblk m c 5 t (ix3 h i j)) (V m c main_v49 (ix3 h i j)) := by
  blk_simp [iblk, idx5 t]
  blk_ext [idx5 t]

theorem idx6 : ∀ t : Fin cfg0.N, win0_6.index t = ![0, 0, 0] :=
  (by decide +kernel : ∀ t : Fin grid0.N, _)

theorem blk6 (t : Fin cfg0.N) (h : Fin 8) (i : Fin 256) (j : Fin 256) :
    @Eq EReal (iblk m c 6 t (ix3 h i j)) (V m c main_v51 (ix3 h i j)) := by
  blk_simp [iblk, idx6 t]
  blk_ext [idx6 t]

theorem idx7 : ∀ t : Fin cfg0.N, win0_7.index t = ![0, 0, 0] :=
  (by decide +kernel : ∀ t : Fin grid0.N, _)

theorem blk7 (t : Fin cfg0.N) (h : Fin 8) (j : Fin 256) :
    @Eq EReal (iblk m c 7 t (ix3 h 0 j)) (V m c main_v53 (ix3 h 0 j)) := by
  blk_simp [iblk, idx7 t]
  blk_ext [idx7 t]

theorem idx10 : ∀ t : Fin cfg0.N, win0_10.index t = ![0, 0, 0] :=
  (by decide +kernel : ∀ t : Fin grid0.N, _)

theorem blk10 (t : Fin cfg0.N) (h : Fin 8) (i : Fin 128) (j : Fin 128) :
    @Eq EReal (iblk m c 10 t (ix3 h i j)) (m (c, Proc.tc.devRef main_arg1) (ix3 h i j)) := by
  blk_simp [iblk, V, idx10 t]
  blk_ext [idx10 t]

theorem idx11 : ∀ t : Fin cfg0.N, win0_11.index t = ![0, 0, 0] :=
  (by decide +kernel : ∀ t : Fin grid0.N, _)

theorem blk11 (t : Fin cfg0.N) (h : Fin 8) (i : Fin 128) (j : Fin 256) :
    @Eq EReal (iblk m c 11 t (ix3 h i j)) (V m c main_v55 (ix3 h i j)) := by
  blk_simp [iblk, idx11 t]
  blk_ext [idx11 t]

end Cert.KernelIdeal.Blocks

end
-- ==== Proof.KHeads.lean ====
/- One head of one point: the stored chunk and the next state, over the entries of the projections. -/
module

public import proofs.«01_k».proof.Proof.KBlocks

@[expose] public section

set_option maxRecDepth 16384

noncomputable section

namespace Cert.KernelIdeal.Heads

open Idealize.ShloMosaic Idealize.ShloMosaic.TcCoe Idealize.SL.Sem
open Cert.KernelIdeal Cert.KernelIdeal.Gen Cert.KernelIdeal.Blocks

variable (A : Fin 16384 → Fin 12288 → EReal) (hR : Spec.Real3 A) (b hd n r : ℕ) (hh : hd < 8) (hr : r = b * 4096 + n)

include hR hh hr in
theorem real_at (X : FVec Ideal S256x256 .bf16) (col : ℕ) (hc : col ≤ 4096)
    (hX : ∀ i d : Fin 256, @Eq EReal (X (ix2 i d)) (Spec.ent A (r + i) (col + (hd * 256 + d)))) (i d : Fin 256) :
    @Eq EReal (X (ix2 i d)) (Spec.seq A col b hd (n + i) d : ℝ) := by
  rw [hX i d, Spec.seq, hr, Nat.add_assoc]
  exact hR _ _ (by omega)

include hR hh hr in
theorem ret_head (Q K W g : FVec Ideal S256x256 .bf16) (st D xi : FVec Ideal S1x256x256 .f32)
    (hQ : ∀ i d : Fin 256, @Eq EReal (Q (ix2 i d)) (Spec.ent A (r + i) (0 + (hd * 256 + d))))
    (hK : ∀ i d : Fin 256, @Eq EReal (K (ix2 i d)) (Spec.ent A (r + i) (2048 + (hd * 256 + d))))
    (hW : ∀ i d : Fin 256, @Eq EReal (W (ix2 i d)) (Spec.ent A (r + i) (4096 + (hd * 256 + d))))
    (hg : ∀ i d : Fin 256, @Eq EReal (g (ix2 i d)) (Spec.ent A (r + i) (6144 + (hd * 256 + d))))
    (hS : ∀ d e : Fin 256, @Eq EReal (st (ix3 0 d e))
      (Retention.state (Decay.lam hd) (Spec.seq A 2048 b hd) (Spec.seq A 4096 b hd) n d e : ℝ))
    (hD : ∀ i j : Fin 256, @Eq EReal (D (ix3 0 i j))
      ((if (j : ℕ) ≤ (i : ℕ) then Real.exp (Decay.lam hd * (((i : ℕ) : ℝ) - (j : ℕ))) else 0 : ℝ)))
    (hx : ∀ i d : Fin 256, @Eq EReal (xi (ix3 0 i d)) (Real.exp (Decay.lam hd * (((i : ℕ) : ℝ) + 1)) : ℝ))
    (x : S256x256.Idx) :
    @Eq EReal (k0_pay9 (F := Ideal) (k0_pay5 Q K W D) (k0_pay6 Q st xi) g x) (Spec.ret A b hd (n + (x 0 : Fin 256)) (x 1)) := by
  idx_vars x
  refine (Pieces.ret_piece (Decay.lam hd) (Spec.seq A 0 b hd) (Spec.seq A 2048 b hd) (Spec.seq A 4096 b hd) n Q K W g st D xi
    (real_at A hR b hd n r hh hr Q 0 (by omega) hQ) (real_at A hR b hd n r hh hr K 2048 (by omega) hK)
    (real_at A hR b hd n r hh hr W 4096 (by omega) hW) hS hD hx _ _).trans ?_
  rw [hg, hr, Nat.add_assoc]
  rfl

include hR hh hr in
theorem state_head (K W : FVec Ideal S256x256 .bf16) (st Z : FVec Ideal S1x256x256 .f32) (cd : FVec Ideal S1x1x256 .f32)
    (hK : ∀ i d : Fin 256, @Eq EReal (K (ix2 i d)) (Spec.ent A (r + i) (2048 + (hd * 256 + d))))
    (hW : ∀ i d : Fin 256, @Eq EReal (W (ix2 i d)) (Spec.ent A (r + i) (4096 + (hd * 256 + d))))
    (hS : ∀ d e : Fin 256, @Eq EReal (st (ix3 0 d e))
      (Retention.state (Decay.lam hd) (Spec.seq A 2048 b hd) (Spec.seq A 4096 b hd) n d e : ℝ))
    (hc : ∀ d : Fin 256, @Eq EReal (cd (ix3 0 0 d)) (Real.exp (Decay.lam hd * ((256 : ℕ) : ℝ)) : ℝ))
    (hZ : ∀ i d : Fin 256, @Eq EReal (Z (ix3 0 i d)) (Real.exp (Decay.lam hd * (((256 : ℕ) : ℝ) - 1 - (i : ℕ))) : ℝ))
    (d e : Fin 256) :
    @Eq EReal (k0_pay8 (F := Ideal) (k0_pay7 K W st Z cd) (ix3 0 d e))
      (Retention.state (Decay.lam hd) (Spec.seq A 2048 b hd) (Spec.seq A 4096 b hd) (n + 256) d e : ℝ) :=
  Pieces.state_piece (Decay.lam hd) (Spec.seq A 2048 b hd) (Spec.seq A 4096 b hd) n K W st Z cd
    (real_at A hR b hd n r hh hr K 2048 (by omega) hK) (real_at A hR b hd n r hh hr W 4096 (by omega) hW) hS hc hZ d e

end Cert.KernelIdeal.Heads

end
-- ==== Proof.KLoads.lean ====
/- Loads of a point, at an index: the entries of the projections and of the tables. -/
module

public import proofs.«01_k».proof.Proof.KHeads
public import proofs.«01_k».proof.Proof.KTables
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Loads

open Idealize.ShloMosaic Idealize.ShloMosaic.TcCoe Idealize.SL.Sem
open Cert.KernelIdeal Cert.KernelIdeal.Gen Cert.KernelIdeal.Blocks Cert.KernelIdeal.Tables

section Stores

variable {S : Shape} {e : EltTy} {Val : EltTy → Type} [∀ e, Nonempty (Val e)]

/-- A store is lost under a later one through the same rectangle. -/
theorem drop_under (r : Rect S) (w v : r.shape.Idx → Val e) (T : List (View.Piece Val S e)) :
    View.canon (⟨r, w⟩ :: ⟨r, v⟩ :: T) = View.canon (⟨r, w⟩ :: T) := by
  funext y
  by_cases hm : y ∈ r.set
  · obtain ⟨x, rfl⟩ := r.exists_idx_of_mem hm
    rw [show r.idx x = r.emb x from rfl, View.canon_cons_emb, View.canon_cons_emb]
  · rw [View.canon_cons_of_not_mem _ _ hm, View.canon_cons_of_not_mem _ _ hm, View.canon_cons_of_not_mem _ _ hm]

theorem keep_head (p : View.Piece Val S e) {L T : List (View.Piece Val S e)} (h : View.canon L = View.canon T) :
    View.canon (p :: L) = View.canon (p :: T) := by
  rw [View.canon_cons, View.canon_cons, h]

/-- What is stored before a cover is lost. -/
theorem drop_tail (T : List (View.Piece Val S e)) : ∀ (L : List (View.Piece Val S e)) (y : S.Idx),
    (∃ p ∈ L, y ∈ p.1.set) → View.canon (L ++ T) y = View.canon L y
  | [], _, h => by obtain ⟨p, hp, _⟩ := h; simp at hp
  | p :: L, y, h => by
    rw [List.cons_append]
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      refine drop_tail T L y ?_
      obtain ⟨q, hq, hyq⟩ := h
      rcases List.mem_cons.mp hq with rfl | hq'
      · exact absurd hyq hm
      · exact ⟨q, hq', hyq⟩

/-- Eight pairs of stores, each pair through one rectangle. -/
theorem eight_pairs (r0 r1 r2 r3 r4 r5 r6 r7 : Rect S) (w0 v0 : r0.shape.Idx → Val e) (w1 v1 : r1.shape.Idx → Val e) (w2 v2 : r2.shape.Idx → Val e) (w3 v3 : r3.shape.Idx → Val e) (w4 v4 : r4.shape.Idx → Val e) (w5 v5 : r5.shape.Idx → Val e) (w6 v6 : r6.shape.Idx → Val e) (w7 v7 : r7.shape.Idx → Val e) (T : List (View.Piece Val S e)) :
    View.canon (⟨r0, w0⟩ :: ⟨r0, v0⟩ :: ⟨r1, w1⟩ :: ⟨r1, v1⟩ :: ⟨r2, w2⟩ :: ⟨r2, v2⟩ :: ⟨r3, w3⟩ :: ⟨r3, v3⟩ :: ⟨r4, w4⟩ :: ⟨r4, v4⟩ :: ⟨r5, w5⟩ :: ⟨r5, v5⟩ :: ⟨r6, w6⟩ :: ⟨r6, v6⟩ :: ⟨r7, w7⟩ :: ⟨r7, v7⟩ :: T) = View.canon (⟨r0, w0⟩ :: ⟨r1, w1⟩ :: ⟨r2, w2⟩ :: ⟨r3, w3⟩ :: ⟨r4, w4⟩ :: ⟨r5, w5⟩ :: ⟨r6, w6⟩ :: ⟨r7, w7⟩ :: T) :=
  (drop_under r0 w0 v0 _).trans (keep_head _ ((drop_under r1 w1 v1 _).trans (keep_head _ ((drop_under r2 w2 v2 _).trans (keep_head _ ((drop_under r3 w3 v3 _).trans (keep_head _ ((drop_under r4 w4 v4 _).trans (keep_head _ ((drop_under r5 w5 v5 _).trans (keep_head _ ((drop_under r6 w6 v6 _).trans (keep_head _ ((drop_under r7 w7 v7 _).trans (keep_head _ rfl)))))))))))))))

end Stores

variable (m : (ℓ : Loc nD τ sig) → Buf (Elt Ideal) ℓ) (c : Dev nD)

theorem ld0 (t : Fin cfg0.N) (r₀ c₀ : ℕ) (inb) (i d : Fin 256) :
    @Eq EReal (View.ld (iblk m c 0 t) (Rect.unit (s := S512x2048) ![r₀, c₀] ![256, 256] inb) (ix2 i d))
      (Spec.ent (A m c) (t.val * 512 + r₀ + (i : ℕ)) (0 + (c₀ + (d : ℕ)))) := by
  have h0 : r₀ + 256 ≤ 512 := inb 0
  have h1 : c₀ + 256 ≤ 2048 := inb 1
  rw [Nat.add_assoc]
  refine Eq.trans ?_ (blk0 m c t ⟨r₀ + i, by omega⟩ ⟨c₀ + d, by omega⟩)
  exact View.ld_unit_apply_of _ _ _ _ _ _ fun a => by fin_cases a <;> rfl

theorem ld1 (t : Fin cfg0.N) (r₀ c₀ : ℕ) (inb) (i d : Fin 256) :
    @Eq EReal (View.ld (iblk m c 1 t) (Rect.unit (s := S512x2048) ![r₀, c₀] ![256, 256] inb) (ix2 i d))
      (Spec.ent (A m c) (t.val * 512 + r₀ + (i : ℕ)) (2048 + (c₀ + (d : ℕ)))) := by
  have h0 : r₀ + 256 ≤ 512 := inb 0
  have h1 : c₀ + 256 ≤ 2048 := inb 1
  rw [Nat.add_assoc]
  refine Eq.trans ?_ (blk1 m c t ⟨r₀ + i, by omega⟩ ⟨c₀ + d, by omega⟩)
  exact View.ld_unit_apply_of _ _ _ _ _ _ fun a => by fin_cases a <;> rfl

theorem ld2 (t : Fin cfg0.N) (r₀ c₀ : ℕ) (inb) (i d : Fin 256) :
    @Eq EReal (View.ld (iblk m c 2 t) (Rect.unit (s := S512x2048) ![r₀, c₀] ![256, 256] inb) (ix2 i d))
      (Spec.ent (A m c) (t.val * 512 + r₀ + (i : ℕ)) (4096 + (c₀ + (d : ℕ)))) := by
  have h0 : r₀ + 256 ≤ 512 := inb 0
  have h1 : c₀ + 256 ≤ 2048 := inb 1
  rw [Nat.add_assoc]
  refine Eq.trans ?_ (blk2 m c t ⟨r₀ + i, by omega⟩ ⟨c₀ + d, by omega⟩)
  exact View.ld_unit_apply_of _ _ _ _ _ _ fun a => by fin_cases a <;> rfl

theorem ld3 (t : Fin cfg0.N) (r₀ c₀ : ℕ) (inb) (i d : Fin 256) :
    @Eq EReal (View.ld (iblk m c 3 t) (Rect.unit (s := S512x2048) ![r₀, c₀] ![256, 256] inb) (ix2 i d))
      (Spec.ent (A m c) (t.val * 512 + r₀ + (i : ℕ)) (6144 + (c₀ + (d : ℕ)))) := by
  have h0 : r₀ + 256 ≤ 512 := inb 0
  have h1 : c₀ + 256 ≤ 2048 := inb 1
  rw [Nat.add_assoc]
  refine Eq.trans ?_ (blk3 m c t ⟨r₀ + i, by omega⟩ ⟨c₀ + d, by omega⟩)
  exact View.ld_unit_apply_of _ _ _ _ _ _ fun a => by fin_cases a <;> rfl

theorem ld8 (t : Fin cfg0.N) (r₀ c₀ : ℕ) (inb) (i : Fin 128) (d : Fin 256) :
    @Eq EReal (View.ld (iblk m c 8 t) (Rect.unit (s := S512x2048) ![r₀, c₀] ![128, 256] inb) (ix2 i d))
      (Spec.ent (A m c) (t.val * 512 + r₀ + (i : ℕ)) (8192 + (c₀ + (d : ℕ)))) := by
  have h0 : r₀ + 128 ≤ 512 := inb 0
  have h1 : c₀ + 256 ≤ 2048 := inb 1
  rw [Nat.add_assoc]
  refine Eq.trans ?_ (blk8 m c t ⟨r₀ + i, by omega⟩ ⟨c₀ + d, by omega⟩)
  exact View.ld_unit_apply_of _ _ _ _ _ _ fun a => by fin_cases a <;> rfl

theorem ld9 (t : Fin cfg0.N) (r₀ c₀ : ℕ) (inb) (i : Fin 128) (d : Fin 256) :
    @Eq EReal (View.ld (iblk m c 9 t) (Rect.unit (s := S512x2048) ![r₀, c₀] ![128, 256] inb) (ix2 i d))
      (Spec.ent (A m c) (t.val * 512 + r₀ + (i : ℕ)) (10240 + (c₀ + (d : ℕ)))) := by
  have h0 : r₀ + 128 ≤ 512 := inb 0
  have h1 : c₀ + 256 ≤ 2048 := inb 1
  rw [Nat.add_assoc]
  refine Eq.trans ?_ (blk9 m c t ⟨r₀ + i, by omega⟩ ⟨c₀ + d, by omega⟩)
  exact View.ld_unit_apply_of _ _ _ _ _ _ fun a => by fin_cases a <;> rfl

theorem ld4 (t : Fin cfg0.N) (h₀ : ℕ) (inb) (i : Fin 256) (j : Fin 256) :
    @Eq EReal (View.ld (iblk m c 4 t) (Rect.unit (s := S8x256x256) ![h₀, 0, 0] ![1, 256, 256] inb) (ix3 0 i j))
      ((if (j : ℕ) ≤ (i : ℕ) then Real.exp (Decay.lam h₀ * (((i : ℕ) : ℝ) - (j : ℕ))) else 0 : ℝ)) := by
  have hh : h₀ < 8 := inb 0
  refine Eq.trans (b := iblk m c 4 t (ix3 ⟨h₀, hh⟩ i j)) ?_ ((blk4 m c t ⟨h₀, hh⟩ i j).trans (decay_at m c ⟨h₀, hh⟩ i j))
  exact View.ld_unit_apply_of _ _ _ _ _ _ fun a => by fin_cases a <;> simp

theorem ld5 (t : Fin cfg0.N) (h₀ : ℕ) (inb) (i : Fin 256) (j : Fin 256) :
    @Eq EReal (View.ld (iblk m c 5 t) (Rect.unit (s := S8x256x256) ![h₀, 0, 0] ![1, 256, 256] inb) (ix3 0 i j))
      (Real.exp (Decay.lam h₀ * (((i : ℕ) : ℝ) + 1)) : ℝ) := by
  have hh : h₀ < 8 := inb 0
  refine Eq.trans (b := iblk m c 5 t (ix3 ⟨h₀, hh⟩ i j)) ?_ ((blk5 m c t ⟨h₀, hh⟩ i j).trans (xi_at m c ⟨h₀, hh⟩ i j))
  exact View.ld_unit_apply_of _ _ _ _ _ _ fun a => by fin_cases a <;> simp

theorem ld6 (t : Fin cfg0.N) (h₀ : ℕ) (inb) (i : Fin 256) (j : Fin 256) :
    @Eq EReal (View.ld (iblk m c 6 t) (Rect.unit (s := S8x256x256) ![h₀, 0, 0] ![1, 256, 256] inb) (ix3 0 i j))
      (Real.exp (Decay.lam h₀ * (((256 : ℕ) : ℝ) - 1 - (i : ℕ))) : ℝ) := by
  have hh : h₀ < 8 := inb 0
  refine Eq.trans (b := iblk m c 6 t (ix3 ⟨h₀, hh⟩ i j)) ?_ ((blk6 m c t ⟨h₀, hh⟩ i j).trans (zeta_at m c ⟨h₀, hh⟩ i j))
  exact View.ld_unit_apply_of _ _ _ _ _ _ fun a => by fin_cases a <;> simp

theorem ld7 (t : Fin cfg0.N) (h₀ : ℕ) (inb) (j : Fin 256) :
    @Eq EReal (View.ld (iblk m c 7 t) (Rect.unit (s := S8x1x256) ![h₀, 0, 0] ![1, 1, 256] inb) (ix3 0 0 j))
      (Real.exp (Decay.lam h₀ * ((256 : ℕ) : ℝ)) : ℝ) := by
  have hh : h₀ < 8 := inb 0
  refine Eq.trans (b := iblk m c 7 t (ix3 ⟨h₀, hh⟩ 0 j)) ?_ ((blk7 m c t ⟨h₀, hh⟩ j).trans (cd_at m c ⟨h₀, hh⟩ j))
  exact View.ld_unit_apply_of _ _ _ _ _ _ fun a => by fin_cases a <;> simp

/-- The gating weights and the gating bias, entry by entry. -/
def W (g : ℕ) (i j : Fin 128) : EReal := if h : g < 8 then m (c, Proc.tc.devRef main_arg1) (ix3 ⟨g, h⟩ i j) else 0
def B (g : ℕ) (i : Fin 128) : EReal := if h : g < 8 then m (c, Proc.tc.devRef main_arg2) (ix2 ⟨g, h⟩ i) else 0

theorem ld10 (t : Fin cfg0.N) (h₀ : ℕ) (inb) (i : Fin 128) (j : Fin 128) :
    @Eq EReal (View.ld (iblk m c 10 t) (Rect.unit (s := S8x128x128) ![h₀, 0, 0] ![1, 128, 128] inb) (ix3 0 i j))
      (W m c h₀ i j) := by
  have hh : h₀ < 8 := inb 0
  refine Eq.trans (b := iblk m c 10 t (ix3 ⟨h₀, hh⟩ i j)) ?_ (by rw [blk10, W, dif_pos hh])
  exact View.ld_unit_apply_of _ _ _ _ _ _ fun a => by fin_cases a <;> simp

theorem ld11 (t : Fin cfg0.N) (h₀ : ℕ) (inb) (i : Fin 128) (j : Fin 256) :
    @Eq EReal (View.ld (iblk m c 11 t) (Rect.unit (s := S8x128x256) ![h₀, 0, 0] ![1, 128, 256] inb) (ix3 0 i j))
      (B m c h₀ i) := by
  have hh : h₀ < 8 := inb 0
  refine Eq.trans (b := iblk m c 11 t (ix3 ⟨h₀, hh⟩ i j)) ?_ (by rw [blk11, bias_at, B, dif_pos hh])
  exact View.ld_unit_apply_of _ _ _ _ _ _ fun a => by fin_cases a <;> simp

/-- A head of the carried state. -/
theorem ldS (X : S8x256x256.Idx → EReal) (h₀ : ℕ) (inb) (hh : h₀ < 8) (d e : Fin 256) :
    @Eq EReal (View.ld (Val := Elt Ideal) (e' := EltTy.f32) X (Rect.unit (s := S8x256x256) ![h₀, 0, 0] ![1, 256, 256] inb) (ix3 0 d e))
      (X (ix3 ⟨h₀, hh⟩ d e)) :=
  View.ld_unit_apply_of _ _ _ _ _ _ fun a => by fin_cases a <;> simp

end Cert.KernelIdeal.Loads

end
-- ==== Proof.Gating.lean ====
/- The scalars of the gating: the tanh form of the activation as each program writes it, the causal mask, and the gated
   value. -/
module

public import proofs.«01_k».proof.Proof.Spec

@[expose] public section

noncomputable section

namespace Cert.Gating

open Idealize.ShloMosaic

/-- The two constants of the activation, `√(2/π)` and `0.044715` rounded to 24 bits. -/
def rootC : ℝ := 13386282 / 16777216
def cubeA : ℝ := 12003091 / 268435456

theorem rootC_eq : Ideal.ofBits .f32 1061962282#32 = (rootC : EReal) := by
  unfold rootC
  simp [Ideal.ofBits, Ideal.ieee, -EReal.coe_mul]; norm_num
theorem cubeA_eq : Ideal.ofBits .f32 1027024659#32 = (cubeA : EReal) := by
  unfold cubeA
  simp [Ideal.ofBits, Ideal.ieee, -EReal.coe_mul]; norm_num

/-- The activation of a real. -/
def act (x : ℝ) : ℝ := 1 / 2 * x * (1 + Real.tanh (rootC * (x + cubeA * (x * x * x))))

theorem kernel_act (x : ℝ) (CA : EReal) (hCA : CA = ((80338380498831 / 2251799813685248 : ℝ) : EReal)) :
    Ideal.ofBits .f32 1056964608#32 * (x : EReal) + Ideal.ofBits .f32 1056964608#32 * (x : EReal)
      * Ideal.tanh ((x : EReal) * (Ideal.ofBits .f32 1061962282#32 + CA * ((x : EReal) * (x : EReal)))) = (act x : EReal) := by
  rw [hCA, Decay.half, rootC_eq]
  simp only [← EReal.coe_mul, ← EReal.coe_add, Ideal.tanh_coe]
  have e : x * (rootC + 80338380498831 / 2251799813685248 * (x * x)) = rootC * (x + cubeA * (x * x * x)) := by
    unfold rootC cubeA; ring
  rw [e]
  unfold act
  congr 1
  ring

theorem host_act (x : ℝ) :
    (x : EReal) * (Ideal.ofBits .f32 1056964608#32 * (1 + Ideal.tanh (Ideal.ofBits .f32 1061962282#32
      * ((x : EReal) + Ideal.ofBits .f32 1027024659#32 * ((x : EReal) * (x : EReal) * (x : EReal)))))) = (act x : EReal) := by
  rw [Decay.half, rootC_eq, cubeA_eq, ← EReal.coe_one]
  simp only [← EReal.coe_mul, ← EReal.coe_add, Ideal.tanh_coe]
  unfold act
  congr 1
  ring

/-- The causal mask. -/
def mask (i j : ℕ) : EReal := if j ≤ i then 1 else 0

theorem sge_eq (i j : ℕ) (hi : i < 1073741824) (hj : j < 1073741824) :
    IntOp.cmpi .sge (BitVec.ofNat 32 i) (BitVec.ofNat 32 j) = if j ≤ i then 1#1 else 0#1 := by
  have e : (BitVec.ofNat 32 j).sle (BitVec.ofNat 32 i) = decide (j ≤ i) := by
    rw [BitVec.sle, Decay.toInt_ofNat j (by omega), Decay.toInt_ofNat i (by omega)]
    simp
  show BitVec.ofBool ((BitVec.ofNat 32 j).sle (BitVec.ofNat 32 i)) = _
  rw [e]
  by_cases h : j ≤ i <;> simp [h]

theorem kernel_mask (i j : ℕ) (hi : i < 1073741824) (hj : j < 1073741824) :
    (FloatOps.sitofp (F := Ideal) .f32 (BitVec.setWidth 32 (IntOp.cmpi .sge (BitVec.ofNat 32 i) (BitVec.ofNat 32 j))) : EReal)
      = mask i j := by
  rw [sge_eq i j hi hj, mask]
  by_cases h : j ≤ i
  · rw [if_pos h, if_pos h]
    exact (Decay.word 1 (by omega)).trans (by simp)
  · rw [if_neg h, if_neg h]
    exact (Decay.word 0 (by omega)).trans (by simp)

/-- The gated value of row `i` of the 128 rows from `r`, group `g`, lane `e`. -/
def gated (A : Fin 16384 → Fin 12288 → EReal) (W : ℕ → Fin 128 → Fin 128 → EReal) (B : ℕ → Fin 128 → EReal)
    (r g : ℕ) (i : Fin 128) (e : Fin 256) : EReal :=
  (act (Spec.ent A (r + i) (8192 + (g * 256 + e))).toReal : EReal)
    * (∑ j : Fin 128, W g i j * mask i j * Spec.ent A (r + j) (10240 + (g * 256 + e)) + B g i)

end Cert.Gating

end
-- ==== Proof.KGate.lean ====
/- One chunk of one group of one point: the stored gated values. -/
module

public import proofs.«01_k».proof.Proof.Gating
public import proofs.«01_k».proof.Proof.KHeads

@[expose] public section

set_option maxRecDepth 16384

noncomputable section

namespace Cert.KernelIdeal.Gate

open Idealize.ShloMosaic Idealize.ShloMosaic.TcCoe Idealize.SL.Sem
open Cert.KernelIdeal Cert.KernelIdeal.Gen

theorem cubic : Named.named (F := Ideal) Cert.KernelIdeal.κ "gelu_ca" (φ := .f32) 1024598649#32
    = ((80338380498831 / 2251799813685248 : ℝ) : EReal) :=
  IdealRules.named_const.ideal_named_scalar _ _ _ _ rfl

theorem gated_core (A : Fin 16384 → Fin 12288 → EReal) (hU : Spec.RealU A) (W : ℕ → Fin 128 → Fin 128 → EReal)
    (B : ℕ → Fin 128 → EReal) (r g : ℕ) (hg : g < 8)
    (w : FVec Ideal S1x128x128 .f32) (b : FVec Ideal S1x128x256 .f32) (vg u : FVec Ideal S128x256 .bf16)
    (hw : ∀ i j : Fin 128, @Eq EReal (w (ix3 0 i j)) (W g i j))
    (hb : ∀ (i : Fin 128) (d : Fin 256), @Eq EReal (b (ix3 0 i d)) (B g i))
    (hv : ∀ (i : Fin 128) (d : Fin 256), @Eq EReal (vg (ix2 i d)) (Spec.ent A (r + i) (10240 + (g * 256 + d))))
    (hu : ∀ (i : Fin 128) (d : Fin 256), @Eq EReal (u (ix2 i d)) (Spec.ent A (r + i) (8192 + (g * 256 + d))))
    (i : Fin 128) (e : Fin 256) :
    @Eq EReal (k0_pay92 (F := Ideal) w b vg u (ix2 i e)) (Gating.gated A W B r g i e) := by
  have hm : ∀ j : Fin 128, w (ix3 0 i j) * FloatOps.sitofp (F := Ideal) .f32
        (BitVec.setWidth 32 (IntOp.cmpi .sge (BitVec.ofNat 32 (i : ℕ)) (BitVec.ofNat 32 (j : ℕ)))) * vg (ix2 j e)
      = W g i j * Gating.mask i j * Spec.ent A (r + j) (10240 + (g * 256 + e)) := fun j => by
    rw [hw, hv, Gating.kernel_mask i j (by omega) (by omega)]
  have ha := Gating.kernel_act (Spec.ent A (r + i) (8192 + (g * 256 + e))).toReal _ cubic
  rw [← hU _ _ (by omega) (by omega), ← hu] at ha
  pointwise [k0_pay92, k0_pay91, k0_pay90, k0_pay89, hm, ha, hb]
  rw [Gating.gated, hu]

theorem gated_head (A : Fin 16384 → Fin 12288 → EReal) (hU : Spec.RealU A) (W : ℕ → Fin 128 → Fin 128 → EReal)
    (B : ℕ → Fin 128 → EReal) (r g : ℕ) (hg : g < 8)
    (w : FVec Ideal S1x128x128 .f32) (b : FVec Ideal S1x128x256 .f32) (vg u : FVec Ideal S128x256 .bf16)
    (hw : ∀ i j : Fin 128, @Eq EReal (w (ix3 0 i j)) (W g i j))
    (hb : ∀ (i : Fin 128) (d : Fin 256), @Eq EReal (b (ix3 0 i d)) (B g i))
    (hv : ∀ (i : Fin 128) (d : Fin 256), @Eq EReal (vg (ix2 i d)) (Spec.ent A (r + i) (10240 + (g * 256 + d))))
    (hu : ∀ (i : Fin 128) (d : Fin 256), @Eq EReal (u (ix2 i d)) (Spec.ent A (r + i) (8192 + (g * 256 + d))))
    (x : S128x256.Idx) :
    @Eq EReal (k0_pay92 (F := Ideal) w b vg u x) (Gating.gated A W B r g (x 0) (x 1)) := by
  idx_vars x
  exact gated_core A hU W B r g hg w b vg u hw hb hv hu _ _

end Cert.KernelIdeal.Gate

end
-- ==== Proof.KGoals.lean ====
/- What one point of the grid leaves in its three buffers. -/
module

public import proofs.«01_k».proof.Proof.KLoads
public import proofs.«01_k».proof.Proof.KGate
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Point

open Idealize.ShloMosaic Idealize.ShloMosaic.TcCoe Idealize.SL.Sem
open Cert.KernelIdeal Cert.KernelIdeal.Gen Cert.KernelIdeal.Blocks Cert.KernelIdeal.Loads

theorem state_goal (A : Fin 16384 → Fin 12288 → EReal) (b n hd : ℕ) (p : FVec Ideal S1x256x256 .f32) (y : S8x256x256.Idx)
    (x : S1x256x256.Idx) (h0 : (y 0 : ℕ) = hd + (x 0 : ℕ)) (h1 : (y 1 : ℕ) = (x 1 : ℕ)) (h2 : (y 2 : ℕ) = (x 2 : ℕ))
    (hp : ∀ d e : Fin 256, @Eq EReal (p (ix3 0 d e))
      (Retention.state (Decay.lam hd) (Spec.seq A 2048 b hd) (Spec.seq A 4096 b hd) n d e : ℝ)) :
    @Eq EReal (p x) (Retention.state (Decay.lam (y 0 : ℕ)) (Spec.seq A 2048 b (y 0 : ℕ)) (Spec.seq A 4096 b (y 0 : ℕ)) n
      (y 1 : Fin 256) (y 2 : Fin 256) : ℝ) := by
  have e0 : (y 0 : ℕ) = hd := by have : (x 0 : ℕ) < 1 := (x 0).isLt; omega
  have e1 : (y 1 : Fin 256) = x 1 := Fin.ext h1
  have e2 : (y 2 : Fin 256) = x 2 := Fin.ext h2
  rw [e0, e1, e2, ← hp (x 1) (x 2)]
  refine congrArg p (funext fun a => ?_)
  fin_cases a
  · exact Subsingleton.elim (α := Fin 1) _ _
  · rfl
  · rfl

/-- The state of one head after one chunk, as the operations stand in a block. -/
theorem state_raw (A : Fin 16384 → Fin 12288 → EReal) (hR : Spec.Real3 A) (b hd n r : ℕ) (hh : hd < 8) (hr : r = b * 4096 + n)
    (K W : FVec Ideal S256x256 .bf16) (st Z : FVec Ideal S1x256x256 .f32) (cd : FVec Ideal S1x1x256 .f32)
    (hK : ∀ i d : Fin 256, @Eq EReal (K (ix2 i d)) (Spec.ent A (r + i) (2048 + (hd * 256 + d))))
    (hW : ∀ i d : Fin 256, @Eq EReal (W (ix2 i d)) (Spec.ent A (r + i) (4096 + (hd * 256 + d))))
    (hS : ∀ d e : Fin 256, @Eq EReal (st (ix3 0 d e))
      (Retention.state (Decay.lam hd) (Spec.seq A 2048 b hd) (Spec.seq A 4096 b hd) n d e : ℝ))
    (hc : ∀ d : Fin 256, @Eq EReal (cd (ix3 0 0 d)) (Real.exp (Decay.lam hd * ((256 : ℕ) : ℝ)) : ℝ))
    (hZ : ∀ i d : Fin 256, @Eq EReal (Z (ix3 0 i d)) (Real.exp (Decay.lam hd * (((256 : ℕ) : ℝ) - 1 - (i : ℕ))) : ℝ))
    (h1 h2 h3 h4 h5 h6 h7) (d e : Fin 256) :
    @Eq EReal (shapeCast S1x256x256 (addf (mulf (shapeCast S256x256 st h1) (broadcastTo S256x256 (shapeCast S1x256 cd h2) h3))
      (matmul dot_S256x256_S256x256_S256x256_0_0_1_1_n_n none (truncf .bf16 (mulf (extf .f32 K h4) (shapeCast S256x256 Z h5)) h6) W
        (constant S256x256 .f32 0#32))) h7 (ix3 0 d e))
      (Retention.state (Decay.lam hd) (Spec.seq A 2048 b hd) (Spec.seq A 4096 b hd) (n + 256) d e : ℝ) :=
  Heads.state_head A hR b hd n r hh hr K W st Z cd hK hW hS hc hZ d e

theorem ret_goal (A : Fin 16384 → Fin 12288 → EReal) (b n u hd : ℕ) (p : FVec Ideal S256x256 .bf16) (y : S512x2048.Idx)
    (x : S256x256.Idx) (h0 : (y 0 : ℕ) = u + (x 0 : ℕ)) (h1 : (y 1 : ℕ) = hd * 256 + (x 1 : ℕ))
    (hp : @Eq EReal (p x) (Spec.ret A b hd (n + u + (x 0 : Fin 256)) (x 1))) :
    @Eq EReal (p x) (Spec.ret A b ((y 1 : ℕ) / 256) (n + (y 0 : ℕ)) ⟨(y 1 : ℕ) % 256, Nat.mod_lt _ (by omega)⟩) := by
  have hx : (x 1 : ℕ) < 256 := (x 1).isLt
  have e1 : (y 1 : ℕ) / 256 = hd := by omega
  have e2 : (⟨(y 1 : ℕ) % 256, Nat.mod_lt _ (by omega)⟩ : Fin 256) = x 1 := Fin.ext (by show (y 1 : ℕ) % 256 = (x 1 : ℕ); omega)
  rw [hp, e1, e2, h0, Nat.add_assoc]

theorem gate_goal (A : Fin 16384 → Fin 12288 → EReal) (W : ℕ → Fin 128 → Fin 128 → EReal) (B : ℕ → Fin 128 → EReal)
    (r u g : ℕ) (p : FVec Ideal S128x256 .bf16) (y : S512x2048.Idx) (x : S128x256.Idx)
    (h0 : (y 0 : ℕ) = u * 128 + (x 0 : ℕ)) (h1 : (y 1 : ℕ) = g * 256 + (x 1 : ℕ))
    (hp : @Eq EReal (p x) (Gating.gated A W B (r + u * 128) g (x 0) (x 1))) :
    @Eq EReal (p x) (Gating.gated A W B (r + (y 0 : ℕ) / 128 * 128) ((y 1 : ℕ) / 256)
      ⟨(y 0 : ℕ) % 128, Nat.mod_lt _ (by omega)⟩ ⟨(y 1 : ℕ) % 256, Nat.mod_lt _ (by omega)⟩) := by
  have hx0 : (x 0 : ℕ) < 128 := (x 0).isLt
  have hx : (x 1 : ℕ) < 256 := (x 1).isLt
  have e0 : (y 0 : ℕ) / 128 = u := by omega
  have e1 : (y 1 : ℕ) / 256 = g := by omega
  have e2 : (⟨(y 1 : ℕ) % 256, Nat.mod_lt _ (by omega)⟩ : Fin 256) = x 1 := Fin.ext (by show (y 1 : ℕ) % 256 = (x 1 : ℕ); omega)
  have e3 : (⟨(y 0 : ℕ) % 128, Nat.mod_lt _ (by omega)⟩ : Fin 128) = x 0 := Fin.ext (by show (y 0 : ℕ) % 128 = (x 0 : ℕ); omega)
  rw [hp, e0, e1, e2, e3]

variable (m : (ℓ : Loc nD τ sig) → Buf (Elt Ideal) ℓ) (c : Dev nD)

/-- The carried state before the tokens from `n`. -/
def Holds (X : S8x256x256.Idx → EReal) (b n : ℕ) : Prop :=
  ∀ (h : Fin 8) (d e : Fin 256), X (ix3 h d e)
    = (Retention.state (Decay.lam h) (Spec.seq (A m c) 2048 b h) (Spec.seq (A m c) 4096 b h) n d e : ℝ)

theorem holds_zero (b : ℕ) (w) :
    Holds m c (shapeCast S8x256x256 (broadcast S8x256x256 (FloatOps.ofBits (F := Ideal) .f32 0#32)) w) b 0 := fun h d e => by
  rw [Retention.state_zero]
  pointwise
  exact EReal.coe_zero.symm

end Cert.KernelIdeal.Point

end
-- ==== Proof.KStateA.lean ====
/- What a first point of a batch leaves in the carried state. -/
module

public import proofs.«01_k».proof.Proof.KGoals
public import proofs.«01_k».proof.Proof.KLoads
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Point

open Idealize.ShloMosaic Idealize.ShloMosaic.TcCoe Idealize.SL.Sem
open Cert.KernelIdeal Cert.KernelIdeal.Gen Cert.KernelIdeal.Blocks Cert.KernelIdeal.Loads

variable (m : (ℓ : Loc nD τ sig) → Buf (Elt Ideal) ℓ) (c : Dev nD)

set_option maxHeartbeats 8000000 in
theorem state_A (t : Fin cfg0.N) (h : t.val % 8 = 0) (b n : ℕ) (hr : t.val * 512 + 0 = b * 4096 + n) (hR : Spec.Real3 (A m c)) (hn : n = 0)
    (y : S8x256x256.Idx) : @Eq EReal ((outsAt0 m c t.val t.isLt).2.2 y)
    (Retention.state (Decay.lam (y 0 : ℕ)) (Spec.seq (A m c) 2048 b (y 0 : ℕ)) (Spec.seq (A m c) 4096 b (y 0 : ℕ)) (n + 256 + 256)
      (y 1 : Fin 256) (y 2 : Fin 256) : ℝ) := by
  subst hn
  rw [outsAt0_A m c t h]
  frame_open
  simp (disch := decide) only [↓ View.readCov_skip, ↓ View.readCov_cons_toLoadRect, ↓ View.readCov_fill]
  frame_out
  rw [eight_pairs]
  refine (drop_tail [_] [_, _, _, _, _, _, _, _] y (View.cover_of_tiled_head _ _ _ (by rfl) y)).trans ?_
  canon_tiles x h
  case piece0 =>
    refine state_goal _ _ _ 7 _ y x (by omega) h1 h2 ?_
    exact state_raw (A m c) hR b 7 (0 + 256) _ (by omega)
      (by omega : t.val * 512 + 256 = b * 4096 + (0 + 256)) _ _ _ _ _ (ld1 m c t 256 1792 _) (ld2 m c t 256 1792 _)
      (state_raw (A m c) hR b 7 0 _ (by omega) hr _ _ _ _ _ (ld1 m c t 0 1792 _) (ld2 m c t 0 1792 _)
        (fun d e => (ldS _ 7 _ (by omega) d e).trans (holds_zero m c b _ 7 d e)) (ld7 m c t 7 _) (ld6 m c t 7 _) _ _ _ _ _ _ _) (ld7 m c t 7 _) (ld6 m c t 7 _) _ _ _ _ _ _ _
  case piece1 =>
    refine state_goal _ _ _ 6 _ y x (by omega) h1 h2 ?_
    exact state_raw (A m c) hR b 6 (0 + 256) _ (by omega)
      (by omega : t.val * 512 + 256 = b * 4096 + (0 + 256)) _ _ _ _ _ (ld1 m c t 256 1536 _) (ld2 m c t 256 1536 _)
      (state_raw (A m c) hR b 6 0 _ (by omega) hr _ _ _ _ _ (ld1 m c t 0 1536 _) (ld2 m c t 0 1536 _)
        (fun d e => (ldS _ 6 _ (by omega) d e).trans (holds_zero m c b _ 6 d e)) (ld7 m c t 6 _) (ld6 m c t 6 _) _ _ _ _ _ _ _) (ld7 m c t 6 _) (ld6 m c t 6 _) _ _ _ _ _ _ _
  case piece2 =>
    refine state_goal _ _ _ 5 _ y x (by omega) h1 h2 ?_
    exact state_raw (A m c) hR b 5 (0 + 256) _ (by omega)
      (by omega : t.val * 512 + 256 = b * 4096 + (0 + 256)) _ _ _ _ _ (ld1 m c t 256 1280 _) (ld2 m c t 256 1280 _)
      (state_raw (A m c) hR b 5 0 _ (by omega) hr _ _ _ _ _ (ld1 m c t 0 1280 _) (ld2 m c t 0 1280 _)
        (fun d e => (ldS _ 5 _ (by omega) d e).trans (holds_zero m c b _ 5 d e)) (ld7 m c t 5 _) (ld6 m c t 5 _) _ _ _ _ _ _ _) (ld7 m c t 5 _) (ld6 m c t 5 _) _ _ _ _ _ _ _
  case piece3 =>
    refine state_goal _ _ _ 4 _ y x (by omega) h1 h2 ?_
    exact state_raw (A m c) hR b 4 (0 + 256) _ (by omega)
      (by omega : t.val * 512 + 256 = b * 4096 + (0 + 256)) _ _ _ _ _ (ld1 m c t 256 1024 _) (ld2 m c t 256 1024 _)
      (state_raw (A m c) hR b 4 0 _ (by omega) hr _ _ _ _ _ (ld1 m c t 0 1024 _) (ld2 m c t 0 1024 _)
        (fun d e => (ldS _ 4 _ (by omega) d e).trans (holds_zero m c b _ 4 d e)) (ld7 m c t 4 _) (ld6 m c t 4 _) _ _ _ _ _ _ _) (ld7 m c t 4 _) (ld6 m c t 4 _) _ _ _ _ _ _ _
  case piece4 =>
    refine state_goal _ _ _ 3 _ y x (by omega) h1 h2 ?_
    exact state_raw (A m c) hR b 3 (0 + 256) _ (by omega)
      (by omega : t.val * 512 + 256 = b * 4096 + (0 + 256)) _ _ _ _ _ (ld1 m c t 256 768 _) (ld2 m c t 256 768 _)
      (state_raw (A m c) hR b 3 0 _ (by omega) hr _ _ _ _ _ (ld1 m c t 0 768 _) (ld2 m c t 0 768 _)
        (fun d e => (ldS _ 3 _ (by omega) d e).trans (holds_zero m c b _ 3 d e)) (ld7 m c t 3 _) (ld6 m c t 3 _) _ _ _ _ _ _ _) (ld7 m c t 3 _) (ld6 m c t 3 _) _ _ _ _ _ _ _
  case piece5 =>
    refine state_goal _ _ _ 2 _ y x (by omega) h1 h2 ?_
    exact state_raw (A m c) hR b 2 (0 + 256) _ (by omega)
      (by omega : t.val * 512 + 256 = b * 4096 + (0 + 256)) _ _ _ _ _ (ld1 m c t 256 512 _) (ld2 m c t 256 512 _)
      (state_raw (A m c) hR b 2 0 _ (by omega) hr _ _ _ _ _ (ld1 m c t 0 512 _) (ld2 m c t 0 512 _)
        (fun d e => (ldS _ 2 _ (by omega) d e).trans (holds_zero m c b _ 2 d e)) (ld7 m c t 2 _) (ld6 m c t 2 _) _ _ _ _ _ _ _) (ld7 m c t 2 _) (ld6 m c t 2 _) _ _ _ _ _ _ _
  case piece6 =>
    refine state_goal _ _ _ 1 _ y x (by omega) h1 h2 ?_
    exact state_raw (A m c) hR b 1 (0 + 256) _ (by omega)
      (by omega : t.val * 512 + 256 = b * 4096 + (0 + 256)) _ _ _ _ _ (ld1 m c t 256 256 _) (ld2 m c t 256 256 _)
      (state_raw (A m c) hR b 1 0 _ (by omega) hr _ _ _ _ _ (ld1 m c t 0 256 _) (ld2 m c t 0 256 _)
        (fun d e => (ldS _ 1 _ (by omega) d e).trans (holds_zero m c b _ 1 d e)) (ld7 m c t 1 _) (ld6 m c t 1 _) _ _ _ _ _ _ _) (ld7 m c t 1 _) (ld6 m c t 1 _) _ _ _ _ _ _ _
  case piece7 =>
    refine state_goal _ _ _ 0 _ y x (by omega) h1 h2 ?_
    exact state_raw (A m c) hR b 0 (0 + 256) _ (by omega)
      (by omega : t.val * 512 + 256 = b * 4096 + (0 + 256)) _ _ _ _ _ (ld1 m c t 256 0 _) (ld2 m c t 256 0 _)
      (state_raw (A m c) hR b 0 0 _ (by omega) hr _ _ _ _ _ (ld1 m c t 0 0 _) (ld2 m c t 0 0 _)
        (fun d e => (ldS _ 0 _ (by omega) d e).trans (holds_zero m c b _ 0 d e)) (ld7 m c t 0 _) (ld6 m c t 0 _) _ _ _ _ _ _ _) (ld7 m c t 0 _) (ld6 m c t 0 _) _ _ _ _ _ _ _

end Cert.KernelIdeal.Point

end
-- ==== Proof.KStateB.lean ====
/- What a later point of a batch leaves in the carried state. -/
module

public import proofs.«01_k».proof.Proof.KGoals
public import proofs.«01_k».proof.Proof.KLoads
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Point

open Idealize.ShloMosaic Idealize.ShloMosaic.TcCoe Idealize.SL.Sem
open Cert.KernelIdeal Cert.KernelIdeal.Gen Cert.KernelIdeal.Blocks Cert.KernelIdeal.Loads

variable (m : (ℓ : Loc nD τ sig) → Buf (Elt Ideal) ℓ) (c : Dev nD)

set_option maxHeartbeats 8000000 in
theorem state_B (t : Fin cfg0.N) (h : ¬ t.val % 8 = 0) (b n : ℕ) (hr : t.val * 512 + 0 = b * 4096 + n) (hR : Spec.Real3 (A m c))
    (hX : ∀ ht, Holds m c (outsAt0 m c (t.val - 1) ht).2.2 b n)
    (y : S8x256x256.Idx) : @Eq EReal ((outsAt0 m c t.val t.isLt).2.2 y)
    (Retention.state (Decay.lam (y 0 : ℕ)) (Spec.seq (A m c) 2048 b (y 0 : ℕ)) (Spec.seq (A m c) 4096 b (y 0 : ℕ)) (n + 256 + 256)
      (y 1 : Fin 256) (y 2 : Fin 256) : ℝ) := by
  rw [outsAt0_B m c t h]
  frame_open
  simp (disch := decide) only [↓ View.readCov_skip, ↓ View.readCov_cons_toLoadRect, ↓ View.readCov_fill]
  frame_out
  simp only [read_unread_whole]
  rw [eight_pairs]
  canon_tiles x h
  case piece0 =>
    refine state_goal _ _ _ 7 _ y x (by omega) h1 h2 ?_
    exact state_raw (A m c) hR b 7 (n + 256) _ (by omega)
      (by omega : t.val * 512 + 256 = b * 4096 + (n + 256)) _ _ _ _ _ (ld1 m c t 256 1792 _) (ld2 m c t 256 1792 _)
      (state_raw (A m c) hR b 7 n _ (by omega) hr _ _ _ _ _ (ld1 m c t 0 1792 _) (ld2 m c t 0 1792 _)
        (fun d e => (ldS _ 7 _ (by omega) d e).trans (hX _ 7 d e)) (ld7 m c t 7 _) (ld6 m c t 7 _) _ _ _ _ _ _ _) (ld7 m c t 7 _) (ld6 m c t 7 _) _ _ _ _ _ _ _
  case piece1 =>
    refine state_goal _ _ _ 6 _ y x (by omega) h1 h2 ?_
    exact state_raw (A m c) hR b 6 (n + 256) _ (by omega)
      (by omega : t.val * 512 + 256 = b * 4096 + (n + 256)) _ _ _ _ _ (ld1 m c t 256 1536 _) (ld2 m c t 256 1536 _)
      (state_raw (A m c) hR b 6 n _ (by omega) hr _ _ _ _ _ (ld1 m c t 0 1536 _) (ld2 m c t 0 1536 _)
        (fun d e => (ldS _ 6 _ (by omega) d e).trans (hX _ 6 d e)) (ld7 m c t 6 _) (ld6 m c t 6 _) _ _ _ _ _ _ _) (ld7 m c t 6 _) (ld6 m c t 6 _) _ _ _ _ _ _ _
  case piece2 =>
    refine state_goal _ _ _ 5 _ y x (by omega) h1 h2 ?_
    exact state_raw (A m c) hR b 5 (n + 256) _ (by omega)
      (by omega : t.val * 512 + 256 = b * 4096 + (n + 256)) _ _ _ _ _ (ld1 m c t 256 1280 _) (ld2 m c t 256 1280 _)
      (state_raw (A m c) hR b 5 n _ (by omega) hr _ _ _ _ _ (ld1 m c t 0 1280 _) (ld2 m c t 0 1280 _)
        (fun d e => (ldS _ 5 _ (by omega) d e).trans (hX _ 5 d e)) (ld7 m c t 5 _) (ld6 m c t 5 _) _ _ _ _ _ _ _) (ld7 m c t 5 _) (ld6 m c t 5 _) _ _ _ _ _ _ _
  case piece3 =>
    refine state_goal _ _ _ 4 _ y x (by omega) h1 h2 ?_
    exact state_raw (A m c) hR b 4 (n + 256) _ (by omega)
      (by omega : t.val * 512 + 256 = b * 4096 + (n + 256)) _ _ _ _ _ (ld1 m c t 256 1024 _) (ld2 m c t 256 1024 _)
      (state_raw (A m c) hR b 4 n _ (by omega) hr _ _ _ _ _ (ld1 m c t 0 1024 _) (ld2 m c t 0 1024 _)
        (fun d e => (ldS _ 4 _ (by omega) d e).trans (hX _ 4 d e)) (ld7 m c t 4 _) (ld6 m c t 4 _) _ _ _ _ _ _ _) (ld7 m c t 4 _) (ld6 m c t 4 _) _ _ _ _ _ _ _
  case piece4 =>
    refine state_goal _ _ _ 3 _ y x (by omega) h1 h2 ?_
    exact state_raw (A m c) hR b 3 (n + 256) _ (by omega)
      (by omega : t.val * 512 + 256 = b * 4096 + (n + 256)) _ _ _ _ _ (ld1 m c t 256 768 _) (ld2 m c t 256 768 _)
      (state_raw (A m c) hR b 3 n _ (by omega) hr _ _ _ _ _ (ld1 m c t 0 768 _) (ld2 m c t 0 768 _)
        (fun d e => (ldS _ 3 _ (by omega) d e).trans (hX _ 3 d e)) (ld7 m c t 3 _) (ld6 m c t 3 _) _ _ _ _ _ _ _) (ld7 m c t 3 _) (ld6 m c t 3 _) _ _ _ _ _ _ _
  case piece5 =>
    refine state_goal _ _ _ 2 _ y x (by omega) h1 h2 ?_
    exact state_raw (A m c) hR b 2 (n + 256) _ (by omega)
      (by omega : t.val * 512 + 256 = b * 4096 + (n + 256)) _ _ _ _ _ (ld1 m c t 256 512 _) (ld2 m c t 256 512 _)
      (state_raw (A m c) hR b 2 n _ (by omega) hr _ _ _ _ _ (ld1 m c t 0 512 _) (ld2 m c t 0 512 _)
        (fun d e => (ldS _ 2 _ (by omega) d e).trans (hX _ 2 d e)) (ld7 m c t 2 _) (ld6 m c t 2 _) _ _ _ _ _ _ _) (ld7 m c t 2 _) (ld6 m c t 2 _) _ _ _ _ _ _ _
  case piece6 =>
    refine state_goal _ _ _ 1 _ y x (by omega) h1 h2 ?_
    exact state_raw (A m c) hR b 1 (n + 256) _ (by omega)
      (by omega : t.val * 512 + 256 = b * 4096 + (n + 256)) _ _ _ _ _ (ld1 m c t 256 256 _) (ld2 m c t 256 256 _)
      (state_raw (A m c) hR b 1 n _ (by omega) hr _ _ _ _ _ (ld1 m c t 0 256 _) (ld2 m c t 0 256 _)
        (fun d e => (ldS _ 1 _ (by omega) d e).trans (hX _ 1 d e)) (ld7 m c t 1 _) (ld6 m c t 1 _) _ _ _ _ _ _ _) (ld7 m c t 1 _) (ld6 m c t 1 _) _ _ _ _ _ _ _
  case piece7 =>
    refine state_goal _ _ _ 0 _ y x (by omega) h1 h2 ?_
    exact state_raw (A m c) hR b 0 (n + 256) _ (by omega)
      (by omega : t.val * 512 + 256 = b * 4096 + (n + 256)) _ _ _ _ _ (ld1 m c t 256 0 _) (ld2 m c t 256 0 _)
      (state_raw (A m c) hR b 0 n _ (by omega) hr _ _ _ _ _ (ld1 m c t 0 0 _) (ld2 m c t 0 0 _)
        (fun d e => (ldS _ 0 _ (by omega) d e).trans (hX _ 0 d e)) (ld7 m c t 0 _) (ld6 m c t 0 _) _ _ _ _ _ _ _) (ld7 m c t 0 _) (ld6 m c t 0 _) _ _ _ _ _ _ _

end Cert.KernelIdeal.Point

end
-- ==== Proof.KRetA.lean ====
/- What a first point of a batch leaves in the retention block. -/
module

public import proofs.«01_k».proof.Proof.KGoals
public import proofs.«01_k».proof.Proof.KLoads
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Point

open Idealize.ShloMosaic Idealize.ShloMosaic.TcCoe Idealize.SL.Sem
open Cert.KernelIdeal Cert.KernelIdeal.Gen Cert.KernelIdeal.Blocks Cert.KernelIdeal.Loads

variable (m : (ℓ : Loc nD τ sig) → Buf (Elt Ideal) ℓ) (c : Dev nD)

set_option maxHeartbeats 8000000 in
theorem ret_A (t : Fin cfg0.N) (h : t.val % 8 = 0) (b n : ℕ) (hr : t.val * 512 + 0 = b * 4096 + n) (hR : Spec.Real3 (A m c)) (hn : n = 0)
    (y : S512x2048.Idx) : @Eq EReal ((outsAt0 m c t.val t.isLt).1 y)
    (Spec.ret (A m c) b ((y 1 : ℕ) / 256) (n + (y 0 : ℕ)) ⟨(y 1 : ℕ) % 256, Nat.mod_lt _ (by omega)⟩) := by
  subst hn
  rw [outsAt0_A m c t h]
  frame_open
  simp (disch := decide) only [↓ View.readCov_skip, ↓ View.readCov_cons_toLoadRect, ↓ View.readCov_fill]
  frame_out
  canon_tiles x h
  case piece0 =>
    exact ret_goal _ b 0 256 7 _ y x (by omega) (by omega) (Heads.ret_head (A m c) hR b 7 (0 + 256) _ (by omega)
      (by omega : t.val * 512 + 256 = b * 4096 + (0 + 256)) _ _ _ _ _ _ _ (ld0 m c t 256 1792 _) (ld1 m c t 256 1792 _)
      (ld2 m c t 256 1792 _) (ld3 m c t 256 1792 _)
      (Heads.state_head (A m c) hR b 7 0 _ (by omega) hr _ _ _ _ _ (ld1 m c t 0 1792 _) (ld2 m c t 0 1792 _)
        (fun d e => (ldS _ 7 _ (by omega) d e).trans (holds_zero m c b _ 7 d e)) (ld7 m c t 7 _) (ld6 m c t 7 _)) (ld4 m c t 7 _) (ld5 m c t 7 _) x)
  case piece1 =>
    exact ret_goal _ b 0 0 7 _ y x (by omega) (by omega) (Heads.ret_head (A m c) hR b 7 (0 + 0) _ (by omega)
      (by omega : t.val * 512 + 0 = b * 4096 + (0 + 0)) _ _ _ _ _ _ _ (ld0 m c t 0 1792 _) (ld1 m c t 0 1792 _)
      (ld2 m c t 0 1792 _) (ld3 m c t 0 1792 _)
      (fun d e => (ldS _ 7 _ (by omega) d e).trans (holds_zero m c b _ 7 d e)) (ld4 m c t 7 _) (ld5 m c t 7 _) x)
  case piece2 =>
    exact ret_goal _ b 0 256 6 _ y x (by omega) (by omega) (Heads.ret_head (A m c) hR b 6 (0 + 256) _ (by omega)
      (by omega : t.val * 512 + 256 = b * 4096 + (0 + 256)) _ _ _ _ _ _ _ (ld0 m c t 256 1536 _) (ld1 m c t 256 1536 _)
      (ld2 m c t 256 1536 _) (ld3 m c t 256 1536 _)
      (Heads.state_head (A m c) hR b 6 0 _ (by omega) hr _ _ _ _ _ (ld1 m c t 0 1536 _) (ld2 m c t 0 1536 _)
        (fun d e => (ldS _ 6 _ (by omega) d e).trans (holds_zero m c b _ 6 d e)) (ld7 m c t 6 _) (ld6 m c t 6 _)) (ld4 m c t 6 _) (ld5 m c t 6 _) x)
  case piece3 =>
    exact ret_goal _ b 0 0 6 _ y x (by omega) (by omega) (Heads.ret_head (A m c) hR b 6 (0 + 0) _ (by omega)
      (by omega : t.val * 512 + 0 = b * 4096 + (0 + 0)) _ _ _ _ _ _ _ (ld0 m c t 0 1536 _) (ld1 m c t 0 1536 _)
      (ld2 m c t 0 1536 _) (ld3 m c t 0 1536 _)
      (fun d e => (ldS _ 6 _ (by omega) d e).trans (holds_zero m c b _ 6 d e)) (ld4 m c t 6 _) (ld5 m c t 6 _) x)
  case piece4 =>
    exact ret_goal _ b 0 256 5 _ y x (by omega) (by omega) (Heads.ret_head (A m c) hR b 5 (0 + 256) _ (by omega)
      (by omega : t.val * 512 + 256 = b * 4096 + (0 + 256)) _ _ _ _ _ _ _ (ld0 m c t 256 1280 _) (ld1 m c t 256 1280 _)
      (ld2 m c t 256 1280 _) (ld3 m c t 256 1280 _)
      (Heads.state_head (A m c) hR b 5 0 _ (by omega) hr _ _ _ _ _ (ld1 m c t 0 1280 _) (ld2 m c t 0 1280 _)
        (fun d e => (ldS _ 5 _ (by omega) d e).trans (holds_zero m c b _ 5 d e)) (ld7 m c t 5 _) (ld6 m c t 5 _)) (ld4 m c t 5 _) (ld5 m c t 5 _) x)
  case piece5 =>
    exact ret_goal _ b 0 0 5 _ y x (by omega) (by omega) (Heads.ret_head (A m c) hR b 5 (0 + 0) _ (by omega)
      (by omega : t.val * 512 + 0 = b * 4096 + (0 + 0)) _ _ _ _ _ _ _ (ld0 m c t 0 1280 _) (ld1 m c t 0 1280 _)
      (ld2 m c t 0 1280 _) (ld3 m c t 0 1280 _)
      (fun d e => (ldS _ 5 _ (by omega) d e).trans (holds_zero m c b _ 5 d e)) (ld4 m c t 5 _) (ld5 m c t 5 _) x)
  case piece6 =>
    exact ret_goal _ b 0 256 4 _ y x (by omega) (by omega) (Heads.ret_head (A m c) hR b 4 (0 + 256) _ (by omega)
      (by omega : t.val * 512 + 256 = b * 4096 + (0 + 256)) _ _ _ _ _ _ _ (ld0 m c t 256 1024 _) (ld1 m c t 256 1024 _)
      (ld2 m c t 256 1024 _) (ld3 m c t 256 1024 _)
      (Heads.state_head (A m c) hR b 4 0 _ (by omega) hr _ _ _ _ _ (ld1 m c t 0 1024 _) (ld2 m c t 0 1024 _)
        (fun d e => (ldS _ 4 _ (by omega) d e).trans (holds_zero m c b _ 4 d e)) (ld7 m c t 4 _) (ld6 m c t 4 _)) (ld4 m c t 4 _) (ld5 m c t 4 _) x)
  case piece7 =>
    exact ret_goal _ b 0 0 4 _ y x (by omega) (by omega) (Heads.ret_head (A m c) hR b 4 (0 + 0) _ (by omega)
      (by omega : t.val * 512 + 0 = b * 4096 + (0 + 0)) _ _ _ _ _ _ _ (ld0 m c t 0 1024 _) (ld1 m c t 0 1024 _)
      (ld2 m c t 0 1024 _) (ld3 m c t 0 1024 _)
      (fun d e => (ldS _ 4 _ (by omega) d e).trans (holds_zero m c b _ 4 d e)) (ld4 m c t 4 _) (ld5 m c t 4 _) x)
  case piece8 =>
    exact ret_goal _ b 0 256 3 _ y x (by omega) (by omega) (Heads.ret_head (A m c) hR b 3 (0 + 256) _ (by omega)
      (by omega : t.val * 512 + 256 = b * 4096 + (0 + 256)) _ _ _ _ _ _ _ (ld0 m c t 256 768 _) (ld1 m c t 256 768 _)
      (ld2 m c t 256 768 _) (ld3 m c t 256 768 _)
      (Heads.state_head (A m c) hR b 3 0 _ (by omega) hr _ _ _ _ _ (ld1 m c t 0 768 _) (ld2 m c t 0 768 _)
        (fun d e => (ldS _ 3 _ (by omega) d e).trans (holds_zero m c b _ 3 d e)) (ld7 m c t 3 _) (ld6 m c t 3 _)) (ld4 m c t 3 _) (ld5 m c t 3 _) x)
  case piece9 =>
    exact ret_goal _ b 0 0 3 _ y x (by omega) (by omega) (Heads.ret_head (A m c) hR b 3 (0 + 0) _ (by omega)
      (by omega : t.val * 512 + 0 = b * 4096 + (0 + 0)) _ _ _ _ _ _ _ (ld0 m c t 0 768 _) (ld1 m c t 0 768 _)
      (ld2 m c t 0 768 _) (ld3 m c t 0 768 _)
      (fun d e => (ldS _ 3 _ (by omega) d e).trans (holds_zero m c b _ 3 d e)) (ld4 m c t 3 _) (ld5 m c t 3 _) x)
  case piece10 =>
    exact ret_goal _ b 0 256 2 _ y x (by omega) (by omega) (Heads.ret_head (A m c) hR b 2 (0 + 256) _ (by omega)
      (by omega : t.val * 512 + 256 = b * 4096 + (0 + 256)) _ _ _ _ _ _ _ (ld0 m c t 256 512 _) (ld1 m c t 256 512 _)
      (ld2 m c t 256 512 _) (ld3 m c t 256 512 _)
      (Heads.state_head (A m c) hR b 2 0 _ (by omega) hr _ _ _ _ _ (ld1 m c t 0 512 _) (ld2 m c t 0 512 _)
        (fun d e => (ldS _ 2 _ (by omega) d e).trans (holds_zero m c b _ 2 d e)) (ld7 m c t 2 _) (ld6 m c t 2 _)) (ld4 m c t 2 _) (ld5 m c t 2 _) x)
  case piece11 =>
    exact ret_goal _ b 0 0 2 _ y x (by omega) (by omega) (Heads.ret_head (A m c) hR b 2 (0 + 0) _ (by omega)
      (by omega : t.val * 512 + 0 = b * 4096 + (0 + 0)) _ _ _ _ _ _ _ (ld0 m c t 0 512 _) (ld1 m c t 0 512 _)
      (ld2 m c t 0 512 _) (ld3 m c t 0 512 _)
      (fun d e => (ldS _ 2 _ (by omega) d e).trans (holds_zero m c b _ 2 d e)) (ld4 m c t 2 _) (ld5 m c t 2 _) x)
  case piece12 =>
    exact ret_goal _ b 0 256 1 _ y x (by omega) (by omega) (Heads.ret_head (A m c) hR b 1 (0 + 256) _ (by omega)
      (by omega : t.val * 512 + 256 = b * 4096 + (0 + 256)) _ _ _ _ _ _ _ (ld0 m c t 256 256 _) (ld1 m c t 256 256 _)
      (ld2 m c t 256 256 _) (ld3 m c t 256 256 _)
      (Heads.state_head (A m c) hR b 1 0 _ (by omega) hr _ _ _ _ _ (ld1 m c t 0 256 _) (ld2 m c t 0 256 _)
        (fun d e => (ldS _ 1 _ (by omega) d e).trans (holds_zero m c b _ 1 d e)) (ld7 m c t 1 _) (ld6 m c t 1 _)) (ld4 m c t 1 _) (ld5 m c t 1 _) x)
  case piece13 =>
    exact ret_goal _ b 0 0 1 _ y x (by omega) (by omega) (Heads.ret_head (A m c) hR b 1 (0 + 0) _ (by omega)
      (by omega : t.val * 512 + 0 = b * 4096 + (0 + 0)) _ _ _ _ _ _ _ (ld0 m c t 0 256 _) (ld1 m c t 0 256 _)
      (ld2 m c t 0 256 _) (ld3 m c t 0 256 _)
      (fun d e => (ldS _ 1 _ (by omega) d e).trans (holds_zero m c b _ 1 d e)) (ld4 m c t 1 _) (ld5 m c t 1 _) x)
  case piece14 =>
    exact ret_goal _ b 0 256 0 _ y x (by omega) (by omega) (Heads.ret_head (A m c) hR b 0 (0 + 256) _ (by omega)
      (by omega : t.val * 512 + 256 = b * 4096 + (0 + 256)) _ _ _ _ _ _ _ (ld0 m c t 256 0 _) (ld1 m c t 256 0 _)
      (ld2 m c t 256 0 _) (ld3 m c t 256 0 _)
      (Heads.state_head (A m c) hR b 0 0 _ (by omega) hr _ _ _ _ _ (ld1 m c t 0 0 _) (ld2 m c t 0 0 _)
        (fun d e => (ldS _ 0 _ (by omega) d e).trans (holds_zero m c b _ 0 d e)) (ld7 m c t 0 _) (ld6 m c t 0 _)) (ld4 m c t 0 _) (ld5 m c t 0 _) x)
  case piece15 =>
    exact ret_goal _ b 0 0 0 _ y x (by omega) (by omega) (Heads.ret_head (A m c) hR b 0 (0 + 0) _ (by omega)
      (by omega : t.val * 512 + 0 = b * 4096 + (0 + 0)) _ _ _ _ _ _ _ (ld0 m c t 0 0 _) (ld1 m c t 0 0 _)
      (ld2 m c t 0 0 _) (ld3 m c t 0 0 _)
      (fun d e => (ldS _ 0 _ (by omega) d e).trans (holds_zero m c b _ 0 d e)) (ld4 m c t 0 _) (ld5 m c t 0 _) x)

end Cert.KernelIdeal.Point

end
-- ==== Proof.KRetB.lean ====
/- What a later point of a batch leaves in the retention block. -/
module

public import proofs.«01_k».proof.Proof.KGoals
public import proofs.«01_k».proof.Proof.KLoads
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Point

open Idealize.ShloMosaic Idealize.ShloMosaic.TcCoe Idealize.SL.Sem
open Cert.KernelIdeal Cert.KernelIdeal.Gen Cert.KernelIdeal.Blocks Cert.KernelIdeal.Loads

variable (m : (ℓ : Loc nD τ sig) → Buf (Elt Ideal) ℓ) (c : Dev nD)

set_option maxHeartbeats 8000000 in
theorem ret_B (t : Fin cfg0.N) (h : ¬ t.val % 8 = 0) (b n : ℕ) (hr : t.val * 512 + 0 = b * 4096 + n) (hR : Spec.Real3 (A m c))
    (hX : ∀ ht, Holds m c (outsAt0 m c (t.val - 1) ht).2.2 b n)
    (y : S512x2048.Idx) : @Eq EReal ((outsAt0 m c t.val t.isLt).1 y)
    (Spec.ret (A m c) b ((y 1 : ℕ) / 256) (n + (y 0 : ℕ)) ⟨(y 1 : ℕ) % 256, Nat.mod_lt _ (by omega)⟩) := by
  rw [outsAt0_B m c t h]
  frame_open
  simp (disch := decide) only [↓ View.readCov_skip, ↓ View.readCov_cons_toLoadRect, ↓ View.readCov_fill]
  frame_out
  simp only [read_unread_whole]
  canon_tiles x h
  case piece0 =>
    exact ret_goal _ b n 256 7 _ y x (by omega) (by omega) (Heads.ret_head (A m c) hR b 7 (n + 256) _ (by omega)
      (by omega : t.val * 512 + 256 = b * 4096 + (n + 256)) _ _ _ _ _ _ _ (ld0 m c t 256 1792 _) (ld1 m c t 256 1792 _)
      (ld2 m c t 256 1792 _) (ld3 m c t 256 1792 _)
      (Heads.state_head (A m c) hR b 7 n _ (by omega) hr _ _ _ _ _ (ld1 m c t 0 1792 _) (ld2 m c t 0 1792 _)
        (fun d e => (ldS _ 7 _ (by omega) d e).trans (hX _ 7 d e)) (ld7 m c t 7 _) (ld6 m c t 7 _)) (ld4 m c t 7 _) (ld5 m c t 7 _) x)
  case piece1 =>
    exact ret_goal _ b n 0 7 _ y x (by omega) (by omega) (Heads.ret_head (A m c) hR b 7 (n + 0) _ (by omega)
      (by omega : t.val * 512 + 0 = b * 4096 + (n + 0)) _ _ _ _ _ _ _ (ld0 m c t 0 1792 _) (ld1 m c t 0 1792 _)
      (ld2 m c t 0 1792 _) (ld3 m c t 0 1792 _)
      (fun d e => (ldS _ 7 _ (by omega) d e).trans (hX _ 7 d e)) (ld4 m c t 7 _) (ld5 m c t 7 _) x)
  case piece2 =>
    exact ret_goal _ b n 256 6 _ y x (by omega) (by omega) (Heads.ret_head (A m c) hR b 6 (n + 256) _ (by omega)
      (by omega : t.val * 512 + 256 = b * 4096 + (n + 256)) _ _ _ _ _ _ _ (ld0 m c t 256 1536 _) (ld1 m c t 256 1536 _)
      (ld2 m c t 256 1536 _) (ld3 m c t 256 1536 _)
      (Heads.state_head (A m c) hR b 6 n _ (by omega) hr _ _ _ _ _ (ld1 m c t 0 1536 _) (ld2 m c t 0 1536 _)
        (fun d e => (ldS _ 6 _ (by omega) d e).trans (hX _ 6 d e)) (ld7 m c t 6 _) (ld6 m c t 6 _)) (ld4 m c t 6 _) (ld5 m c t 6 _) x)
  case piece3 =>
    exact ret_goal _ b n 0 6 _ y x (by omega) (by omega) (Heads.ret_head (A m c) hR b 6 (n + 0) _ (by omega)
      (by omega : t.val * 512 + 0 = b * 4096 + (n + 0)) _ _ _ _ _ _ _ (ld0 m c t 0 1536 _) (ld1 m c t 0 1536 _)
      (ld2 m c t 0 1536 _) (ld3 m c t 0 1536 _)
      (fun d e => (ldS _ 6 _ (by omega) d e).trans (hX _ 6 d e)) (ld4 m c t 6 _) (ld5 m c t 6 _) x)
  case piece4 =>
    exact ret_goal _ b n 256 5 _ y x (by omega) (by omega) (Heads.ret_head (A m c) hR b 5 (n + 256) _ (by omega)
      (by omega : t.val * 512 + 256 = b * 4096 + (n + 256)) _ _ _ _ _ _ _ (ld0 m c t 256 1280 _) (ld1 m c t 256 1280 _)
      (ld2 m c t 256 1280 _) (ld3 m c t 256 1280 _)
      (Heads.state_head (A m c) hR b 5 n _ (by omega) hr _ _ _ _ _ (ld1 m c t 0 1280 _) (ld2 m c t 0 1280 _)
        (fun d e => (ldS _ 5 _ (by omega) d e).trans (hX _ 5 d e)) (ld7 m c t 5 _) (ld6 m c t 5 _)) (ld4 m c t 5 _) (ld5 m c t 5 _) x)
  case piece5 =>
    exact ret_goal _ b n 0 5 _ y x (by omega) (by omega) (Heads.ret_head (A m c) hR b 5 (n + 0) _ (by omega)
      (by omega : t.val * 512 + 0 = b * 4096 + (n + 0)) _ _ _ _ _ _ _ (ld0 m c t 0 1280 _) (ld1 m c t 0 1280 _)
      (ld2 m c t 0 1280 _) (ld3 m c t 0 1280 _)
      (fun d e => (ldS _ 5 _ (by omega) d e).trans (hX _ 5 d e)) (ld4 m c t 5 _) (ld5 m c t 5 _) x)
  case piece6 =>
    exact ret_goal _ b n 256 4 _ y x (by omega) (by omega) (Heads.ret_head (A m c) hR b 4 (n + 256) _ (by omega)
      (by omega : t.val * 512 + 256 = b * 4096 + (n + 256)) _ _ _ _ _ _ _ (ld0 m c t 256 1024 _) (ld1 m c t 256 1024 _)
      (ld2 m c t 256 1024 _) (ld3 m c t 256 1024 _)
      (Heads.state_head (A m c) hR b 4 n _ (by omega) hr _ _ _ _ _ (ld1 m c t 0 1024 _) (ld2 m c t 0 1024 _)
        (fun d e => (ldS _ 4 _ (by omega) d e).trans (hX _ 4 d e)) (ld7 m c t 4 _) (ld6 m c t 4 _)) (ld4 m c t 4 _) (ld5 m c t 4 _) x)
  case piece7 =>
    exact ret_goal _ b n 0 4 _ y x (by omega) (by omega) (Heads.ret_head (A m c) hR b 4 (n + 0) _ (by omega)
      (by omega : t.val * 512 + 0 = b * 4096 + (n + 0)) _ _ _ _ _ _ _ (ld0 m c t 0 1024 _) (ld1 m c t 0 1024 _)
      (ld2 m c t 0 1024 _) (ld3 m c t 0 1024 _)
      (fun d e => (ldS _ 4 _ (by omega) d e).trans (hX _ 4 d e)) (ld4 m c t 4 _) (ld5 m c t 4 _) x)
  case piece8 =>
    exact ret_goal _ b n 256 3 _ y x (by omega) (by omega) (Heads.ret_head (A m c) hR b 3 (n + 256) _ (by omega)
      (by omega : t.val * 512 + 256 = b * 4096 + (n + 256)) _ _ _ _ _ _ _ (ld0 m c t 256 768 _) (ld1 m c t 256 768 _)
      (ld2 m c t 256 768 _) (ld3 m c t 256 768 _)
      (Heads.state_head (A m c) hR b 3 n _ (by omega) hr _ _ _ _ _ (ld1 m c t 0 768 _) (ld2 m c t 0 768 _)
        (fun d e => (ldS _ 3 _ (by omega) d e).trans (hX _ 3 d e)) (ld7 m c t 3 _) (ld6 m c t 3 _)) (ld4 m c t 3 _) (ld5 m c t 3 _) x)
  case piece9 =>
    exact ret_goal _ b n 0 3 _ y x (by omega) (by omega) (Heads.ret_head (A m c) hR b 3 (n + 0) _ (by omega)
      (by omega : t.val * 512 + 0 = b * 4096 + (n + 0)) _ _ _ _ _ _ _ (ld0 m c t 0 768 _) (ld1 m c t 0 768 _)
      (ld2 m c t 0 768 _) (ld3 m c t 0 768 _)
      (fun d e => (ldS _ 3 _ (by omega) d e).trans (hX _ 3 d e)) (ld4 m c t 3 _) (ld5 m c t 3 _) x)
  case piece10 =>
    exact ret_goal _ b n 256 2 _ y x (by omega) (by omega) (Heads.ret_head (A m c) hR b 2 (n + 256) _ (by omega)
      (by omega : t.val * 512 + 256 = b * 4096 + (n + 256)) _ _ _ _ _ _ _ (ld0 m c t 256 512 _) (ld1 m c t 256 512 _)
      (ld2 m c t 256 512 _) (ld3 m c t 256 512 _)
      (Heads.state_head (A m c) hR b 2 n _ (by omega) hr _ _ _ _ _ (ld1 m c t 0 512 _) (ld2 m c t 0 512 _)
        (fun d e => (ldS _ 2 _ (by omega) d e).trans (hX _ 2 d e)) (ld7 m c t 2 _) (ld6 m c t 2 _)) (ld4 m c t 2 _) (ld5 m c t 2 _) x)
  case piece11 =>
    exact ret_goal _ b n 0 2 _ y x (by omega) (by omega) (Heads.ret_head (A m c) hR b 2 (n + 0) _ (by omega)
      (by omega : t.val * 512 + 0 = b * 4096 + (n + 0)) _ _ _ _ _ _ _ (ld0 m c t 0 512 _) (ld1 m c t 0 512 _)
      (ld2 m c t 0 512 _) (ld3 m c t 0 512 _)
      (fun d e => (ldS _ 2 _ (by omega) d e).trans (hX _ 2 d e)) (ld4 m c t 2 _) (ld5 m c t 2 _) x)
  case piece12 =>
    exact ret_goal _ b n 256 1 _ y x (by omega) (by omega) (Heads.ret_head (A m c) hR b 1 (n + 256) _ (by omega)
      (by omega : t.val * 512 + 256 = b * 4096 + (n + 256)) _ _ _ _ _ _ _ (ld0 m c t 256 256 _) (ld1 m c t 256 256 _)
      (ld2 m c t 256 256 _) (ld3 m c t 256 256 _)
      (Heads.state_head (A m c) hR b 1 n _ (by omega) hr _ _ _ _ _ (ld1 m c t 0 256 _) (ld2 m c t 0 256 _)
        (fun d e => (ldS _ 1 _ (by omega) d e).trans (hX _ 1 d e)) (ld7 m c t 1 _) (ld6 m c t 1 _)) (ld4 m c t 1 _) (ld5 m c t 1 _) x)
  case piece13 =>
    exact ret_goal _ b n 0 1 _ y x (by omega) (by omega) (Heads.ret_head (A m c) hR b 1 (n + 0) _ (by omega)
      (by omega : t.val * 512 + 0 = b * 4096 + (n + 0)) _ _ _ _ _ _ _ (ld0 m c t 0 256 _) (ld1 m c t 0 256 _)
      (ld2 m c t 0 256 _) (ld3 m c t 0 256 _)
      (fun d e => (ldS _ 1 _ (by omega) d e).trans (hX _ 1 d e)) (ld4 m c t 1 _) (ld5 m c t 1 _) x)
  case piece14 =>
    exact ret_goal _ b n 256 0 _ y x (by omega) (by omega) (Heads.ret_head (A m c) hR b 0 (n + 256) _ (by omega)
      (by omega : t.val * 512 + 256 = b * 4096 + (n + 256)) _ _ _ _ _ _ _ (ld0 m c t 256 0 _) (ld1 m c t 256 0 _)
      (ld2 m c t 256 0 _) (ld3 m c t 256 0 _)
      (Heads.state_head (A m c) hR b 0 n _ (by omega) hr _ _ _ _ _ (ld1 m c t 0 0 _) (ld2 m c t 0 0 _)
        (fun d e => (ldS _ 0 _ (by omega) d e).trans (hX _ 0 d e)) (ld7 m c t 0 _) (ld6 m c t 0 _)) (ld4 m c t 0 _) (ld5 m c t 0 _) x)
  case piece15 =>
    exact ret_goal _ b n 0 0 _ y x (by omega) (by omega) (Heads.ret_head (A m c) hR b 0 (n + 0) _ (by omega)
      (by omega : t.val * 512 + 0 = b * 4096 + (n + 0)) _ _ _ _ _ _ _ (ld0 m c t 0 0 _) (ld1 m c t 0 0 _)
      (ld2 m c t 0 0 _) (ld3 m c t 0 0 _)
      (fun d e => (ldS _ 0 _ (by omega) d e).trans (hX _ 0 d e)) (ld4 m c t 0 _) (ld5 m c t 0 _) x)

end Cert.KernelIdeal.Point

end
-- ==== Proof.KGateBlockA.lean ====
/- What a first point of a batch leaves in the gated block. -/
module

public import proofs.«01_k».proof.Proof.KGoals
public import proofs.«01_k».proof.Proof.KLoads
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Point

open Idealize.ShloMosaic Idealize.ShloMosaic.TcCoe Idealize.SL.Sem
open Cert.KernelIdeal Cert.KernelIdeal.Gen Cert.KernelIdeal.Blocks Cert.KernelIdeal.Loads

variable (m : (ℓ : Loc nD τ sig) → Buf (Elt Ideal) ℓ) (c : Dev nD)

set_option maxHeartbeats 8000000 in
theorem gate_A (t : Fin cfg0.N) (h : t.val % 8 = 0) (hU : Spec.RealU (A m c))
    (y : S512x2048.Idx) : @Eq EReal ((outsAt0 m c t.val t.isLt).2.1 y)
    (Gating.gated (A m c) (W m c) (B m c) (t.val * 512 + (y 0 : ℕ) / 128 * 128) ((y 1 : ℕ) / 256)
      ⟨(y 0 : ℕ) % 128, Nat.mod_lt _ (by omega)⟩ ⟨(y 1 : ℕ) % 256, Nat.mod_lt _ (by omega)⟩) := by
  rw [outsAt0_A m c t h]
  frame_open
  simp (disch := decide) only [↓ View.readCov_skip, ↓ View.readCov_cons_toLoadRect, ↓ View.readCov_fill]
  frame_out
  canon_tiles x h
  case piece0 =>
    exact gate_goal _ _ _ _ 3 7 _ y x (by omega) (by omega) (Gate.gated_head _ hU _ _ _ 7 (by omega) _ _ _ _
      (ld10 m c t 7 _) (ld11 m c t 7 _) (ld9 m c t 384 1792 _) (ld8 m c t 384 1792 _) x)
  case piece1 =>
    exact gate_goal _ _ _ _ 2 7 _ y x (by omega) (by omega) (Gate.gated_head _ hU _ _ _ 7 (by omega) _ _ _ _
      (ld10 m c t 7 _) (ld11 m c t 7 _) (ld9 m c t 256 1792 _) (ld8 m c t 256 1792 _) x)
  case piece2 =>
    exact gate_goal _ _ _ _ 1 7 _ y x (by omega) (by omega) (Gate.gated_head _ hU _ _ _ 7 (by omega) _ _ _ _
      (ld10 m c t 7 _) (ld11 m c t 7 _) (ld9 m c t 128 1792 _) (ld8 m c t 128 1792 _) x)
  case piece3 =>
    exact gate_goal _ _ _ _ 0 7 _ y x (by omega) (by omega) (Gate.gated_head _ hU _ _ _ 7 (by omega) _ _ _ _
      (ld10 m c t 7 _) (ld11 m c t 7 _) (ld9 m c t 0 1792 _) (ld8 m c t 0 1792 _) x)
  case piece4 =>
    exact gate_goal _ _ _ _ 3 6 _ y x (by omega) (by omega) (Gate.gated_head _ hU _ _ _ 6 (by omega) _ _ _ _
      (ld10 m c t 6 _) (ld11 m c t 6 _) (ld9 m c t 384 1536 _) (ld8 m c t 384 1536 _) x)
  case piece5 =>
    exact gate_goal _ _ _ _ 2 6 _ y x (by omega) (by omega) (Gate.gated_head _ hU _ _ _ 6 (by omega) _ _ _ _
      (ld10 m c t 6 _) (ld11 m c t 6 _) (ld9 m c t 256 1536 _) (ld8 m c t 256 1536 _) x)
  case piece6 =>
    exact gate_goal _ _ _ _ 1 6 _ y x (by omega) (by omega) (Gate.gated_head _ hU _ _ _ 6 (by omega) _ _ _ _
      (ld10 m c t 6 _) (ld11 m c t 6 _) (ld9 m c t 128 1536 _) (ld8 m c t 128 1536 _) x)
  case piece7 =>
    exact gate_goal _ _ _ _ 0 6 _ y x (by omega) (by omega) (Gate.gated_head _ hU _ _ _ 6 (by omega) _ _ _ _
      (ld10 m c t 6 _) (ld11 m c t 6 _) (ld9 m c t 0 1536 _) (ld8 m c t 0 1536 _) x)
  case piece8 =>
    exact gate_goal _ _ _ _ 3 5 _ y x (by omega) (by omega) (Gate.gated_head _ hU _ _ _ 5 (by omega) _ _ _ _
      (ld10 m c t 5 _) (ld11 m c t 5 _) (ld9 m c t 384 1280 _) (ld8 m c t 384 1280 _) x)
  case piece9 =>
    exact gate_goal _ _ _ _ 2 5 _ y x (by omega) (by omega) (Gate.gated_head _ hU _ _ _ 5 (by omega) _ _ _ _
      (ld10 m c t 5 _) (ld11 m c t 5 _) (ld9 m c t 256 1280 _) (ld8 m c t 256 1280 _) x)
  case piece10 =>
    exact gate_goal _ _ _ _ 1 5 _ y x (by omega) (by omega) (Gate.gated_head _ hU _ _ _ 5 (by omega) _ _ _ _
      (ld10 m c t 5 _) (ld11 m c t 5 _) (ld9 m c t 128 1280 _) (ld8 m c t 128 1280 _) x)
  case piece11 =>
    exact gate_goal _ _ _ _ 0 5 _ y x (by omega) (by omega) (Gate.gated_head _ hU _ _ _ 5 (by omega) _ _ _ _
      (ld10 m c t 5 _) (ld11 m c t 5 _) (ld9 m c t 0 1280 _) (ld8 m c t 0 1280 _) x)
  case piece12 =>
    exact gate_goal _ _ _ _ 3 4 _ y x (by omega) (by omega) (Gate.gated_head _ hU _ _ _ 4 (by omega) _ _ _ _
      (ld10 m c t 4 _) (ld11 m c t 4 _) (ld9 m c t 384 1024 _) (ld8 m c t 384 1024 _) x)
  case piece13 =>
    exact gate_goal _ _ _ _ 2 4 _ y x (by omega) (by omega) (Gate.gated_head _ hU _ _ _ 4 (by omega) _ _ _ _
      (ld10 m c t 4 _) (ld11 m c t 4 _) (ld9 m c t 256 1024 _) (ld8 m c t 256 1024 _) x)
  case piece14 =>
    exact gate_goal _ _ _ _ 1 4 _ y x (by omega) (by omega) (Gate.gated_head _ hU _ _ _ 4 (by omega) _ _ _ _
      (ld10 m c t 4 _) (ld11 m c t 4 _) (ld9 m c t 128 1024 _) (ld8 m c t 128 1024 _) x)
  case piece15 =>
    exact gate_goal _ _ _ _ 0 4 _ y x (by omega) (by omega) (Gate.gated_head _ hU _ _ _ 4 (by omega) _ _ _ _
      (ld10 m c t 4 _) (ld11 m c t 4 _) (ld9 m c t 0 1024 _) (ld8 m c t 0 1024 _) x)
  case piece16 =>
    exact gate_goal _ _ _ _ 3 3 _ y x (by omega) (by omega) (Gate.gated_head _ hU _ _ _ 3 (by omega) _ _ _ _
      (ld10 m c t 3 _) (ld11 m c t 3 _) (ld9 m c t 384 768 _) (ld8 m c t 384 768 _) x)
  case piece17 =>
    exact gate_goal _ _ _ _ 2 3 _ y x (by omega) (by omega) (Gate.gated_head _ hU _ _ _ 3 (by omega) _ _ _ _
      (ld10 m c t 3 _) (ld11 m c t 3 _) (ld9 m c t 256 768 _) (ld8 m c t 256 768 _) x)
  case piece18 =>
    exact gate_goal _ _ _ _ 1 3 _ y x (by omega) (by omega) (Gate.gated_head _ hU _ _ _ 3 (by omega) _ _ _ _
      (ld10 m c t 3 _) (ld11 m c t 3 _) (ld9 m c t 128 768 _) (ld8 m c t 128 768 _) x)
  case piece19 =>
    exact gate_goal _ _ _ _ 0 3 _ y x (by omega) (by omega) (Gate.gated_head _ hU _ _ _ 3 (by omega) _ _ _ _
      (ld10 m c t 3 _) (ld11 m c t 3 _) (ld9 m c t 0 768 _) (ld8 m c t 0 768 _) x)
  case piece20 =>
    exact gate_goal _ _ _ _ 3 2 _ y x (by omega) (by omega) (Gate.gated_head _ hU _ _ _ 2 (by omega) _ _ _ _
      (ld10 m c t 2 _) (ld11 m c t 2 _) (ld9 m c t 384 512 _) (ld8 m c t 384 512 _) x)
  case piece21 =>
    exact gate_goal _ _ _ _ 2 2 _ y x (by omega) (by omega) (Gate.gated_head _ hU _ _ _ 2 (by omega) _ _ _ _
      (ld10 m c t 2 _) (ld11 m c t 2 _) (ld9 m c t 256 512 _) (ld8 m c t 256 512 _) x)
  case piece22 =>
    exact gate_goal _ _ _ _ 1 2 _ y x (by omega) (by omega) (Gate.gated_head _ hU _ _ _ 2 (by omega) _ _ _ _
      (ld10 m c t 2 _) (ld11 m c t 2 _) (ld9 m c t 128 512 _) (ld8 m c t 128 512 _) x)
  case piece23 =>
    exact gate_goal _ _ _ _ 0 2 _ y x (by omega) (by omega) (Gate.gated_head _ hU _ _ _ 2 (by omega) _ _ _ _
      (ld10 m c t 2 _) (ld11 m c t 2 _) (ld9 m c t 0 512 _) (ld8 m c t 0 512 _) x)
  case piece24 =>
    exact gate_goal _ _ _ _ 3 1 _ y x (by omega) (by omega) (Gate.gated_head _ hU _ _ _ 1 (by omega) _ _ _ _
      (ld10 m c t 1 _) (ld11 m c t 1 _) (ld9 m c t 384 256 _) (ld8 m c t 384 256 _) x)
  case piece25 =>
    exact gate_goal _ _ _ _ 2 1 _ y x (by omega) (by omega) (Gate.gated_head _ hU _ _ _ 1 (by omega) _ _ _ _
      (ld10 m c t 1 _) (ld11 m c t 1 _) (ld9 m c t 256 256 _) (ld8 m c t 256 256 _) x)
  case piece26 =>
    exact gate_goal _ _ _ _ 1 1 _ y x (by omega) (by omega) (Gate.gated_head _ hU _ _ _ 1 (by omega) _ _ _ _
      (ld10 m c t 1 _) (ld11 m c t 1 _) (ld9 m c t 128 256 _) (ld8 m c t 128 256 _) x)
  case piece27 =>
    exact gate_goal _ _ _ _ 0 1 _ y x (by omega) (by omega) (Gate.gated_head _ hU _ _ _ 1 (by omega) _ _ _ _
      (ld10 m c t 1 _) (ld11 m c t 1 _) (ld9 m c t 0 256 _) (ld8 m c t 0 256 _) x)
  case piece28 =>
    exact gate_goal _ _ _ _ 3 0 _ y x (by omega) (by omega) (Gate.gated_head _ hU _ _ _ 0 (by omega) _ _ _ _
      (ld10 m c t 0 _) (ld11 m c t 0 _) (ld9 m c t 384 0 _) (ld8 m c t 384 0 _) x)
  case piece29 =>
    exact gate_goal _ _ _ _ 2 0 _ y x (by omega) (by omega) (Gate.gated_head _ hU _ _ _ 0 (by omega) _ _ _ _
      (ld10 m c t 0 _) (ld11 m c t 0 _) (ld9 m c t 256 0 _) (ld8 m c t 256 0 _) x)
  case piece30 =>
    exact gate_goal _ _ _ _ 1 0 _ y x (by omega) (by omega) (Gate.gated_head _ hU _ _ _ 0 (by omega) _ _ _ _
      (ld10 m c t 0 _) (ld11 m c t 0 _) (ld9 m c t 128 0 _) (ld8 m c t 128 0 _) x)
  case piece31 =>
    exact gate_goal _ _ _ _ 0 0 _ y x (by omega) (by omega) (Gate.gated_head _ hU _ _ _ 0 (by omega) _ _ _ _
      (ld10 m c t 0 _) (ld11 m c t 0 _) (ld9 m c t 0 0 _) (ld8 m c t 0 0 _) x)

end Cert.KernelIdeal.Point

end
-- ==== Proof.KGateBlockB.lean ====
/- What a later point of a batch leaves in the gated block. -/
module

public import proofs.«01_k».proof.Proof.KGoals
public import proofs.«01_k».proof.Proof.KLoads
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Point

open Idealize.ShloMosaic Idealize.ShloMosaic.TcCoe Idealize.SL.Sem
open Cert.KernelIdeal Cert.KernelIdeal.Gen Cert.KernelIdeal.Blocks Cert.KernelIdeal.Loads

variable (m : (ℓ : Loc nD τ sig) → Buf (Elt Ideal) ℓ) (c : Dev nD)

set_option maxHeartbeats 8000000 in
theorem gate_B (t : Fin cfg0.N) (h : ¬ t.val % 8 = 0) (hU : Spec.RealU (A m c))
    (y : S512x2048.Idx) : @Eq EReal ((outsAt0 m c t.val t.isLt).2.1 y)
    (Gating.gated (A m c) (W m c) (B m c) (t.val * 512 + (y 0 : ℕ) / 128 * 128) ((y 1 : ℕ) / 256)
      ⟨(y 0 : ℕ) % 128, Nat.mod_lt _ (by omega)⟩ ⟨(y 1 : ℕ) % 256, Nat.mod_lt _ (by omega)⟩) := by
  rw [outsAt0_B m c t h]
  frame_open
  simp (disch := decide) only [↓ View.readCov_skip, ↓ View.readCov_cons_toLoadRect, ↓ View.readCov_fill]
  frame_out
  canon_tiles x h
  case piece0 =>
    exact gate_goal _ _ _ _ 3 7 _ y x (by omega) (by omega) (Gate.gated_head _ hU _ _ _ 7 (by omega) _ _ _ _
      (ld10 m c t 7 _) (ld11 m c t 7 _) (ld9 m c t 384 1792 _) (ld8 m c t 384 1792 _) x)
  case piece1 =>
    exact gate_goal _ _ _ _ 2 7 _ y x (by omega) (by omega) (Gate.gated_head _ hU _ _ _ 7 (by omega) _ _ _ _
      (ld10 m c t 7 _) (ld11 m c t 7 _) (ld9 m c t 256 1792 _) (ld8 m c t 256 1792 _) x)
  case piece2 =>
    exact gate_goal _ _ _ _ 1 7 _ y x (by omega) (by omega) (Gate.gated_head _ hU _ _ _ 7 (by omega) _ _ _ _
      (ld10 m c t 7 _) (ld11 m c t 7 _) (ld9 m c t 128 1792 _) (ld8 m c t 128 1792 _) x)
  case piece3 =>
    exact gate_goal _ _ _ _ 0 7 _ y x (by omega) (by omega) (Gate.gated_head _ hU _ _ _ 7 (by omega) _ _ _ _
      (ld10 m c t 7 _) (ld11 m c t 7 _) (ld9 m c t 0 1792 _) (ld8 m c t 0 1792 _) x)
  case piece4 =>
    exact gate_goal _ _ _ _ 3 6 _ y x (by omega) (by omega) (Gate.gated_head _ hU _ _ _ 6 (by omega) _ _ _ _
      (ld10 m c t 6 _) (ld11 m c t 6 _) (ld9 m c t 384 1536 _) (ld8 m c t 384 1536 _) x)
  case piece5 =>
    exact gate_goal _ _ _ _ 2 6 _ y x (by omega) (by omega) (Gate.gated_head _ hU _ _ _ 6 (by omega) _ _ _ _
      (ld10 m c t 6 _) (ld11 m c t 6 _) (ld9 m c t 256 1536 _) (ld8 m c t 256 1536 _) x)
  case piece6 =>
    exact gate_goal _ _ _ _ 1 6 _ y x (by omega) (by omega) (Gate.gated_head _ hU _ _ _ 6 (by omega) _ _ _ _
      (ld10 m c t 6 _) (ld11 m c t 6 _) (ld9 m c t 128 1536 _) (ld8 m c t 128 1536 _) x)
  case piece7 =>
    exact gate_goal _ _ _ _ 0 6 _ y x (by omega) (by omega) (Gate.gated_head _ hU _ _ _ 6 (by omega) _ _ _ _
      (ld10 m c t 6 _) (ld11 m c t 6 _) (ld9 m c t 0 1536 _) (ld8 m c t 0 1536 _) x)
  case piece8 =>
    exact gate_goal _ _ _ _ 3 5 _ y x (by omega) (by omega) (Gate.gated_head _ hU _ _ _ 5 (by omega) _ _ _ _
      (ld10 m c t 5 _) (ld11 m c t 5 _) (ld9 m c t 384 1280 _) (ld8 m c t 384 1280 _) x)
  case piece9 =>
    exact gate_goal _ _ _ _ 2 5 _ y x (by omega) (by omega) (Gate.gated_head _ hU _ _ _ 5 (by omega) _ _ _ _
      (ld10 m c t 5 _) (ld11 m c t 5 _) (ld9 m c t 256 1280 _) (ld8 m c t 256 1280 _) x)
  case piece10 =>
    exact gate_goal _ _ _ _ 1 5 _ y x (by omega) (by omega) (Gate.gated_head _ hU _ _ _ 5 (by omega) _ _ _ _
      (ld10 m c t 5 _) (ld11 m c t 5 _) (ld9 m c t 128 1280 _) (ld8 m c t 128 1280 _) x)
  case piece11 =>
    exact gate_goal _ _ _ _ 0 5 _ y x (by omega) (by omega) (Gate.gated_head _ hU _ _ _ 5 (by omega) _ _ _ _
      (ld10 m c t 5 _) (ld11 m c t 5 _) (ld9 m c t 0 1280 _) (ld8 m c t 0 1280 _) x)
  case piece12 =>
    exact gate_goal _ _ _ _ 3 4 _ y x (by omega) (by omega) (Gate.gated_head _ hU _ _ _ 4 (by omega) _ _ _ _
      (ld10 m c t 4 _) (ld11 m c t 4 _) (ld9 m c t 384 1024 _) (ld8 m c t 384 1024 _) x)
  case piece13 =>
    exact gate_goal _ _ _ _ 2 4 _ y x (by omega) (by omega) (Gate.gated_head _ hU _ _ _ 4 (by omega) _ _ _ _
      (ld10 m c t 4 _) (ld11 m c t 4 _) (ld9 m c t 256 1024 _) (ld8 m c t 256 1024 _) x)
  case piece14 =>
    exact gate_goal _ _ _ _ 1 4 _ y x (by omega) (by omega) (Gate.gated_head _ hU _ _ _ 4 (by omega) _ _ _ _
      (ld10 m c t 4 _) (ld11 m c t 4 _) (ld9 m c t 128 1024 _) (ld8 m c t 128 1024 _) x)
  case piece15 =>
    exact gate_goal _ _ _ _ 0 4 _ y x (by omega) (by omega) (Gate.gated_head _ hU _ _ _ 4 (by omega) _ _ _ _
      (ld10 m c t 4 _) (ld11 m c t 4 _) (ld9 m c t 0 1024 _) (ld8 m c t 0 1024 _) x)
  case piece16 =>
    exact gate_goal _ _ _ _ 3 3 _ y x (by omega) (by omega) (Gate.gated_head _ hU _ _ _ 3 (by omega) _ _ _ _
      (ld10 m c t 3 _) (ld11 m c t 3 _) (ld9 m c t 384 768 _) (ld8 m c t 384 768 _) x)
  case piece17 =>
    exact gate_goal _ _ _ _ 2 3 _ y x (by omega) (by omega) (Gate.gated_head _ hU _ _ _ 3 (by omega) _ _ _ _
      (ld10 m c t 3 _) (ld11 m c t 3 _) (ld9 m c t 256 768 _) (ld8 m c t 256 768 _) x)
  case piece18 =>
    exact gate_goal _ _ _ _ 1 3 _ y x (by omega) (by omega) (Gate.gated_head _ hU _ _ _ 3 (by omega) _ _ _ _
      (ld10 m c t 3 _) (ld11 m c t 3 _) (ld9 m c t 128 768 _) (ld8 m c t 128 768 _) x)
  case piece19 =>
    exact gate_goal _ _ _ _ 0 3 _ y x (by omega) (by omega) (Gate.gated_head _ hU _ _ _ 3 (by omega) _ _ _ _
      (ld10 m c t 3 _) (ld11 m c t 3 _) (ld9 m c t 0 768 _) (ld8 m c t 0 768 _) x)
  case piece20 =>
    exact gate_goal _ _ _ _ 3 2 _ y x (by omega) (by omega) (Gate.gated_head _ hU _ _ _ 2 (by omega) _ _ _ _
      (ld10 m c t 2 _) (ld11 m c t 2 _) (ld9 m c t 384 512 _) (ld8 m c t 384 512 _) x)
  case piece21 =>
    exact gate_goal _ _ _ _ 2 2 _ y x (by omega) (by omega) (Gate.gated_head _ hU _ _ _ 2 (by omega) _ _ _ _
      (ld10 m c t 2 _) (ld11 m c t 2 _) (ld9 m c t 256 512 _) (ld8 m c t 256 512 _) x)
  case piece22 =>
    exact gate_goal _ _ _ _ 1 2 _ y x (by omega) (by omega) (Gate.gated_head _ hU _ _ _ 2 (by omega) _ _ _ _
      (ld10 m c t 2 _) (ld11 m c t 2 _) (ld9 m c t 128 512 _) (ld8 m c t 128 512 _) x)
  case piece23 =>
    exact gate_goal _ _ _ _ 0 2 _ y x (by omega) (by omega) (Gate.gated_head _ hU _ _ _ 2 (by omega) _ _ _ _
      (ld10 m c t 2 _) (ld11 m c t 2 _) (ld9 m c t 0 512 _) (ld8 m c t 0 512 _) x)
  case piece24 =>
    exact gate_goal _ _ _ _ 3 1 _ y x (by omega) (by omega) (Gate.gated_head _ hU _ _ _ 1 (by omega) _ _ _ _
      (ld10 m c t 1 _) (ld11 m c t 1 _) (ld9 m c t 384 256 _) (ld8 m c t 384 256 _) x)
  case piece25 =>
    exact gate_goal _ _ _ _ 2 1 _ y x (by omega) (by omega) (Gate.gated_head _ hU _ _ _ 1 (by omega) _ _ _ _
      (ld10 m c t 1 _) (ld11 m c t 1 _) (ld9 m c t 256 256 _) (ld8 m c t 256 256 _) x)
  case piece26 =>
    exact gate_goal _ _ _ _ 1 1 _ y x (by omega) (by omega) (Gate.gated_head _ hU _ _ _ 1 (by omega) _ _ _ _
      (ld10 m c t 1 _) (ld11 m c t 1 _) (ld9 m c t 128 256 _) (ld8 m c t 128 256 _) x)
  case piece27 =>
    exact gate_goal _ _ _ _ 0 1 _ y x (by omega) (by omega) (Gate.gated_head _ hU _ _ _ 1 (by omega) _ _ _ _
      (ld10 m c t 1 _) (ld11 m c t 1 _) (ld9 m c t 0 256 _) (ld8 m c t 0 256 _) x)
  case piece28 =>
    exact gate_goal _ _ _ _ 3 0 _ y x (by omega) (by omega) (Gate.gated_head _ hU _ _ _ 0 (by omega) _ _ _ _
      (ld10 m c t 0 _) (ld11 m c t 0 _) (ld9 m c t 384 0 _) (ld8 m c t 384 0 _) x)
  case piece29 =>
    exact gate_goal _ _ _ _ 2 0 _ y x (by omega) (by omega) (Gate.gated_head _ hU _ _ _ 0 (by omega) _ _ _ _
      (ld10 m c t 0 _) (ld11 m c t 0 _) (ld9 m c t 256 0 _) (ld8 m c t 256 0 _) x)
  case piece30 =>
    exact gate_goal _ _ _ _ 1 0 _ y x (by omega) (by omega) (Gate.gated_head _ hU _ _ _ 0 (by omega) _ _ _ _
      (ld10 m c t 0 _) (ld11 m c t 0 _) (ld9 m c t 128 0 _) (ld8 m c t 128 0 _) x)
  case piece31 =>
    exact gate_goal _ _ _ _ 0 0 _ y x (by omega) (by omega) (Gate.gated_head _ hU _ _ _ 0 (by omega) _ _ _ _
      (ld10 m c t 0 _) (ld11 m c t 0 _) (ld9 m c t 0 0 _) (ld8 m c t 0 0 _) x)

end Cert.KernelIdeal.Point

end
-- ==== Proof.KFinal.lean ====
/- The two result arrays of the kernel. -/
module

public import proofs.«01_k».proof.Proof.KStateA
public import proofs.«01_k».proof.Proof.KStateB
public import proofs.«01_k».proof.Proof.KRetA
public import proofs.«01_k».proof.Proof.KRetB
public import proofs.«01_k».proof.Proof.KGateBlockA
public import proofs.«01_k».proof.Proof.KGateBlockB

@[expose] public section

set_option maxRecDepth 16384

noncomputable section

namespace Cert.KernelIdeal.Point

open Idealize.ShloMosaic Idealize.ShloMosaic.TcCoe Idealize.SL.Sem
open Cert.KernelIdeal Cert.KernelIdeal.Gen Cert.KernelIdeal.Blocks Cert.KernelIdeal.Loads

variable (m : (ℓ : Loc nD τ sig) → Buf (Elt Ideal) ℓ) (c : Dev nD)

/-- After point `n` the carried state is that after all its tokens. -/
theorem holds (hR : Spec.Real3 (A m c)) : ∀ (n : ℕ) (hn : n < cfg0.N),
    Holds m c (outsAt0 m c n hn).2.2 (n / 8) (n % 8 * 512 + 256 + 256) := by
  intro n
  induction n with
  | zero => exact fun hn h d e => state_A m c ⟨0, hn⟩ rfl 0 0 rfl hR rfl (ix3 h d e)
  | succ n ih =>
    intro hn h d e
    by_cases h0 : (n + 1) % 8 = 0
    · have := state_A m c ⟨n + 1, hn⟩ h0 ((n + 1) / 8) 0 (by show (n + 1) * 512 + 0 = (n + 1) / 8 * 4096 + 0; omega) hR rfl (ix3 h d e)
      rw [h0]
      exact this
    · refine state_B m c ⟨n + 1, hn⟩ h0 ((n + 1) / 8) ((n + 1) % 8 * 512)
        (by show (n + 1) * 512 + 0 = (n + 1) / 8 * 4096 + (n + 1) % 8 * 512; omega) hR (fun ht => ?_) (ix3 h d e)
      have e1 : (n + 1) / 8 = n / 8 := by omega
      have e2 : (n + 1) % 8 * 512 = n % 8 * 512 + 256 + 256 := by omega
      rw [e1, e2]
      exact ih _

theorem ret_block (hR : Spec.Real3 (A m c)) (t : Fin cfg0.N) (y : S512x2048.Idx) : @Eq EReal ((outsAt0 m c t.val t.isLt).1 y)
    (Spec.ret (A m c) ((t.val * 512 + (y 0 : ℕ)) / 4096) ((y 1 : ℕ) / 256) ((t.val * 512 + (y 0 : ℕ)) % 4096)
      ⟨(y 1 : ℕ) % 256, Nat.mod_lt _ (by omega)⟩) := by
  have hy : (y 0 : ℕ) < 512 := (y 0).isLt
  have e1 : (t.val * 512 + (y 0 : ℕ)) / 4096 = t.val / 8 := by omega
  have e2 : (t.val * 512 + (y 0 : ℕ)) % 4096 = t.val % 8 * 512 + (y 0 : ℕ) := by omega
  rw [e1, e2]
  by_cases h0 : t.val % 8 = 0
  · have := ret_A m c t h0 (t.val / 8) 0 (by omega) hR rfl y
    rw [h0]
    exact this
  · refine ret_B m c t h0 (t.val / 8) (t.val % 8 * 512) (by omega) hR (fun ht => ?_) y
    have e3 : t.val / 8 = (t.val - 1) / 8 := by omega
    have e4 : t.val % 8 * 512 = (t.val - 1) % 8 * 512 + 256 + 256 := by omega
    rw [e3, e4]
    exact holds m c hR _ _

theorem gate_block (hU : Spec.RealU (A m c)) (t : Fin cfg0.N) (y : S512x2048.Idx) : @Eq EReal ((outsAt0 m c t.val t.isLt).2.1 y)
    (Gating.gated (A m c) (W m c) (B m c) ((t.val * 512 + (y 0 : ℕ)) / 128 * 128) ((y 1 : ℕ) / 256)
      ⟨(t.val * 512 + (y 0 : ℕ)) % 128, Nat.mod_lt _ (by omega)⟩ ⟨(y 1 : ℕ) % 256, Nat.mod_lt _ (by omega)⟩) := by
  have e1 : (t.val * 512 + (y 0 : ℕ)) / 128 * 128 = t.val * 512 + (y 0 : ℕ) / 128 * 128 := by omega
  have e2 : (⟨(t.val * 512 + (y 0 : ℕ)) % 128, Nat.mod_lt _ (by omega)⟩ : Fin 128) = ⟨(y 0 : ℕ) % 128, Nat.mod_lt _ (by omega)⟩ :=
    Fin.ext (by show (t.val * 512 + (y 0 : ℕ)) % 128 = (y 0 : ℕ) % 128; omega)
  rw [e1, e2]
  by_cases h0 : t.val % 8 = 0
  · exact gate_A m c t h0 hU y
  · exact gate_B m c t h0 hU y

/-- The retention's value at a row and a column. -/
def retV (r k : ℕ) : EReal :=
  Spec.ret (A m c) (r / 4096) (k / 256) (r % 4096) ⟨k % 256, Nat.mod_lt _ (by omega)⟩

/-- The gated value at a row and a column. -/
def gateV (r k : ℕ) : EReal :=
  Gating.gated (A m c) (W m c) (B m c) (r / 128 * 128) (k / 256) ⟨r % 128, Nat.mod_lt _ (by omega)⟩
    ⟨k % 256, Nat.mod_lt _ (by omega)⟩

/-- The two arrays. -/
def retArr : Buf (Elt Ideal) ((c : Thread nD τ).loc main_v56_0) := fun i : S16384x2048.Idx => retV m c (i 0 : ℕ) (i 1 : ℕ)
def gateArr : Buf (Elt Ideal) ((c : Thread nD τ).loc main_v56_1) := fun i : S16384x2048.Idx => gateV m c (i 0 : ℕ) (i 1 : ℕ)

theorem idx12 : ∀ t : Fin cfg0.N, win0_12.index t = ![t.val, 0] :=
  (by decide +kernel : ∀ t : Fin grid0.N, _)

theorem idx13 : ∀ t : Fin cfg0.N, win0_13.index t = ![t.val, 0] :=
  (by decide +kernel : ∀ t : Fin grid0.N, _)

theorem final_ret (hR : Spec.Real3 (A m c)) : (dats m 0 c).arrAt 12 cfg0.N = retArr m c := by
  refine (dats m 0 c).arrAt_eq_of_covers 12 _ (by decide +kernel) fun t hf y => ?_
  blk_simp
  rw [after0_12]
  have h0 : ((((cfg0.win 12).blk t).view.emb y 0 : Fin 16384) : ℕ) = win0_12.index t (0 : Fin 2) * 512 + 1 * (y 0 : ℕ) := rfl
  have h1 : ((((cfg0.win 12).blk t).view.emb y 1 : Fin 2048) : ℕ) = win0_12.index t (1 : Fin 2) * 2048 + 1 * (y 1 : ℕ) := rfl
  have e0 : win0_12.index t (0 : Fin 2) = t.val := congrFun (idx12 t) 0
  have e1 : win0_12.index t (1 : Fin 2) = 0 := congrFun (idx12 t) 1
  rw [e0, Nat.one_mul] at h0
  rw [e1, Nat.zero_mul, Nat.zero_add, Nat.one_mul] at h1
  exact (ret_block m c hR t y).trans (congrArg₂ (retV m c) h0.symm h1.symm)

theorem final_gate (hU : Spec.RealU (A m c)) : (dats m 0 c).arrAt 13 cfg0.N = gateArr m c := by
  refine (dats m 0 c).arrAt_eq_of_covers 13 _ (by decide +kernel) fun t hf y => ?_
  blk_simp
  rw [after0_13]
  have h0 : ((((cfg0.win 13).blk t).view.emb y 0 : Fin 16384) : ℕ) = win0_13.index t (0 : Fin 2) * 512 + 1 * (y 0 : ℕ) := rfl
  have h1 : ((((cfg0.win 13).blk t).view.emb y 1 : Fin 2048) : ℕ) = win0_13.index t (1 : Fin 2) * 2048 + 1 * (y 1 : ℕ) := rfl
  have e0 : win0_13.index t (0 : Fin 2) = t.val := congrFun (idx13 t) 0
  have e1 : win0_13.index t (1 : Fin 2) = 0 := congrFun (idx13 t) 1
  rw [e0, Nat.one_mul] at h0
  rw [e1, Nat.zero_mul, Nat.zero_add, Nat.one_mul] at h1
  exact (gate_block m c hU t y).trans (congrArg₂ (gateV m c) h0.symm h1.symm)

end Cert.KernelIdeal.Point

end
-- ==== Proof.RefEntry.lean ====
module

public import proofs.«01_k».proof.Proof.Decay
public import proofs.«01_k».proof.Proof.Gen.ReferenceIdeal.Run
public import Idealize.ShloMosaic.Lib.Pipeline.ValueKit
public import Idealize.ShloMosaic.Lib.StableHlo.ReadAt

@[expose] public section

set_option maxRecDepth 16384

noncomputable section

namespace Cert.ReferenceIdeal.Entry

open Idealize.ShloMosaic Idealize.ShloMosaic.TcCoe Idealize.SL.Sem Idealize.ShloMosaic.StableHlo
open Cert.ReferenceIdeal Cert.ReferenceIdeal.Value

variable (m : (ℓ : Loc nD τ sig) → Buf (Elt Ideal) ℓ) (c : Dev nD)

theorem decay_at (h : Fin 8) (i j : Fin 128) : @Eq EReal
    (entryContents preI m c (Proc.devRef .tc main_v68_3) (ix3 h i j))
    ((if (j : ℕ) ≤ (i : ℕ) then Real.exp (Decay.lam h * (((i : ℕ) : ℝ) - (j : ℕ))) else 0 : ℝ)) := by
  simp only [entryContents, preI, afterL_cons, afterL_nil]
  after_reads_at
  pointwise [id_eq]
  rw [Decay.lam_eq h]
  refine Eq.trans ?_ (Decay.decay_eq (Decay.lam h) i j (by omega) (by omega))
  rfl

theorem xi_at (h : Fin 8) (i : Fin 128) : @Eq EReal
    (entryContents preI m c (Proc.devRef .tc main_v68_4) (ix4 0 h i 0))
    (Real.exp (Decay.lam h * (((i : ℕ) : ℝ) + 1)) : ℝ) := by
  simp only [entryContents, preI, afterL_cons, afterL_nil]
  after_reads_simp
  pointwise [id_eq]
  rw [Decay.lam_eq h, Decay.word_succ i (by omega), ← EReal.coe_mul, Ideal.exp_coe]

theorem cd_at (h : Fin 8) : @Eq EReal
    (entryContents preI m c (Proc.devRef .tc main_v68_5) (ix4 0 h 0 0))
    (Real.exp (Decay.lam h * ((128 : ℕ) : ℝ)) : ℝ) := by
  simp only [entryContents, preI, afterL_cons, afterL_nil]
  after_reads_simp
  pointwise [id_eq]
  rw [Decay.lam_eq h, Decay.c128, ← EReal.coe_mul, Ideal.exp_coe]
  norm_num

theorem zeta_at (h : Fin 8) (i : Fin 128) : @Eq EReal
    (entryContents preI m c (Proc.devRef .tc main_v68_6) (ix4 0 h i 0))
    (Real.exp (Decay.lam h * (((128 : ℕ) : ℝ) - 1 - (i : ℕ))) : ℝ) := by
  simp only [entryContents, preI, afterL_cons, afterL_nil]
  after_reads_simp
  pointwise [id_eq]
  rw [Decay.lam_eq h]
  refine (congrArg (fun z : EReal => Ideal.exp ((Decay.lam h : EReal) * z)) (Decay.word_sub 127 i (by omega) (by omega))).trans ?_
  rw [← EReal.coe_mul, Ideal.exp_coe]
  norm_num

theorem zero_at (b : Fin 4) (h : Fin 8) (d e : Fin 256) : @Eq EReal
    (entryContents preI m c (Proc.devRef .tc main_v68_8) (ix4 b h d e))
    ((0 : ℝ) : EReal) := by
  simp only [entryContents, preI, afterL_cons, afterL_nil]
  after_reads_simp
  pointwise [id_eq]
  exact EReal.coe_zero.symm

end Cert.ReferenceIdeal.Entry

end
-- ==== Proof.RefQ.lean ====
module

public import proofs.«01_k».proof.Proof.Spec
public import proofs.«01_k».proof.Proof.Gen.ReferenceIdeal.Run
public import Idealize.ShloMosaic.Lib.Pipeline.ValueKit
public import Idealize.ShloMosaic.Lib.StableHlo.ReadAt

@[expose] public section

set_option maxRecDepth 16384

noncomputable section

namespace Cert.ReferenceIdeal.Entry

open Idealize.ShloMosaic Idealize.ShloMosaic.TcCoe Idealize.SL.Sem Idealize.ShloMosaic.StableHlo
open Cert.ReferenceIdeal Cert.ReferenceIdeal.Value

variable (m : (ℓ : Loc nD τ sig) → Buf (Elt Ideal) ℓ) (c : Dev nD)

/-- The projections, entry by entry. -/
def A (i : Fin 16384) (j : Fin 12288) : EReal := m (c, Proc.devRef .tc main_arg0) (ix2 i j)

/-- Rows and lanes split into batches, chunks, tokens, heads and lanes. -/
theorem split_at {α : Type} (X : S16384x2048.Idx → α) (h1 h2) (b : Fin 4) (n : Fin 32) (i : Fin 128) (h : Fin 8) (d : Fin 256)
    (r : Fin 16384) (k : Fin 2048) (hr : (r : ℕ) = (b : ℕ) * 4096 + ((n : ℕ) * 128 + i)) (hk : (k : ℕ) = (h : ℕ) * 256 + d) :
    shapeCast S4x32x128x8x256 (shapeCast S4x4096x8x256 X h1) h2 (ix5 b n i h d) = X (ix2 r k) := by
  rw [shapeCast_comp]
  apply shapeCast_apply
  rw [rowMajor_val2 _ 2048 rfl, rowMajor_val5 _ 8388608 262144 2048 256 rfl rfl rfl rfl]
  show (r : ℕ) * 2048 + (k : ℕ) = (b : ℕ) * 8388608 + (n : ℕ) * 262144 + (i : ℕ) * 2048 + (h : ℕ) * 256 + (d : ℕ)
  omega

/-- Axes reordered to chunk, batch, head, token, lane. -/
theorem turn_at {α : Type} (X : S4x32x128x8x256.Idx → α) (ht) (b : Fin 4) (n : Fin 32) (i : Fin 128) (h : Fin 8) (d : Fin 256) :
    transpose S32x4x8x128x256 [1, 0, 3, 2, 4] X ht (ix5 n b h i d) = X (ix5 b n i h d) := by
  pointwise

theorem q_at (n : Fin 32) (b : Fin 4) (h : Fin 8) (i : Fin 128) (d : Fin 256) : @Eq EReal
    (entryContents preI m c (Proc.devRef .tc main_v68_0) (ix5 n b h i d))
    (Spec.ent (A m c) ((b : ℕ) * 4096 + ((n : ℕ) * 128 + (i : ℕ))) (0 + ((h : ℕ) * 256 + (d : ℕ)))) := by
  simp only [entryContents, preI, afterL_cons, afterL_nil]
  after_reads_simp
  rw [id_eq]
  refine (turn_at _ _ b n i h d).trans ?_
  refine (split_at _ _ _ b n i h d ⟨(b : ℕ) * 4096 + ((n : ℕ) * 128 + (i : ℕ)), by omega⟩
    ⟨(h : ℕ) * 256 + (d : ℕ), by omega⟩ rfl rfl).trans ?_
  rw [← Spec.ent_eq (A m c) _ _ ⟨(b : ℕ) * 4096 + ((n : ℕ) * 128 + (i : ℕ)), by omega⟩
    ⟨0 + ((h : ℕ) * 256 + (d : ℕ)), by omega⟩ rfl rfl]
  unfold A
  pointwise

theorem k_at (n : Fin 32) (b : Fin 4) (h : Fin 8) (i : Fin 128) (d : Fin 256) : @Eq EReal
    (entryContents preI m c (Proc.devRef .tc main_v68_1) (ix5 n b h i d))
    (Spec.ent (A m c) ((b : ℕ) * 4096 + ((n : ℕ) * 128 + (i : ℕ))) (2048 + ((h : ℕ) * 256 + (d : ℕ)))) := by
  simp only [entryContents, preI, afterL_cons, afterL_nil]
  after_reads_simp
  rw [id_eq]
  refine (turn_at _ _ b n i h d).trans ?_
  refine (split_at _ _ _ b n i h d ⟨(b : ℕ) * 4096 + ((n : ℕ) * 128 + (i : ℕ)), by omega⟩
    ⟨(h : ℕ) * 256 + (d : ℕ), by omega⟩ rfl rfl).trans ?_
  rw [← Spec.ent_eq (A m c) _ _ ⟨(b : ℕ) * 4096 + ((n : ℕ) * 128 + (i : ℕ)), by omega⟩
    ⟨2048 + ((h : ℕ) * 256 + (d : ℕ)), by omega⟩ rfl rfl]
  unfold A
  pointwise

theorem v_at (n : Fin 32) (b : Fin 4) (h : Fin 8) (i : Fin 128) (d : Fin 256) : @Eq EReal
    (entryContents preI m c (Proc.devRef .tc main_v68_2) (ix5 n b h i d))
    (Spec.ent (A m c) ((b : ℕ) * 4096 + ((n : ℕ) * 128 + (i : ℕ))) (4096 + ((h : ℕ) * 256 + (d : ℕ)))) := by
  simp only [entryContents, preI, afterL_cons, afterL_nil]
  after_reads_simp
  rw [id_eq]
  refine (turn_at _ _ b n i h d).trans ?_
  refine (split_at _ _ _ b n i h d ⟨(b : ℕ) * 4096 + ((n : ℕ) * 128 + (i : ℕ)), by omega⟩
    ⟨(h : ℕ) * 256 + (d : ℕ), by omega⟩ rfl rfl).trans ?_
  rw [← Spec.ent_eq (A m c) _ _ ⟨(b : ℕ) * 4096 + ((n : ℕ) * 128 + (i : ℕ)), by omega⟩
    ⟨4096 + ((h : ℕ) * 256 + (d : ℕ)), by omega⟩ rfl rfl]
  unfold A
  pointwise

end Cert.ReferenceIdeal.Entry

end
-- ==== Proof.RefSlice.lean ====
/- Reading and writing one chunk of a stack of chunks. -/
module

public import Idealize.ShloMosaic.Lib.Pipeline.ValueKit
public import Idealize.ShloMosaic.Lib.StableHlo.ReadAt
public import proofs.«01_k».proof.Proof.Gen.ReferenceIdeal.Run

@[expose] public section

set_option maxRecDepth 16384

noncomputable section

namespace Cert.ReferenceIdeal.Chunk

open Idealize.ShloMosaic Idealize.ShloMosaic.TcCoe
open Cert.ReferenceIdeal

/-- Where chunk `n` starts. -/
def at5 (n : ℕ) : Fin 5 → ℕ := ![n, 0, 0, 0, 0]

theorem start_eq (n : Fin 32) (st : Fin 5 → ℤ) (hs : ∀ a, st a = (at5 n a : ℤ)) (w) (a : Fin 5) :
    Host.clampedStart S32x4x8x128x256 S1x4x8x128x256 w st a = at5 n a := by
  refine Host.clampedStart_of_le w st a _ (hs a) ?_
  have := n.isLt
  fin_cases a
  · show (n : ℕ) + 1 ≤ 32
    omega
  all_goals exact le_refl _

theorem read_at {α : Type} (X : S32x4x8x128x256.Idx → α) (n : Fin 32) (st : Fin 5 → ℤ) (hs : ∀ a, st a = (at5 n a : ℤ)) (w w')
    (b : Fin 4) (h : Fin 8) (i : Fin 128) (d : Fin 256) :
    shapeCast S4x8x128x256 (Host.dynamicSlice S1x4x8x128x256 X st w) w' (ix4 b h i d) = X (ix5 n b h i d) := by
  have e : shapeCast S4x8x128x256 (Host.dynamicSlice S1x4x8x128x256 X st w) w' (ix4 b h i d)
      = Host.dynamicSlice S1x4x8x128x256 X st w (ix5 0 b h i d) := by
    apply shapeCast_apply
    rw [rowMajor_val4 _ 262144 32768 256 rfl rfl rfl, rowMajor_val5 _ 1048576 262144 32768 256 rfl rfl rfl rfl]
    show 0 * 1048576 + (b : ℕ) * 262144 + (h : ℕ) * 32768 + (i : ℕ) * 256 + (d : ℕ) = (b : ℕ) * 262144 + (h : ℕ) * 32768 + (i : ℕ) * 256 + (d : ℕ)
    omega
  rw [e, Host.dynamicSlice_apply]
  refine congrArg X (funext fun a => Fin.ext ?_)
  have hc := start_eq n st hs
  fin_cases a
  · exact (congrArg (· + 0) (hc _ 0)).trans (Nat.add_zero _)
  · exact (congrArg (· + (b : ℕ)) (hc _ 1)).trans (Nat.zero_add _)
  · exact (congrArg (· + (h : ℕ)) (hc _ 2)).trans (Nat.zero_add _)
  · exact (congrArg (· + (i : ℕ)) (hc _ 3)).trans (Nat.zero_add _)
  · exact (congrArg (· + (d : ℕ)) (hc _ 4)).trans (Nat.zero_add _)

theorem write_here {α : Type} (X : S32x4x8x128x256.Idx → α) (U : S1x4x8x128x256.Idx → α) (n : Fin 32) (st : Fin 5 → ℤ)
    (hs : ∀ a, st a = (at5 n a : ℤ)) (w) (b : Fin 4) (h : Fin 8) (i : Fin 128) (d : Fin 256) :
    Host.dynamicUpdateSlice X U st w (ix5 n b h i d) = U (ix5 0 b h i d) := by
  have hc := start_eq n st hs
  rw [Host.dynamicUpdateSlice_apply, dif_pos]
  · refine congrArg U (funext fun a => Fin.ext ?_)
    fin_cases a
    · exact (congrArg ((n : ℕ) - ·) (hc _ 0)).trans (by simp [at5])
    · exact (congrArg ((b : ℕ) - ·) (hc _ 1)).trans (by simp [at5])
    · exact (congrArg ((h : ℕ) - ·) (hc _ 2)).trans (by simp [at5])
    · exact (congrArg ((i : ℕ) - ·) (hc _ 3)).trans (by simp [at5])
    · exact (congrArg ((d : ℕ) - ·) (hc _ 4)).trans (by simp [at5])
  · intro a
    rw [hc]
    fin_cases a
    · exact ⟨le_refl _, Nat.lt_succ_self _⟩
    · exact ⟨Nat.zero_le _, (Nat.zero_add 4).symm ▸ b.isLt⟩
    · exact ⟨Nat.zero_le _, (Nat.zero_add 8).symm ▸ h.isLt⟩
    · exact ⟨Nat.zero_le _, (Nat.zero_add 128).symm ▸ i.isLt⟩
    · exact ⟨Nat.zero_le _, (Nat.zero_add 256).symm ▸ d.isLt⟩

theorem write_there {α : Type} (X : S32x4x8x128x256.Idx → α) (U : S1x4x8x128x256.Idx → α) (n n' : Fin 32) (hn : (n' : ℕ) < n)
    (st : Fin 5 → ℤ) (hs : ∀ a, st a = (at5 n a : ℤ)) (w) (b : Fin 4) (h : Fin 8) (i : Fin 128) (d : Fin 256) :
    Host.dynamicUpdateSlice X U st w (ix5 n' b h i d) = X (ix5 n' b h i d) := by
  rw [Host.dynamicUpdateSlice_apply, dif_neg]
  intro H
  have h0 := (H 0).1
  rw [start_eq n st hs] at h0
  exact absurd (lt_of_lt_of_le hn h0) (lt_irrefl _)

end Cert.ReferenceIdeal.Chunk

end
-- ==== Proof.RefLoop.lean ====
/- The loop over the chunks: what every buffer it carries holds before chunk `n`. -/
module

public import proofs.«01_k».proof.Proof.Retention
public import proofs.«01_k».proof.Proof.RefEntry
public import proofs.«01_k».proof.Proof.RefQ
public import proofs.«01_k».proof.Proof.RefSlice

@[expose] public section

set_option maxRecDepth 16384

noncomputable section

namespace Cert.ReferenceIdeal.Loop

open Idealize.ShloMosaic Idealize.ShloMosaic.TcCoe Idealize.SL.Sem Idealize.ShloMosaic.StableHlo
open Cert.ReferenceIdeal Cert.ReferenceIdeal.Gen Cert.ReferenceIdeal.Value Cert.ReferenceIdeal.Entry

variable (m : (ℓ : Loc nD τ sig) → Buf (Elt Ideal) ℓ) (c : Dev nD)

/-- The state of batch `b`, head `h` before token `n`. -/
def st (b h n : ℕ) (d e : Fin 256) : ℝ :=
  Retention.state (Decay.lam h) (Spec.seq (A m c) 2048 b h) (Spec.seq (A m c) 4096 b h) n d e

/-- The output of batch `b`, head `h` at token `n`. -/
def out (b h n : ℕ) (e : Fin 256) : ℝ :=
  Retention.out (Decay.lam h) (Spec.seq (A m c) 0 b h) (Spec.seq (A m c) 2048 b h) (Spec.seq (A m c) 4096 b h) n e

/-- What the carried buffers hold before chunk `n`. -/
structure Inv (n : ℕ) (V : Valuation τ sig (Elt Ideal)) : Prop where
  q : V (Proc.devRef .tc main_v68_0) = entryContents preI m c (Proc.devRef .tc main_v68_0)
  k : V (Proc.devRef .tc main_v68_1) = entryContents preI m c (Proc.devRef .tc main_v68_1)
  v : V (Proc.devRef .tc main_v68_2) = entryContents preI m c (Proc.devRef .tc main_v68_2)
  decay : V (Proc.devRef .tc main_v68_3) = entryContents preI m c (Proc.devRef .tc main_v68_3)
  xi : V (Proc.devRef .tc main_v68_4) = entryContents preI m c (Proc.devRef .tc main_v68_4)
  cd : V (Proc.devRef .tc main_v68_5) = entryContents preI m c (Proc.devRef .tc main_v68_5)
  zeta : V (Proc.devRef .tc main_v68_6) = entryContents preI m c (Proc.devRef .tc main_v68_6)
  ctr : V (Proc.devRef .tc main_v68_7) = fun _ => BitVec.ofNat 32 n
  state : ∀ (b : Fin 4) (h : Fin 8) (d e : Fin 256), @Eq EReal (V (Proc.devRef .tc main_v68_8) (ix4 b h d e))
    (st m c b h (n * 128) d e : ℝ)
  out : ∀ (n' : Fin 32) (b : Fin 4) (h : Fin 8) (i : Fin 128) (e : Fin 256), (n' : ℕ) < n →
    @Eq EReal (V (Proc.devRef .tc main_v68_9) (ix5 n' b h i e)) (out m c b h (n' * 128 + i) e : ℝ)

section
variable {m c}
variable {V : Valuation τ sig (Elt Ideal)} {n : Fin 32} (H : Inv m c n V) (hR : Spec.Real3 (A m c))
include H

theorem starts (a : Fin 5) : ((![V (Proc.devRef .tc main_v68_7), constantI S_ 32 0#32, constantI S_ 32 0#32, constantI S_ 32 0#32,
      constantI S_ 32 0#32] : Fin 5 → (⟨S_, .i32⟩ : BufTy).Contents (Elt Ideal)) a (Shape.Idx.first h_S_)).toInt
    = (Chunk.at5 n a : ℤ) := by
  rw [H.ctr]
  fin_cases a
  · exact Decay.toInt_ofNat n (by omega)
  all_goals rfl

include hR

theorem q_read (b : Fin 4) (h : Fin 8) (i : Fin 128) (d : Fin 256) : @Eq EReal (res_main_while0b_v118 V (ix4 b h i d))
    (Spec.seq (A m c) 0 b h (n * 128 + i) d : ℝ) := by
  unfold res_main_while0b_v118
  refine (Chunk.read_at _ n _ (starts H) _ _ b h i d).trans ?_
  rw [H.q, q_at, hR _ _ (by omega)]
  rfl

theorem k_read (b : Fin 4) (h : Fin 8) (i : Fin 128) (d : Fin 256) : @Eq EReal (res_main_while0b_v119 V (ix4 b h i d))
    (Spec.seq (A m c) 2048 b h (n * 128 + i) d : ℝ) := by
  unfold res_main_while0b_v119
  refine (Chunk.read_at _ n _ (starts H) _ _ b h i d).trans ?_
  rw [H.k, k_at, hR _ _ (by omega)]
  rfl

theorem v_read (b : Fin 4) (h : Fin 8) (i : Fin 128) (d : Fin 256) : @Eq EReal (res_main_while0b_v120 V (ix4 b h i d))
    (Spec.seq (A m c) 4096 b h (n * 128 + i) d : ℝ) := by
  unfold res_main_while0b_v120
  refine (Chunk.read_at _ n _ (starts H) _ _ b h i d).trans ?_
  rw [H.v, v_at, hR _ _ (by omega)]
  rfl

theorem state_step (b : Fin 4) (h : Fin 8) (d e : Fin 256) : @Eq EReal (step_main_v68_8 V (ix4 b h d e))
    (st m c b h ((n + 1) * 128) d e : ℝ) := by
  unfold step_main_v68_8
  rw [id_eq, show ((n : ℕ) + 1) * 128 = n * 128 + 128 by ring]
  refine Eq.trans ?_ (Retention.state_chunk (Decay.lam h) (Spec.seq (A m c) 2048 b h) (Spec.seq (A m c) 4096 b h) (n * 128) 128 d e
    (fun i d => res_main_while0b_v119 V (ix4 b h i d)) (fun i d => res_main_while0b_v120 V (ix4 b h i d))
    (V (Proc.devRef .tc main_v68_8) (ix4 b h d e)) (V (Proc.devRef .tc main_v68_5) (ix4 0 h 0 0))
    (fun i => V (Proc.devRef .tc main_v68_6) (ix4 0 h i 0)) (k_read H hR b h) (v_read H hR b h) (H.state b h d e)
    (by rw [H.cd]; exact cd_at m c h) (fun i => by rw [H.zeta]; exact zeta_at m c h i))
  pointwise

theorem out_step (b : Fin 4) (h : Fin 8) (i : Fin 128) (e : Fin 256) : @Eq EReal (step_main_v68_9 V (ix5 n b h i e))
    (out m c b h (n * 128 + i) e : ℝ) := by
  unfold step_main_v68_9
  rw [id_eq]
  refine (Chunk.write_here _ _ n _ (starts H) _ b h i e).trans ?_
  refine Eq.trans ?_ (Retention.out_chunk (Decay.lam h) (Spec.seq (A m c) 0 b h) (Spec.seq (A m c) 2048 b h) (Spec.seq (A m c) 4096 b h)
    (n * 128) 128 i e (fun d => res_main_while0b_v118 V (ix4 b h i d))
    (fun i d => res_main_while0b_v119 V (ix4 b h i d)) (fun i d => res_main_while0b_v120 V (ix4 b h i d))
    (fun d => V (Proc.devRef .tc main_v68_8) (ix4 b h d e)) (V (Proc.devRef .tc main_v68_4) (ix4 0 h i 0))
    (fun j => V (Proc.devRef .tc main_v68_3) (ix3 h i j)) (q_read H hR b h i) (k_read H hR b h) (v_read H hR b h)
    (fun d => H.state b h d e) (fun j => by rw [H.decay]; exact decay_at m c h i j)
    (by rw [H.xi]; exact xi_at m c h i))
  pointwise

theorem step : Inv m c (n + 1) (STEP V) where
  q := (STEP_main_v68_0 V).trans H.q
  k := (STEP_main_v68_1 V).trans H.k
  v := (STEP_main_v68_2 V).trans H.v
  decay := (STEP_main_v68_3 V).trans H.decay
  xi := (STEP_main_v68_4 V).trans H.xi
  cd := (STEP_main_v68_5 V).trans H.cd
  zeta := (STEP_main_v68_6 V).trans H.zeta
  ctr := by
    rw [STEP_main_v68_7]
    unfold step_main_v68_7
    rw [H.ctr, id_eq]
    funext _
    exact (BitVec.ofNat_add (n := 32) n 1).symm
  state b h d e := by
    rw [STEP_main_v68_8]
    exact state_step H hR b h d e
  out n' b h i e hn := by
    rw [STEP_main_v68_9]
    rcases Nat.lt_succ_iff_lt_or_eq.mp hn with hlt | heq
    · unfold step_main_v68_9
      rw [id_eq]
      exact (Chunk.write_there _ _ n n' hlt _ (starts H) _ b h i e).trans (H.out n' b h i e hlt)
    · obtain rfl : n' = n := Fin.ext heq
      exact out_step H hR b h i e
end

theorem entry : Inv m c 0 (entryContents preI m c) where
  q := rfl
  k := rfl
  v := rfl
  decay := rfl
  xi := rfl
  cd := rfl
  zeta := rfl
  ctr := ctr_entry m c
  state b h d e := by
    unfold st
    rw [Nat.zero_mul, Retention.state_zero]
    exact zero_at m c b h d e
  out n' b h i e hn := absurd hn (Nat.not_lt_zero _)

theorem inv (hR : Spec.Real3 (A m c)) : ∀ n : ℕ, n ≤ 32 → Inv m c n (STEP^[n] (entryContents preI m c))
  | 0, _ => entry m c
  | n + 1, hn => by
    rw [Function.iterate_succ_apply']
    exact step (n := ⟨n, hn⟩) (inv hR n (by omega)) hR

end Cert.ReferenceIdeal.Loop

end
-- ==== Proof.RefOutA.lean ====
/- The two results of the reference at one row and one lane. -/
module

public import proofs.«01_k».proof.Proof.RefLoop
public import proofs.«01_k».proof.Proof.Gating

@[expose] public section

set_option maxRecDepth 16384

noncomputable section

namespace Cert.ReferenceIdeal.Out

open Idealize.ShloMosaic Idealize.ShloMosaic.TcCoe Idealize.SL.Sem Idealize.ShloMosaic.StableHlo
open Cert.ReferenceIdeal Cert.ReferenceIdeal.Gen Cert.ReferenceIdeal.Value Cert.ReferenceIdeal.Entry

theorem mul2 {a b a' b' : EReal} (h : a = a') (h' : b = b') : a * b = a' * b' := h ▸ h' ▸ rfl
theorem add2 {a b a' b' : EReal} (h : a = a') (h' : b = b') : a + b = a' + b' := h ▸ h' ▸ rfl

theorem trunc_mul (X Y : FVec Ideal S16384x2048 .f32) (h) (y : S16384x2048.Idx) : @Eq EReal (truncf .bf16 (mulf X Y) h y) (X y * Y y) := rfl

/-- Chunks put back in the order of tokens. -/
theorem merge_at {α : Type} (X : S32x4x8x128x256.Idx → α) (ht hc) (b : Fin 4) (n : Fin 32) (i : Fin 128) (h : Fin 8) (d : Fin 256)
    (t : Fin 4096) (e : (t : ℕ) = (n : ℕ) * 128 + i) :
    shapeCast S4x4096x8x256 (transpose S4x32x128x8x256 [1, 0, 3, 2, 4] X ht) hc (ix4 b t h d) = X (ix5 n b h i d) := by
  have e' : shapeCast S4x4096x8x256 (transpose S4x32x128x8x256 [1, 0, 3, 2, 4] X ht) hc (ix4 b t h d)
      = transpose S4x32x128x8x256 [1, 0, 3, 2, 4] X ht (ix5 b n i h d) := by
    apply shapeCast_apply
    rw [rowMajor_val4 _ 8388608 2048 256 rfl rfl rfl, rowMajor_val5 _ 8388608 262144 2048 256 rfl rfl rfl rfl]
    show (b : ℕ) * 8388608 + (n : ℕ) * 262144 + (i : ℕ) * 2048 + (h : ℕ) * 256 + (d : ℕ)
      = (b : ℕ) * 8388608 + (t : ℕ) * 2048 + (h : ℕ) * 256 + (d : ℕ)
    omega
  rw [e']
  pointwise

theorem flat4_at {α : Type} (X : S4x4096x8x256.Idx → α) (hc) (b : Fin 4) (t : Fin 4096) (h : Fin 8) (d : Fin 256)
    (r : Fin 16384) (k : Fin 2048) (hr : (r : ℕ) = (b : ℕ) * 4096 + t) (hk : (k : ℕ) = (h : ℕ) * 256 + d) :
    shapeCast S16384x2048 X hc (ix2 r k) = X (ix4 b t h d) := by
  apply shapeCast_apply
  rw [rowMajor_val4 _ 8388608 2048 256 rfl rfl rfl, rowMajor_val2 _ 2048 rfl]
  show (b : ℕ) * 8388608 + (t : ℕ) * 2048 + (h : ℕ) * 256 + (d : ℕ) = (r : ℕ) * 2048 + (k : ℕ)
  omega

theorem flat5_at {α : Type} (X : S4x32x128x8x256.Idx → α) (hc) (b : Fin 4) (n : Fin 32) (i : Fin 128) (h : Fin 8) (d : Fin 256)
    (r : Fin 16384) (k : Fin 2048) (hr : (r : ℕ) = (b : ℕ) * 4096 + ((n : ℕ) * 128 + i)) (hk : (k : ℕ) = (h : ℕ) * 256 + d) :
    shapeCast S16384x2048 X hc (ix2 r k) = X (ix5 b n i h d) := by
  apply shapeCast_apply
  rw [rowMajor_val5 _ 8388608 262144 2048 256 rfl rfl rfl rfl, rowMajor_val2 _ 2048 rfl]
  show (b : ℕ) * 8388608 + (n : ℕ) * 262144 + (i : ℕ) * 2048 + (h : ℕ) * 256 + (d : ℕ) = (r : ℕ) * 2048 + (k : ℕ)
  omega

theorem cut_at {α : Type} (X : S16384x2048.Idx → α) (hc) (b : Fin 4) (n : Fin 32) (i : Fin 128) (h : Fin 8) (d : Fin 256)
    (r : Fin 16384) (k : Fin 2048) (hr : (r : ℕ) = (b : ℕ) * 4096 + ((n : ℕ) * 128 + i)) (hk : (k : ℕ) = (h : ℕ) * 256 + d) :
    shapeCast S4x32x128x8x256 X hc (ix5 b n i h d) = X (ix2 r k) := by
  apply shapeCast_apply
  rw [rowMajor_val5 _ 8388608 262144 2048 256 rfl rfl rfl rfl, rowMajor_val2 _ 2048 rfl]
  show (r : ℕ) * 2048 + (k : ℕ) = (b : ℕ) * 8388608 + (n : ℕ) * 262144 + (i : ℕ) * 2048 + (h : ℕ) * 256 + (d : ℕ)
  omega

/-- The normalization, before the lanes are put side by side. -/
theorem norm_at (O : FVec Ideal S4x4096x8x256 .f32) (b : Fin 4) (t : Fin 4096) (h : Fin 8) (d : Fin 256) : @Eq EReal
    (mulf O (broadcastInDim S4x4096x8x256 ![0, 1, 2, 3] bcast_S4x4096x8x1_S4x4096x8x256_0_1_2_3 (Host.rsqrt (addf (Host.divf (broadcastInDim S4x4096x8x1 ![0, 1, 2] bcast_S4x4096x8_S4x4096x8x1_0_1_2 (Host.reduceAdd (mulf O O) (constant S_ .f32 0x00000000#32) reducesTo_S4x4096x8x256_S4x4096x8_d3 h_S_)) (broadcastInDim S4x4096x8x1 ![] bcast_S_S4x4096x8x1 (constant S_ .f32 0x43800000#32))) (broadcastInDim S4x4096x8x1 ![] bcast_S_S4x4096x8x1 (constant S_ .f32 0x358637BD#32))))) (ix4 b t h d))
    (O (ix4 b t h d) * Ideal.rsqrt (Ideal.div (∑ e : Fin 256, O (ix4 b t h e) * O (ix4 b t h e))
        (Ideal.ofBits .f32 1132462080#32) + Ideal.ofBits .f32 897988541#32)) := by
  pointwise

/-- The weighted sum over a chunk's tokens, with its bias. -/
theorem mix_at (X : FVec Ideal S4x32x128x8x256 .f32) (w : FVec Ideal S8x128x128 .f32) (v : FVec Ideal S8x128 .f32)
    (b : Fin 4) (n : Fin 32) (i : Fin 128) (g : Fin 8) (d : Fin 256) : @Eq EReal
    (addf (transpose S4x32x128x8x256 [1, 2, 4, 0, 3] (Host.dotGeneral dot_S4x32x128x8x256_S8x128x128_S8x4x32x256x128_2_2_014_1_3_0 none X (mulf w (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))))))) transposes_S8x4x32x256x128_S4x32x128x8x256_1_2_4_0_3) (broadcastInDim S4x32x128x8x256 ![0, 1, 2, 3, 4] bcast_S1x1x128x8x1_S4x32x128x8x256_0_1_2_3_4 (broadcastInDim S1x1x128x8x1 ![2, 3] bcast_S128x8_S1x1x128x8x1_2_3 (transpose S128x8 [1, 0] v transposes_S8x128_S128x8_1_0))) (ix5 b n i g d))
    (∑ j : Fin 128, w (ix3 g i j) * Gating.mask i j * X (ix5 b n j g d) + v (ix2 g i)) := by
  pointwise
  refine add2 (Finset.sum_congr rfl fun j _ => ?_) rfl
  have e : IntOp.addi (BitVec.ofNat 32 (i : ℕ)) 0#32 = BitVec.ofNat 32 (i : ℕ) := BitVec.add_zero _
  rw [e, Gating.sge_eq i j (by omega) (by omega), Gating.mask]
  by_cases h : (j : ℕ) ≤ i
  · rw [if_pos h, if_pos h, mul_one, mul_comm]
    rfl
  · rw [if_neg h, if_neg h, mul_zero, zero_mul]
    rfl

end Cert.ReferenceIdeal.Out

end
-- ==== Proof.RefOutR.lean ====
/- The two results of the reference at a given row and one lane. -/
module

public import proofs.«01_k».proof.Proof.RefOutA
public import proofs.«01_k».proof.Proof.Gating

@[expose] public section

set_option maxRecDepth 16384

noncomputable section

namespace Cert.ReferenceIdeal.Out

open Idealize.ShloMosaic Idealize.ShloMosaic.TcCoe Idealize.SL.Sem Idealize.ShloMosaic.StableHlo
open Cert.ReferenceIdeal Cert.ReferenceIdeal.Gen Cert.ReferenceIdeal.Value Cert.ReferenceIdeal.Entry

variable (m : (ℓ : Loc nD τ sig) → Buf (Elt Ideal) ℓ) (c : Dev nD)

theorem ret_at (hR : Spec.Real3 (A m c)) (r : Fin 16384) (k : Fin 2048) : @Eq EReal
    (out_main_v116 (STEP^[32] (entryContents preI m c)) (ix2 r k))
    (Spec.ret (A m c) ((r : ℕ) / 4096) ((k : ℕ) / 256) ((r : ℕ) % 4096) ⟨(k : ℕ) % 256, Nat.mod_lt _ (by omega)⟩) := by
  have H := Loop.inv m c hR 32 le_rfl
  have ha := iter_main_arg0 m c 32
  have hr := r.isLt
  have hk := k.isLt
  let b : Fin 4 := ⟨(r : ℕ) / 4096, by omega⟩
  let t : Fin 4096 := ⟨(r : ℕ) % 4096, by omega⟩
  let n : Fin 32 := ⟨(r : ℕ) % 4096 / 128, by omega⟩
  let i : Fin 128 := ⟨(r : ℕ) % 128, by omega⟩
  let h : Fin 8 := ⟨(k : ℕ) / 256, by omega⟩
  let d : Fin 256 := ⟨(k : ℕ) % 256, by omega⟩
  have et : (t : ℕ) = (n : ℕ) * 128 + i := by simp only [t, n, i]; omega
  have hO : ∀ e : Fin 256, @Eq EReal (shapeCast S4x4096x8x256 (transpose S4x32x128x8x256 [1, 0, 3, 2, 4]
      (STEP^[32] (entryContents preI m c) (Proc.devRef .tc main_v68_9)) transposes_S32x4x8x128x256_S4x32x128x8x256_1_0_3_2_4)
      shapeCasts_S4x32x128x8x256_S4x4096x8x256 (ix4 b t h e)) (Loop.out m c b h t e : ℝ) := fun e => by
    refine (merge_at _ _ _ b n i h e t et).trans ?_
    rw [H.out n b h i e n.isLt, et]
  have hn := norm_at (shapeCast S4x4096x8x256 (transpose S4x32x128x8x256 [1, 0, 3, 2, 4]
      (STEP^[32] (entryContents preI m c) (Proc.devRef .tc main_v68_9)) transposes_S32x4x8x128x256_S4x32x128x8x256_1_0_3_2_4)
      shapeCasts_S4x32x128x8x256_S4x4096x8x256) b t h d
  simp only [hO] at hn
  unfold out_main_v116
  refine (trunc_mul _ _ _ _).trans ?_
  refine mul2 (a' := Decay.normed (Decay.lam h) (Spec.seq (A m c) 0 b h) (Spec.seq (A m c) 2048 b h)
    (Spec.seq (A m c) 4096 b h) t d) ((flat4_at _ _ b t h d r k (by simp only [b, t]; omega) (by simp only [h, d]; omega)).trans hn) ?_
  rw [ha]
  refine Eq.trans ?_ (Spec.ent_eq (A m c) _ _ r ⟨6144 + k, by omega⟩
    (by show (r : ℕ) = (r : ℕ) / 4096 * 4096 + (r : ℕ) % 4096; omega)
    (by show 6144 + (k : ℕ) = 6144 + ((k : ℕ) / 256 * 256 + (k : ℕ) % 256); omega))
  unfold A
  pointwise

end Cert.ReferenceIdeal.Out

end
-- ==== Proof.RefOutG.lean ====
/- The two results of the reference at a given row and one lane. -/
module

public import proofs.«01_k».proof.Proof.RefOutA
public import proofs.«01_k».proof.Proof.Gating

@[expose] public section

set_option maxRecDepth 16384

noncomputable section

namespace Cert.ReferenceIdeal.Out

open Idealize.ShloMosaic Idealize.ShloMosaic.TcCoe Idealize.SL.Sem Idealize.ShloMosaic.StableHlo
open Cert.ReferenceIdeal Cert.ReferenceIdeal.Gen Cert.ReferenceIdeal.Value Cert.ReferenceIdeal.Entry

variable (m : (ℓ : Loc nD τ sig) → Buf (Elt Ideal) ℓ) (c : Dev nD)

/-- The token weights and the biases, group by group. -/
def W (g : ℕ) (i j : Fin 128) : EReal := if h : g < 8 then m (c, Proc.devRef .tc main_arg1) (ix3 ⟨g, h⟩ i j) else 0
def B (g : ℕ) (i : Fin 128) : EReal := if h : g < 8 then m (c, Proc.devRef .tc main_arg2) (ix2 ⟨g, h⟩ i) else 0

theorem gated_at (hU : Spec.RealU (A m c)) (r : Fin 16384) (k : Fin 2048) : @Eq EReal
    (out_main_v117 (STEP^[32] (entryContents preI m c)) (ix2 r k))
    (Gating.gated (A m c) (W m c) (B m c) ((r : ℕ) / 128 * 128) ((k : ℕ) / 256) ⟨(r : ℕ) % 128, Nat.mod_lt _ (by omega)⟩
      ⟨(k : ℕ) % 256, Nat.mod_lt _ (by omega)⟩) := by
  have hr := r.isLt
  have hk := k.isLt
  let b : Fin 4 := ⟨(r : ℕ) / 4096, by omega⟩
  let n : Fin 32 := ⟨(r : ℕ) % 4096 / 128, by omega⟩
  let i : Fin 128 := ⟨(r : ℕ) % 128, by omega⟩
  let g : Fin 8 := ⟨(k : ℕ) / 256, by omega⟩
  let d : Fin 256 := ⟨(k : ℕ) % 256, by omega⟩
  have hX : ∀ (X : FVec Ideal S16384x12288 .bf16) (hX : X = m (c, Proc.devRef .tc main_arg0)) (j : Fin 128), @Eq EReal
      (shapeCast S4x32x128x8x256 (extf (F := Ideal) .f32 (extractStridedSlice S16384x2048 ![0, 10240] X
        slices_S16384x12288_S16384x2048_0_10240) bitsLt_bf16_f32) shapeCasts_S16384x2048_S4x32x128x8x256 (ix5 b n j g d))
      (Spec.ent (A m c) ((r : ℕ) / 128 * 128 + j) (10240 + ((k : ℕ) / 256 * 256 + d))) := fun X hX j => by
    subst hX
    refine (cut_at _ _ b n j g d ⟨(r : ℕ) / 128 * 128 + j, by omega⟩ k (by simp only [b, n]; omega)
      (by simp only [g, d]; omega)).trans ?_
    refine Eq.trans ?_ (Spec.ent_eq (A m c) _ _ ⟨(r : ℕ) / 128 * 128 + j, by omega⟩ ⟨10240 + k, by omega⟩ rfl (by simp only [d]; omega))
    unfold A
    pointwise
  have hx : A m c r ⟨8192 + k, by omega⟩ = ((Spec.ent (A m c) ((r : ℕ) / 128 * 128 + i) (8192 + ((k : ℕ) / 256 * 256 + d))).toReal : EReal) := by
    rw [← hU _ _ (by omega) (by simp only [d]; omega)]
    exact Spec.ent_eq (A m c) _ _ r ⟨8192 + k, by omega⟩ (by simp only [i]; omega) (by simp only [d]; omega)
  unfold out_main_v117
  refine (trunc_mul _ _ _ _).trans ?_
  refine (mul2 (a' := (Gating.act (Spec.ent (A m c) ((r : ℕ) / 128 * 128 + i) (8192 + ((k : ℕ) / 256 * 256 + d))).toReal : EReal))
    ?_ ((flat5_at _ _ b n i g d r k (by simp only [b, n, i]; omega) (by simp only [g, d]; omega)).trans (mix_at _ _ _ b n i g d))).trans ?_
  · rw [iter_main_arg0]
    rw [← Gating.host_act, ← hx]
    unfold A
    pointwise
  · rw [iter_main_arg1, iter_main_arg2]
    refine mul2 rfl (add2 (Finset.sum_congr rfl fun j _ => mul2 (mul2 ?_ rfl) (hX _ (iter_main_arg0 m c 32) j)) ?_)
    · rw [W, dif_pos (by omega)]
    · rw [B, dif_pos (by omega)]

end Cert.ReferenceIdeal.Out

end
-- ==== Proof.Equal.lean ====
/- The kernel and the reference end with the same two arrays. -/
module

public import proofs.«01_k».proof.Defs
public import proofs.«01_k».proof.Proof.Pre
public import proofs.«01_k».proof.Proof.KFinal
public import proofs.«01_k».proof.Proof.RefOutR
public import proofs.«01_k».proof.Proof.RefOutG
public import proofs.«01_k».proof.Proof.Gen.KernelIdeal.Value

@[expose] public section

set_option maxRecDepth 16384

noncomputable section

namespace Cert.Equal

open Idealize.ShloMosaic Idealize.ShloMosaic.TcCoe Idealize.SL.Sem

theorem preserves : Cert.preserves_Kernel_KernelIdeal :=
  IdealRules.named_const.statement Cert.KernelIdeal.κ "gelu_ca" .f32 0x3D122279#32
    ((80338380498831 / 2251799813685248 : ℝ) : EReal) rfl

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem sameA (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Entry.A m' c = Cert.KernelIdeal.Blocks.A m c :=
  funext fun i => funext fun j => congrFun h (ix2 i j)

theorem sameW (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Out.W m' c = Cert.KernelIdeal.Loads.W m c := by
  funext g i j
  unfold Cert.ReferenceIdeal.Out.W Cert.KernelIdeal.Loads.W
  by_cases hg : g < 8
  · rw [dif_pos hg, dif_pos hg]
    exact congrFun h (ix3 ⟨g, hg⟩ i j)
  · rw [dif_neg hg, dif_neg hg]

theorem sameB (h : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Out.B m' c = Cert.KernelIdeal.Loads.B m c := by
  funext g i
  unfold Cert.ReferenceIdeal.Out.B Cert.KernelIdeal.Loads.B
  by_cases hg : g < 8
  · rw [dif_pos hg, dif_pos hg]
    exact congrFun h (ix2 ⟨g, hg⟩ i)
  · rw [dif_neg hg, dif_neg hg]
end

/-- The reference leaves its arguments as they were, and it has no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem algebraic : Cert.algebraic_KernelIdeal_ReferenceIdeal_pre_finite := by
  intro m g m' g' hpre hagree
  have hR : ∀ c, Spec.Real3 (Cert.KernelIdeal.Blocks.A m c) := fun c => Finite.real3 _ _ _ (hpre c)
  have hU : ∀ c, Spec.RealU (Cert.KernelIdeal.Blocks.A m c) := fun c => Finite.realU _ _ _ (hpre c)
  refine ⟨fun c => Cert.KernelIdeal.Point.retArr m c, fun c => Cert.KernelIdeal.Point.gateArr m c, ?_, ?_⟩
  · exact (θ_run Cert.KernelIdeal.defs _ _).mono (fun r h c => ⟨(h c).1.trans (Cert.KernelIdeal.Point.final_ret m c (hR c)),
      (h c).2.1.trans (Cert.KernelIdeal.Point.final_gate m c (hU c)), (h c).2.2⟩) (Cert.KernelIdeal.Value.run_blocks (F := Ideal) m g)
  · refine (θ_run Cert.ReferenceIdeal.defs _ _).mono (fun r h c => ⟨(h c).1.trans ?_, (h c).2.1.trans ?_, (h c).2.2⟩)
      (Cert.ReferenceIdeal.Value.run (F := Ideal) m' g')
    · have eA := sameA m m' c (hagree c).1
      funext y
      idx_vars y
      refine (Cert.ReferenceIdeal.Out.ret_at m' c (by rw [eA]; exact hR c) _ _).trans ?_
      rw [eA]
      rfl
    · have eA := sameA m m' c (hagree c).1
      funext y
      idx_vars y
      refine (Cert.ReferenceIdeal.Out.gated_at m' c (by rw [eA]; exact hU c) _ _).trans ?_
      rw [eA, sameW m m' c (hagree c).2.1, sameB m m' c (hagree c).2.2]
      rfl

end Cert.Equal

end
-- ==== Proof.Silu.lean ====
/- The scalars of the gated product: the activation as each program writes it, and sums of products of reals. -/
module

public import proofs.«01_k».proof.Proof.Pre

@[expose] public section

noncomputable section

namespace Cert.Silu

open Idealize.ShloMosaic

/-- The activation of `a` times `b`, as the kernel writes it. -/
def gate (a b : EReal) : EReal :=
  (Ideal.ofBits .f32 1056964608#32 * a
    + Ideal.ofBits .f32 1056964608#32 * a * Ideal.tanh (Ideal.ofBits .f32 1056964608#32 * a)) * b

theorem one : Ideal.ofBits .f32 1065353216#32 = ((1 : ℝ) : EReal) := by
  simp [Ideal.ofBits, Ideal.ieee, -EReal.coe_mul]; norm_num

theorem real_silu (a : ℝ) : 1 / 2 * a + 1 / 2 * a * Real.tanh (1 / 2 * a) = a * (1 / (1 + Real.exp (-a))) := by
  have hp : 0 < Real.exp (1 / 2 * a) := Real.exp_pos _
  have e1 : Real.exp (-(1 / 2 * a)) = (Real.exp (1 / 2 * a))⁻¹ := Real.exp_neg _
  have e2 : Real.exp (-a) = (Real.exp (1 / 2 * a))⁻¹ * (Real.exp (1 / 2 * a))⁻¹ := by
    rw [← e1, ← Real.exp_add]
    congr 1
    ring
  rw [Real.tanh_eq_sinh_div_cosh, Real.sinh_eq, Real.cosh_eq, e1, e2]
  generalize Real.exp (1 / 2 * a) = p at hp
  field_simp
  ring

/-- For a real `a` the quotient form is the same. -/
theorem gate_eq (a b : EReal) (h : a = (a.toReal : EReal)) :
    a * Ideal.div (Ideal.ofBits .f32 1065353216#32) (Ideal.ofBits .f32 1065353216#32 + Ideal.exp (-a)) * b = gate a b := by
  unfold gate
  congr 1
  rw [h, Decay.half, one]
  simp only [← EReal.coe_mul, ← EReal.coe_add, ← EReal.coe_neg, Ideal.tanh_coe, Ideal.exp_coe, real_silu]
  rw [Ideal.div_coe (by positivity), ← EReal.coe_mul, ← EReal.coe_mul, one_mul]

theorem sum_real {n : ℕ} (f g : Fin n → EReal) (hf : ∀ i, f i = ((f i).toReal : EReal)) (hg : ∀ i, g i = ((g i).toReal : EReal)) :
    ∑ i, f i * g i = ((∑ i, f i * g i).toReal : EReal) := by
  have : ∃ r : ℝ, ∑ i, f i * g i = (r : EReal) :=
    Finset.sum_induction _ (fun x => ∃ r : ℝ, x = (r : EReal)) (fun _ _ ⟨r, hr⟩ ⟨s, hs⟩ => ⟨r + s, by rw [hr, hs, EReal.coe_add]⟩)
      ⟨0, rfl⟩ (fun i _ => ⟨(f i).toReal * (g i).toReal, by rw [EReal.coe_mul, ← hf, ← hg]⟩)
  obtain ⟨r, hr⟩ := this
  rw [hr, EReal.toReal_coe]

end Cert.Silu

end
-- ==== Proof.Up.lean ====
/- The first gated product up, and the casts done beside it, entry by entry. -/
module

public import proofs.«01_k».proof.Proof.Silu
public import proofs.«01_k».proof.Proof.Gen.Kernel2Ideal.Value

@[expose] public section

set_option maxRecDepth 16384

noncomputable section

namespace Cert.Kernel2Ideal.Up

open Idealize.ShloMosaic Idealize.ShloMosaic.TcCoe Idealize.SL.Sem
open Cert.Kernel2Ideal Cert.Kernel2Ideal.Gen

variable (m : (ℓ : Loc nD τ sig) → Buf (Elt Ideal) ℓ) (c : Dev nD)

theorem idx0 : ∀ t : Fin cfg0.N, win0_0.index t = ![t.val / 43, 0] :=
  (by decide +kernel : ∀ t : Fin grid0.N, _)
theorem idx1 : ∀ t : Fin cfg0.N, win0_1.index t = ![0, t.val % 43] :=
  (by decide +kernel : ∀ t : Fin grid0.N, _)
theorem idx2 : ∀ t : Fin cfg0.N, win0_2.index t = ![0, t.val % 43] :=
  (by decide +kernel : ∀ t : Fin grid0.N, _)
theorem idx8 : ∀ t : Fin cfg0.N, win0_8.index t = ![t.val / 43, t.val % 43] :=
  (by decide +kernel : ∀ t : Fin grid0.N, _)

/-- The result at a row and a column. -/
def val (H : Vec Ideal S16384x4096 .bf16) (W V : Vec Ideal S4096x11008 .f32) (r : Fin 16384) (k : Fin 11008) : EReal :=
  Silu.gate (∑ n : Fin 4096, H (ix2 r n) * W (ix2 n k)) (∑ n : Fin 4096, H (ix2 r n) * V (ix2 n k))

theorem blk0 (t : Fin cfg0.N) (i : Fin 2048) (n : Fin 4096) (r : Fin 16384) (hr : (r : ℕ) = t.val / 43 * 2048 + i) :
    @Eq EReal (iblk m c 0 t (ix2 i n)) (m (c, Proc.tc.devRef main_arg0) (ix2 r n)) := by
  rw [show r = ⟨t.val / 43 * 2048 + i, by omega⟩ from Fin.ext hr]
  blk_point [iblk, V, idx0 t]

theorem blk1 (t : Fin cfg0.N) (n : Fin 4096) (j : Fin 256) (k : Fin 11008) (hk : (k : ℕ) = t.val % 43 * 256 + j) :
    @Eq EReal (iblk m c 1 t (ix2 n j)) (m (c, Proc.tc.devRef main_arg1) (ix2 n k)) := by
  rw [show k = ⟨t.val % 43 * 256 + j, by omega⟩ from Fin.ext hk]
  blk_point [iblk, V, idx1 t]

theorem blk2 (t : Fin cfg0.N) (n : Fin 4096) (j : Fin 256) (k : Fin 11008) (hk : (k : ℕ) = t.val % 43 * 256 + j) :
    @Eq EReal (iblk m c 2 t (ix2 n j)) (m (c, Proc.tc.devRef main_arg2) (ix2 n k)) := by
  rw [show k = ⟨t.val % 43 * 256 + j, by omega⟩ from Fin.ext hk]
  blk_point [iblk, V, idx2 t]

theorem pay2_at (H : Vec Ideal S2048x4096 .bf16) (W V : Vec Ideal S4096x256 .f32) (i : Fin 2048) (j : Fin 256) :
    @Eq EReal (k0_pay2 H W V (ix2 i j))
      (Silu.gate (∑ n : Fin 4096, H (ix2 i n) * W (ix2 n j)) (∑ n : Fin 4096, H (ix2 i n) * V (ix2 n j))) := by
  unfold k0_pay2 Silu.gate
  pointwise

/-- The arrays of the run. -/
abbrev out : Fin 16384 → Fin 11008 → EReal :=
  val (m (c, Proc.tc.devRef main_arg0)) (m (c, Proc.tc.devRef main_arg1)) (m (c, Proc.tc.devRef main_arg2))

theorem final8 : (dats m 0 c).arrAt 8 cfg0.N = fun q => out m c (q 0) (q 1) := by
  refine (dats m 0 c).arrAt_eq_of_covers 8 _ (by decide +kernel) fun t hf y => ?_
  blk_simp
  rw [after0_8]
  frame_out
  idx_vars y
  have h0 : ((((cfg0.win 8).blk t).view.emb (ix2 y0 y1) 0 : Fin 16384) : ℕ) = win0_8.index t (0 : Fin 2) * 2048 + 1 * (y0 : ℕ) := rfl
  have h1 : ((((cfg0.win 8).blk t).view.emb (ix2 y0 y1) 1 : Fin 11008) : ℕ) = win0_8.index t (1 : Fin 2) * 256 + 1 * (y1 : ℕ) := rfl
  rw [idx8] at h0 h1
  refine (pay2_at _ _ _ y0 y1).trans ?_
  exact congrArg₂ Silu.gate
    (Finset.sum_congr rfl fun n _ => congrArg₂ (· * ·) (blk0 m c t y0 n _ (h0.trans (congrArg _ (Nat.one_mul _)))) (blk1 m c t n y1 _ (h1.trans (congrArg _ (Nat.one_mul _)))))
    (Finset.sum_congr rfl fun n _ => congrArg₂ (· * ·) (blk0 m c t y0 n _ (h0.trans (congrArg _ (Nat.one_mul _)))) (blk2 m c t n y1 _ (h1.trans (congrArg _ (Nat.one_mul _)))))

/-! The casts: at every step a band of rows of each later weight. -/

theorem final9 : (dats m 0 c).arrAt 9 cfg0.N = m (c, Proc.tc.devRef main_arg3) := by
  refine (dats m 0 c).arrAt_eq_of_covers 9 _ (by decide +kernel) fun t hf y => ?_
  blk_simp
  rw [after0_9]
  frame_out
  rfl

theorem final10 : (dats m 0 c).arrAt 10 cfg0.N = m (c, Proc.tc.devRef main_arg4) := by
  refine (dats m 0 c).arrAt_eq_of_covers 10 _ (by decide +kernel) fun t hf y => ?_
  blk_simp
  rw [after0_10]
  frame_out
  rfl

theorem final11 : (dats m 0 c).arrAt 11 cfg0.N = m (c, Proc.tc.devRef main_arg5) := by
  refine (dats m 0 c).arrAt_eq_of_covers 11 _ (by decide +kernel) fun t hf y => ?_
  blk_simp
  rw [after0_11]
  frame_out
  rfl

theorem final12 : (dats m 0 c).arrAt 12 cfg0.N = m (c, Proc.tc.devRef main_arg6) := by
  refine (dats m 0 c).arrAt_eq_of_covers 12 _ (by decide +kernel) fun t hf y => ?_
  blk_simp
  rw [after0_12]
  frame_out
  rfl

theorem final13 : (dats m 0 c).arrAt 13 cfg0.N = m (c, Proc.tc.devRef main_arg7) := by
  refine (dats m 0 c).arrAt_eq_of_covers 13 _ (by decide +kernel) fun t hf y => ?_
  blk_simp
  rw [after0_13]
  frame_out
  rfl

end Cert.Kernel2Ideal.Up

end
-- ==== Proof.UpR.lean ====
/- The reference's gated product up, at an entry, and that both programs give the same arrays. -/
module

public import proofs.«01_k».proof.Defs
public import proofs.«01_k».proof.Proof.Up
public import proofs.«01_k».proof.Proof.Gen.Pre_finite2
public import proofs.«01_k».proof.Proof.Gen.Reference2Ideal.Run

@[expose] public section

set_option maxRecDepth 16384

noncomputable section

namespace Cert.Reference2Ideal.Up

open Idealize.ShloMosaic Idealize.ShloMosaic.TcCoe Idealize.SL.Sem
open Cert.Reference2Ideal Cert.Reference2Ideal.Gen

/-- The activation of one array times another, at an entry. -/
theorem outer (D E : FVec Ideal S16384x11008 .f32) (q : S16384x11008.Idx) :
    @Eq EReal (mulf (F := Ideal) (mulf D (Host.divf (broadcastInDim S16384x11008 ![] bcast_S_S16384x11008 (constant S_ .f32 0x3F800000#32)) (addf (broadcastInDim S16384x11008 ![] bcast_S_S16384x11008 (constant S_ .f32 0x3F800000#32)) (Host.exp (Host.negf D))))) E q)
      (D q * Ideal.div (Ideal.ofBits .f32 1065353216#32) (Ideal.ofBits .f32 1065353216#32 + Ideal.exp (-(D q))) * E q) := by
  rfl

theorem dot_at (H : FVec Ideal S16384x4096 .bf16) (W : FVec Ideal S4096x11008 .f32) (r : Fin 16384) (k : Fin 11008) :
    @Eq EReal (Host.dotGeneral (F := Ideal) dot_S16384x4096_S4096x11008_S16384x11008_1_0_0_1_n_n none (extf .f32 H bitsLt_bf16_f32) W (ix2 r k))
      (∑ n : Fin 4096, H (ix2 r n) * W (ix2 n k)) := by
  pointwise

theorem real (H : Vec Ideal S16384x4096 .bf16) (W V : Vec Ideal S4096x11008 .f32) (w2 : Vec Ideal S11008x4096 .f32) (wi : Vec Ideal S4096x12288 .f32)
    (wo : Vec Ideal S4096x4096 .f32) (n1 n3 : Vec Ideal S4096x11008 .f32)
    (h : Cert.Pre_finite2.fn (F := Ideal) H W V w2 wi wo n1 n3 = fun _ => 1#1) :
    (∀ q, @Eq EReal (H q) (EReal.toReal (H q) : ℝ)) ∧ ∀ q, @Eq EReal (W q) (EReal.toReal (W q) : ℝ) := by
  have h0 := congrFun h (fun a => a.elim0)
  have andi_one : ∀ a b : BitVec 1, IntOp.andi a b = 1#1 → a = 1#1 ∧ b = 1#1 := by decide
  unfold Cert.Pre_finite2.fn at h0
  obtain ⟨h1, h2⟩ := andi_one _ _ h0
  exact ⟨fun q => Finite.real_of_lt _ (Host.reduce_andi_all _ _ _ _ _ h1 q), fun q => Finite.real_of_lt _ (Host.reduce_andi_all _ _ _ _ _ h2 q)⟩

theorem frame : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

theorem algebraic : Cert.algebraic_Kernel2Ideal_Reference2Ideal_pre_finite2 := by
  intro m g m' g' hpre hagree
  refine ⟨fun c q => Cert.Kernel2Ideal.Up.out m c (q 0) (q 1), fun c => m (c, Proc.tc.devRef Cert.Kernel2Ideal.main_arg3),
    fun c => m (c, Proc.tc.devRef Cert.Kernel2Ideal.main_arg4), fun c => m (c, Proc.tc.devRef Cert.Kernel2Ideal.main_arg5),
    fun c => m (c, Proc.tc.devRef Cert.Kernel2Ideal.main_arg6), fun c => m (c, Proc.tc.devRef Cert.Kernel2Ideal.main_arg7), ?_, ?_⟩
  · exact (θ_run Cert.Kernel2Ideal.defs _ _).mono (fun r h c => by
      obtain ⟨h8, h9, h10, h11, h12, h13, hrest⟩ := h c
      exact ⟨h8.trans (Cert.Kernel2Ideal.Up.final8 m c), h9.trans (Cert.Kernel2Ideal.Up.final9 m c), h10.trans (Cert.Kernel2Ideal.Up.final10 m c),
        h11.trans (Cert.Kernel2Ideal.Up.final11 m c), h12.trans (Cert.Kernel2Ideal.Up.final12 m c), h13.trans (Cert.Kernel2Ideal.Up.final13 m c), hrest⟩)
      (Cert.Kernel2Ideal.Value.run_blocks (F := Ideal) m g)
  · refine (θ_run Cert.Reference2Ideal.defs _ _).mono (fun r h c => ?_) (Cert.Reference2Ideal.Value.run (F := Ideal) m' g')
    obtain ⟨h0, h1, h2, h3, h4, h5, hrest⟩ := h c
    obtain ⟨e0, e1, e2, e3, e4, e5, e6, e7⟩ := hagree c
    refine ⟨h0.trans ?_, h1.trans e3, h2.trans e4, h3.trans e5, h4.trans e6, h5.trans e7, hrest⟩
    obtain ⟨rH, rW⟩ := real _ _ _ _ _ _ _ _ (hpre c)
    rw [e0, e1, e2]
    funext q
    idx_vars q
    refine (outer _ _ (ix2 q0 q1)).trans ?_
    have d1 := dot_at (m (c, Proc.tc.devRef Cert.Kernel2Ideal.main_arg0)) (m (c, Proc.tc.devRef Cert.Kernel2Ideal.main_arg1)) q0 q1
    have d2 := dot_at (m (c, Proc.tc.devRef Cert.Kernel2Ideal.main_arg0)) (m (c, Proc.tc.devRef Cert.Kernel2Ideal.main_arg2)) q0 q1
    refine (Silu.gate_eq _ _ (d1.symm ▸ Silu.sum_real _ _ (fun _ => rH _) (fun _ => rW _))).trans ?_
    exact congrArg₂ Silu.gate d1 d2

end Cert.Reference2Ideal.Up

end
-- ==== Proof.Down.lean ====
/- One entry of a product added to a residual, as the layer does it after the first feed-forward part. -/
module

public import proofs.«01_k».proof.Proof.Gen.Kernel3Ideal.Value
public import Idealize.ShloMosaic.Lib.Pipeline.ValueKit
public import Idealize.ShloMosaic.Lib.StableHlo.ReadAt

@[expose] public section

set_option maxRecDepth 16384

noncomputable section

namespace Cert.Kernel3Ideal.Down

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

theorem idx0 : ∀ t : Fin cfg0.N, win0_0.index t = ![t.val % 32, 0] :=
  (by decide +kernel : ∀ t : Fin grid0.N, _)
theorem idx1 : ∀ t : Fin cfg0.N, win0_1.index t = ![0, t.val / 32] :=
  (by decide +kernel : ∀ t : Fin grid0.N, _)
theorem idx2 : ∀ t : Fin cfg0.N, win0_2.index t = ![t.val % 32, t.val / 32] :=
  (by decide +kernel : ∀ t : Fin grid0.N, _)
theorem idx3 : ∀ t : Fin cfg0.N, win0_3.index t = ![t.val % 32 / 8, 0, 16 + t.val / 32] :=
  (by decide +kernel : ∀ t : Fin grid0.N, _)
theorem idx4 : ∀ t : Fin cfg0.N, win0_4.index t = ![t.val % 32, t.val / 32] :=
  (by decide +kernel : ∀ t : Fin grid0.N, _)
theorem idx5 : ∀ t : Fin cfg0.N, win0_5.index t = ![t.val % 32, t.val / 32] :=
  (by decide +kernel : ∀ t : Fin grid0.N, _)

/-- The result at a row and a column: the residual plus half the gate times the product. -/
def val (A : Vec Ideal S16384x11008 .bf16) (W : Vec Ideal S11008x4096 .bf16) (X : Vec Ideal S4x4096x4096 .f32) (G : Vec Ideal S4x36864 .f32)
    (r : Fin 16384) (k : Fin 4096) : EReal :=
  X (ix3 (⟨(r : ℕ) / 4096, by omega⟩ : Fin 4) (⟨(r : ℕ) % 4096, by omega⟩ : Fin 4096) k)
    + Ideal.ofBits .f32 1056964608#32 * G (ix2 (⟨(r : ℕ) / 4096, by omega⟩ : Fin 4) (⟨8192 + (k : ℕ), by omega⟩ : Fin 36864))
      * ∑ n : Fin 11008, A (ix2 r n) * W (ix2 n k)

theorem blk0 (t : Fin cfg0.N) (i : Fin 512) (n : Fin 11008) (r : Fin 16384) (hr : (r : ℕ) = t.val % 32 * 512 + i) :
    @Eq EReal (iblk m c 0 t (ix2 i n)) (m (c, Proc.tc.devRef main_arg0) (ix2 r n)) := by
  rw [show r = ⟨t.val % 32 * 512 + i, by omega⟩ from Fin.ext hr]
  blk_point [iblk, V, idx0 t]

theorem blk1 (t : Fin cfg0.N) (n : Fin 11008) (j : Fin 512) (k : Fin 4096) (hk : (k : ℕ) = t.val / 32 * 512 + j) :
    @Eq EReal (iblk m c 1 t (ix2 n j)) (m (c, Proc.tc.devRef main_arg1) (ix2 n k)) := by
  have ht : t.val < 256 := t.isLt
  rw [show k = ⟨t.val / 32 * 512 + j, by omega⟩ from Fin.ext hk]
  blk_point [iblk, V, idx1 t]

theorem blk2 (t : Fin cfg0.N) (i j : Fin 512) (r : Fin 16384) (k : Fin 4096) (hr : (r : ℕ) = t.val % 32 * 512 + i)
    (hk : (k : ℕ) = t.val / 32 * 512 + j) :
    @Eq EReal (iblk m c 2 t (ix2 i j)) (V m c main_v0 (ix2 r k)) := by
  have ht : t.val < 256 := t.isLt
  rw [show k = ⟨t.val / 32 * 512 + j, by omega⟩ from Fin.ext hk]
  rw [show r = ⟨t.val % 32 * 512 + i, by omega⟩ from Fin.ext hr]
  blk_point [iblk, idx2 t]

theorem blk3 (t : Fin cfg0.N) (j : Fin 512) (b : Fin 4) (k : Fin 36864) (hb : (b : ℕ) = t.val % 32 / 8)
    (hk : (k : ℕ) = (16 + t.val / 32) * 512 + j) :
    @Eq EReal (iblk m c 3 t (ix3 0 0 j)) (V m c main_v1 (ix3 b 0 k)) := by
  have ht : t.val < 256 := t.isLt
  rw [show k = ⟨(16 + t.val / 32) * 512 + j, by omega⟩ from Fin.ext hk]
  rw [show b = ⟨t.val % 32 / 8, by omega⟩ from Fin.ext hb]
  blk_point [iblk, idx3 t]

theorem entry_x (r : Fin 16384) (k : Fin 4096) : @Eq EReal (V m c main_v0 (ix2 r k))
    (m (c, Proc.tc.devRef main_arg2) (ix3 (⟨(r : ℕ) / 4096, by omega⟩ : Fin 4) (⟨(r : ℕ) % 4096, by omega⟩ : Fin 4096) k)) := by
  unfold V
  after_reads_at

theorem entry_mod (b : Fin 4) (k : Fin 36864) : @Eq EReal (V m c main_v1 (ix3 b 0 k))
    (m (c, Proc.tc.devRef main_arg3) (ix2 b k)) := by
  unfold V
  after_reads_at

theorem pay1_at (A : Vec Ideal S512x11008 .bf16) (W : Vec Ideal S11008x512 .bf16) (X : Vec Ideal S512x512 .f32) (G : Vec Ideal S1x1x512 .f32) (i j : Fin 512) :
    @Eq EReal (k0_pay1 A W X G (ix2 i j))
      (X (ix2 i j) + Ideal.ofBits .f32 1056964608#32 * G (ix3 0 0 j) * ∑ n : Fin 11008, A (ix2 i n) * W (ix2 n j)) := by
  unfold k0_pay1
  pointwise

/-- The arrays of the run. -/
abbrev out : Fin 16384 → Fin 4096 → EReal :=
  val (m (c, Proc.tc.devRef main_arg0)) (m (c, Proc.tc.devRef main_arg1)) (m (c, Proc.tc.devRef main_arg2)) (m (c, Proc.tc.devRef main_arg3))

theorem block (t : Fin cfg0.N) (i j : Fin 512) (r : Fin 16384) (k : Fin 4096) (hr : (r : ℕ) = t.val % 32 * 512 + i)
    (hk : (k : ℕ) = t.val / 32 * 512 + j) :
    @Eq EReal (k0_pay1 (iblk m c 0 t) (iblk m c 1 t) (iblk m c 2 t) (iblk m c 3 t) (ix2 i j)) (out m c r k) := by
  have ht : t.val < 256 := t.isLt
  refine (pay1_at _ _ _ _ i j).trans ?_
  have e2 := (blk2 m c t i j r k hr hk).trans (entry_x m c r k)
  have e3 := (blk3 m c t j (⟨(r : ℕ) / 4096, by omega⟩ : Fin 4) (⟨8192 + (k : ℕ), by omega⟩ : Fin 36864)
    (show (r : ℕ) / 4096 = t.val % 32 / 8 by omega) (show 8192 + (k : ℕ) = (16 + t.val / 32) * 512 + j by omega)).trans (entry_mod m c _ _)
  exact congrArg₂ (· + ·) e2 (congrArg₂ (· * ·) (congrArg (Ideal.ofBits .f32 1056964608#32 * ·) e3)
    (Finset.sum_congr rfl fun n _ => congrArg₂ (· * ·) (blk0 m c t i n r hr) (blk1 m c t n j k hk)))

theorem final4 : (dats m 0 c).arrAt 4 cfg0.N = fun q => out m c (q 0) (q 1) := by
  refine (dats m 0 c).arrAt_eq_of_covers 4 _ (by decide +kernel) fun t hf y => ?_
  blk_simp
  rw [after0_4]
  frame_out
  idx_vars y
  have h0 : ((((cfg0.win 4).blk t).view.emb (ix2 y0 y1) 0 : Fin 16384) : ℕ) = win0_4.index t (0 : Fin 2) * 512 + 1 * (y0 : ℕ) := rfl
  have h1 : ((((cfg0.win 4).blk t).view.emb (ix2 y0 y1) 1 : Fin 4096) : ℕ) = win0_4.index t (1 : Fin 2) * 512 + 1 * (y1 : ℕ) := rfl
  rw [idx4] at h0 h1
  exact block m c t y0 y1 _ _ (h0.trans (congrArg _ (Nat.one_mul _))) (h1.trans (congrArg _ (Nat.one_mul _)))

theorem final5 : (dats m 0 c).arrAt 5 cfg0.N = fun q => out m c (q 0) (q 1) := by
  refine (dats m 0 c).arrAt_eq_of_covers 5 _ (by decide +kernel) fun t hf y => ?_
  blk_simp
  rw [after0_5]
  frame_out
  idx_vars y
  have h0 : ((((cfg0.win 5).blk t).view.emb (ix2 y0 y1) 0 : Fin 16384) : ℕ) = win0_5.index t (0 : Fin 2) * 512 + 1 * (y0 : ℕ) := rfl
  have h1 : ((((cfg0.win 5).blk t).view.emb (ix2 y0 y1) 1 : Fin 4096) : ℕ) = win0_5.index t (1 : Fin 2) * 512 + 1 * (y1 : ℕ) := rfl
  rw [idx5] at h0 h1
  exact block m c t y0 y1 _ _ (h0.trans (congrArg _ (Nat.one_mul _))) (h1.trans (congrArg _ (Nat.one_mul _)))

end Cert.Kernel3Ideal.Down

end
-- ==== Proof.DownR.lean ====
/- The reference's product added to a residual, at an entry, and that both programs give the same arrays. -/
module

public import proofs.«01_k».proof.Proof.Down
public import proofs.«01_k».proof.Defs
public import proofs.«01_k».proof.Proof.Gen.Reference3Ideal.Run

@[expose] public section

set_option maxRecDepth 16384

noncomputable section

namespace Cert.Reference3Ideal.Down

open Idealize.ShloMosaic Idealize.ShloMosaic.TcCoe Idealize.SL.Sem
open Cert.Reference3Ideal Cert.Reference3Ideal.Gen

/-- Everything but the product, at an entry, for any array in the product's place. -/
theorem outer (X D : Vec Ideal S4x4096x4096 .f32) (G : Vec Ideal S4x36864 .f32) (b : Fin 4) (s k : Fin 4096) :
    @Eq EReal ((addf (F := Ideal) X (mulf (broadcastInDim S4x4096x4096 ![0, 1, 2] bcast_S4x1x4096_S4x4096x4096_0_1_2 (mulf (broadcastInDim S4x1x4096 ![] bcast_S_S4x1x4096 (constant S_ .f32 0x3F000000#32)) (broadcastInDim S4x1x4096 ![0, 2] bcast_S4x4096_S4x1x4096_0_2 (extractStridedSlice S4x4096 ![0, 8192] G slices_S4x36864_S4x4096_0_8192)))) D)) (ix3 b s k))
      (X (ix3 b s k) + Ideal.ofBits .f32 1056964608#32 * G (ix2 b (⟨8192 + (k : ℕ), by omega⟩ : Fin 36864)) * D (ix3 b s k)) := by
  pointwise

theorem dot_at (A : Vec Ideal S16384x11008 .bf16) (W : Vec Ideal S11008x4096 .bf16) (r : Fin 16384) (k : Fin 4096) :
    @Eq EReal (Host.dotGeneral (F := Ideal) dot_S16384x11008_S11008x4096_S16384x4096_1_0_0_1_n_n none (extf .f32 A bitsLt_bf16_f32) (extf .f32 W bitsLt_bf16_f32) (ix2 r k))
      (∑ n : Fin 11008, A (ix2 r n) * W (ix2 n k)) := by
  pointwise

/-- The reference's array at an entry. -/
theorem at_entry (A : Vec Ideal S16384x11008 .bf16) (W : Vec Ideal S11008x4096 .bf16) (X : Vec Ideal S4x4096x4096 .f32) (G : Vec Ideal S4x36864 .f32)
    (r : Fin 16384) (k : Fin 4096) :
    @Eq EReal (shapeCast S16384x4096 (addf (F := Ideal) X (mulf (broadcastInDim S4x4096x4096 ![0, 1, 2] bcast_S4x1x4096_S4x4096x4096_0_1_2 (mulf (broadcastInDim S4x1x4096 ![] bcast_S_S4x1x4096 (constant S_ .f32 0x3F000000#32)) (broadcastInDim S4x1x4096 ![0, 2] bcast_S4x4096_S4x1x4096_0_2 (extractStridedSlice S4x4096 ![0, 8192] G slices_S4x36864_S4x4096_0_8192)))) (shapeCast _ (Host.dotGeneral dot_S16384x11008_S11008x4096_S16384x4096_1_0_0_1_n_n none (extf .f32 A bitsLt_bf16_f32) (extf .f32 W bitsLt_bf16_f32)) shapeCasts_S16384x4096_S4x4096x4096))) shapeCasts_S4x4096x4096_S16384x4096 (ix2 r k))
      (Cert.Kernel3Ideal.Down.val A W X G r k) := by
  have e : (S4x4096x4096.rowMajor (ix3 (⟨(r : ℕ) / 4096, by omega⟩ : Fin 4) (⟨(r : ℕ) % 4096, by omega⟩ : Fin 4096) k)).val
      = (S16384x4096.rowMajor (ix2 r k)).val := by
    rw [rowMajor_val3 _ 16777216 4096 rfl rfl, rowMajor_val2 _ 4096 rfl]
    show (r : ℕ) / 4096 * 16777216 + (r : ℕ) % 4096 * 4096 + (k : ℕ) = (r : ℕ) * 4096 + (k : ℕ)
    omega
  refine (shapeCast_apply _ _ _ _ e).trans ((outer _ _ _ _ _ _).trans ?_)
  exact congrArg (_ + _ * ·) ((shapeCast_apply _ _ _ _ e.symm).trans (dot_at A W r k))

theorem frame : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem algebraic : Cert.algebraic_Kernel3Ideal_Reference3Ideal := by
  intro m g m' g' _ hagree
  refine ⟨fun c q => Cert.Kernel3Ideal.Down.out m c (q 0) (q 1), fun c q => Cert.Kernel3Ideal.Down.out m c (q 0) (q 1), ?_, ?_⟩
  · exact (θ_run Cert.Kernel3Ideal.defs _ _).mono (fun r h c => ⟨(h c).1.trans (Cert.Kernel3Ideal.Down.final4 m c),
      (h c).2.1.trans (Cert.Kernel3Ideal.Down.final5 m c), (h c).2.2⟩) (Cert.Kernel3Ideal.Value.run_blocks (F := Ideal) m g)
  · have same : ∀ c, ∀ q : S16384x4096.Idx, Cert.Kernel3Ideal.Down.val (m' (c, Proc.tc.devRef main_arg0)) (m' (c, Proc.tc.devRef main_arg1)) (m' (c, Proc.tc.devRef main_arg2)) (m' (c, Proc.tc.devRef main_arg3)) (q 0) (q 1)
        = Cert.Kernel3Ideal.Down.out m c (q 0) (q 1) := fun c q => by
      obtain ⟨e0, e1, e2, e3⟩ := hagree c
      rw [show m' (c, Proc.tc.devRef main_arg0) = _ from e0, show m' (c, Proc.tc.devRef main_arg1) = _ from e1,
        show m' (c, Proc.tc.devRef main_arg2) = _ from e2, show m' (c, Proc.tc.devRef main_arg3) = _ from e3]
    refine (θ_run Cert.Reference3Ideal.defs _ _).mono (fun r h c => ⟨(h c).1.trans ?_, (h c).2.1.trans ?_, (h c).2.2⟩)
      (Cert.Reference3Ideal.Value.run (F := Ideal) m' g')
    · funext q
      idx_vars q
      exact (at_entry _ _ _ _ q0 q1).trans (same c (ix2 q0 q1))
    · funext q
      idx_vars q
      exact (at_entry _ _ _ _ q0 q1).trans (same c (ix2 q0 q1))

end Cert.Reference3Ideal.Down

end
-- ==== Proof.Down4.lean ====
/- One entry of a product added to a residual, the output projection of both mixers. -/
module

public import proofs.«01_k».proof.Proof.Gen.Kernel4Ideal.Value
public import proofs.«01_k».proof.Proof.Silu
public import Idealize.ShloMosaic.Lib.Pipeline.ValueKit
public import Idealize.ShloMosaic.Lib.StableHlo.ReadAt

@[expose] public section

set_option maxRecDepth 16384

noncomputable section

namespace Cert.Kernel4Ideal.Down

open Idealize.ShloMosaic Idealize.ShloMosaic.TcCoe Idealize.SL.Sem
open Cert.Kernel4Ideal Cert.Kernel4Ideal.Gen

variable (m : (ℓ : Loc nD τ sig) → Buf (Elt Ideal) ℓ) (c : Dev nD)

theorem idx0 : ∀ t : Fin cfg0.N, win0_0.index t = ![t.val % 16, 0] :=
  (by decide +kernel : ∀ t : Fin grid0.N, _)
theorem idx1 : ∀ t : Fin cfg0.N, win0_1.index t = ![t.val % 16, 0] :=
  (by decide +kernel : ∀ t : Fin grid0.N, _)
theorem idx2 : ∀ t : Fin cfg0.N, win0_2.index t = ![0, t.val / 16] :=
  (by decide +kernel : ∀ t : Fin grid0.N, _)
theorem idx3 : ∀ t : Fin cfg0.N, win0_3.index t = ![1, t.val / 16] :=
  (by decide +kernel : ∀ t : Fin grid0.N, _)
theorem idx4 : ∀ t : Fin cfg0.N, win0_4.index t = ![t.val % 16, t.val / 16] :=
  (by decide +kernel : ∀ t : Fin grid0.N, _)
theorem idx5 : ∀ t : Fin cfg0.N, win0_5.index t = ![t.val % 16 / 4, 0, 20 + t.val / 16] :=
  (by decide +kernel : ∀ t : Fin grid0.N, _)
theorem idx6 : ∀ t : Fin cfg0.N, win0_6.index t = ![t.val % 16, t.val / 16] :=
  (by decide +kernel : ∀ t : Fin grid0.N, _)
theorem idx7 : ∀ t : Fin cfg0.N, win0_7.index t = ![t.val % 16, t.val / 16] :=
  (by decide +kernel : ∀ t : Fin grid0.N, _)

/-- The result at a row and a column: the residual plus the gate times the sum of the two products. -/
def val (A B : Vec Ideal S16384x2048 .bf16) (W : Vec Ideal S4096x4096 .bf16) (X : Vec Ideal S16384x4096 .f32) (G : Vec Ideal S4x36864 .f32)
    (r : Fin 16384) (k : Fin 4096) : EReal :=
  X (ix2 r k) + G (ix2 (⟨(r : ℕ) / 4096, by omega⟩ : Fin 4) (⟨20480 + (k : ℕ), by omega⟩ : Fin 36864))
    * (∑ n : Fin 2048, A (ix2 r n) * W (ix2 (⟨(n : ℕ), by omega⟩ : Fin 4096) k)
      + ∑ n : Fin 2048, B (ix2 r n) * W (ix2 (⟨2048 + (n : ℕ), by omega⟩ : Fin 4096) k))

theorem blk0 (t : Fin cfg0.N) (i : Fin 1024) (n : Fin 2048) (r : Fin 16384) (hr : (r : ℕ) = t.val % 16 * 1024 + i) :
    @Eq EReal (iblk m c 0 t (ix2 i n)) (m (c, Proc.tc.devRef main_arg0) (ix2 r n)) := by
  rw [show r = ⟨t.val % 16 * 1024 + i, by omega⟩ from Fin.ext hr]
  blk_point [iblk, V, idx0 t]

theorem blk1 (t : Fin cfg0.N) (i : Fin 1024) (n : Fin 2048) (r : Fin 16384) (hr : (r : ℕ) = t.val % 16 * 1024 + i) :
    @Eq EReal (iblk m c 1 t (ix2 i n)) (m (c, Proc.tc.devRef main_arg1) (ix2 r n)) := by
  rw [show r = ⟨t.val % 16 * 1024 + i, by omega⟩ from Fin.ext hr]
  blk_point [iblk, V, idx1 t]

theorem blk2 (t : Fin cfg0.N) (n : Fin 2048) (j : Fin 1024) (k : Fin 4096) (hk : (k : ℕ) = t.val / 16 * 1024 + j) :
    @Eq EReal (iblk m c 2 t (ix2 n j)) (m (c, Proc.tc.devRef main_arg2) (ix2 (⟨(n : ℕ), by omega⟩ : Fin 4096) k)) := by
  have ht : t.val < 64 := t.isLt
  rw [show k = ⟨t.val / 16 * 1024 + j, by omega⟩ from Fin.ext hk]
  blk_point [iblk, V, idx2 t]

theorem blk3 (t : Fin cfg0.N) (n : Fin 2048) (j : Fin 1024) (k : Fin 4096) (hk : (k : ℕ) = t.val / 16 * 1024 + j) :
    @Eq EReal (iblk m c 3 t (ix2 n j)) (m (c, Proc.tc.devRef main_arg2) (ix2 (⟨2048 + (n : ℕ), by omega⟩ : Fin 4096) k)) := by
  have ht : t.val < 64 := t.isLt
  rw [show k = ⟨t.val / 16 * 1024 + j, by omega⟩ from Fin.ext hk]
  blk_point [iblk, V, idx3 t]

theorem blk4 (t : Fin cfg0.N) (i j : Fin 1024) (r : Fin 16384) (k : Fin 4096) (hr : (r : ℕ) = t.val % 16 * 1024 + i)
    (hk : (k : ℕ) = t.val / 16 * 1024 + j) :
    @Eq EReal (iblk m c 4 t (ix2 i j)) (m (c, Proc.tc.devRef main_arg3) (ix2 r k)) := by
  have ht : t.val < 64 := t.isLt
  rw [show k = ⟨t.val / 16 * 1024 + j, by omega⟩ from Fin.ext hk]
  rw [show r = ⟨t.val % 16 * 1024 + i, by omega⟩ from Fin.ext hr]
  blk_point [iblk, V, idx4 t]

theorem blk5 (t : Fin cfg0.N) (j : Fin 1024) (b : Fin 4) (k : Fin 36864) (hb : (b : ℕ) = t.val % 16 / 4)
    (hk : (k : ℕ) = (20 + t.val / 16) * 1024 + j) :
    @Eq EReal (iblk m c 5 t (ix3 0 0 j)) (V m c main_v0 (ix3 b 0 k)) := by
  have ht : t.val < 64 := t.isLt
  rw [show k = ⟨(20 + t.val / 16) * 1024 + j, by omega⟩ from Fin.ext hk]
  rw [show b = ⟨t.val % 16 / 4, by omega⟩ from Fin.ext hb]
  blk_point [iblk, idx5 t]

theorem entry_mod (b : Fin 4) (k : Fin 36864) : @Eq EReal (V m c main_v0 (ix3 b 0 k))
    (m (c, Proc.tc.devRef main_arg4) (ix2 b k)) := by
  unfold V
  after_reads_at

theorem pay1_at (A : Vec Ideal S1024x2048 .bf16) (W : Vec Ideal S2048x1024 .bf16) (B : Vec Ideal S1024x2048 .bf16) (U : Vec Ideal S2048x1024 .bf16)
    (X : Vec Ideal S1024x1024 .f32) (G : Vec Ideal S1x1x1024 .f32) (i j : Fin 1024) :
    @Eq EReal (k0_pay1 A W B U X G (ix2 i j))
      (X (ix2 i j) + Ideal.ofBits .f32 1065353216#32 * G (ix3 0 0 j) * (∑ n : Fin 2048, A (ix2 i n) * W (ix2 n j) + ∑ n : Fin 2048, B (ix2 i n) * U (ix2 n j))) := by
  unfold k0_pay1
  pointwise

/-- The arrays of the run. -/
abbrev out : Fin 16384 → Fin 4096 → EReal :=
  val (m (c, Proc.tc.devRef main_arg0)) (m (c, Proc.tc.devRef main_arg1)) (m (c, Proc.tc.devRef main_arg2)) (m (c, Proc.tc.devRef main_arg3))
    (m (c, Proc.tc.devRef main_arg4))

theorem block (t : Fin cfg0.N) (i j : Fin 1024) (r : Fin 16384) (k : Fin 4096) (hr : (r : ℕ) = t.val % 16 * 1024 + i)
    (hk : (k : ℕ) = t.val / 16 * 1024 + j) :
    @Eq EReal (k0_pay1 (iblk m c 0 t) (iblk m c 2 t) (iblk m c 1 t) (iblk m c 3 t) (iblk m c 4 t) (iblk m c 5 t) (ix2 i j)) (out m c r k) := by
  have ht : t.val < 64 := t.isLt
  refine (pay1_at _ _ _ _ _ _ i j).trans ?_
  have e5 := (blk5 m c t j (⟨(r : ℕ) / 4096, by omega⟩ : Fin 4) (⟨20480 + (k : ℕ), by omega⟩ : Fin 36864)
    (show (r : ℕ) / 4096 = t.val % 16 / 4 by omega) (show 20480 + (k : ℕ) = (20 + t.val / 16) * 1024 + j by omega)).trans (entry_mod m c _ _)
  rw [Silu.one, EReal.coe_one, one_mul]
  exact congrArg₂ (· + ·) (blk4 m c t i j r k hr hk) (congrArg₂ (· * ·) e5
    (congrArg₂ (· + ·)
      (Finset.sum_congr rfl fun n _ => congrArg₂ (· * ·) (blk0 m c t i n r hr) (blk2 m c t n j k hk))
      (Finset.sum_congr rfl fun n _ => congrArg₂ (· * ·) (blk1 m c t i n r hr) (blk3 m c t n j k hk))))

theorem final6 : (dats m 0 c).arrAt 6 cfg0.N = fun q => out m c (q 0) (q 1) := by
  refine (dats m 0 c).arrAt_eq_of_covers 6 _ (by decide +kernel) fun t hf y => ?_
  blk_simp
  rw [after0_6]
  frame_out
  idx_vars y
  have h0 : ((((cfg0.win 6).blk t).view.emb (ix2 y0 y1) 0 : Fin 16384) : ℕ) = win0_6.index t (0 : Fin 2) * 1024 + 1 * (y0 : ℕ) := rfl
  have h1 : ((((cfg0.win 6).blk t).view.emb (ix2 y0 y1) 1 : Fin 4096) : ℕ) = win0_6.index t (1 : Fin 2) * 1024 + 1 * (y1 : ℕ) := rfl
  rw [idx6] at h0 h1
  exact block m c t y0 y1 _ _ (h0.trans (congrArg _ (Nat.one_mul _))) (h1.trans (congrArg _ (Nat.one_mul _)))

theorem final7 : (dats m 0 c).arrAt 7 cfg0.N = fun q => out m c (q 0) (q 1) := by
  refine (dats m 0 c).arrAt_eq_of_covers 7 _ (by decide +kernel) fun t hf y => ?_
  blk_simp
  rw [after0_7]
  frame_out
  idx_vars y
  have h0 : ((((cfg0.win 7).blk t).view.emb (ix2 y0 y1) 0 : Fin 16384) : ℕ) = win0_7.index t (0 : Fin 2) * 1024 + 1 * (y0 : ℕ) := rfl
  have h1 : ((((cfg0.win 7).blk t).view.emb (ix2 y0 y1) 1 : Fin 4096) : ℕ) = win0_7.index t (1 : Fin 2) * 1024 + 1 * (y1 : ℕ) := rfl
  rw [idx7] at h0 h1
  exact block m c t y0 y1 _ _ (h0.trans (congrArg _ (Nat.one_mul _))) (h1.trans (congrArg _ (Nat.one_mul _)))

end Cert.Kernel4Ideal.Down

end
-- ==== Proof.DownR4.lean ====
/- The reference's product added to a residual, at an entry, and that both programs give the same arrays. -/
module

public import proofs.«01_k».proof.Proof.Down4
public import proofs.«01_k».proof.Defs
public import proofs.«01_k».proof.Proof.Gen.Reference4Ideal.Run

@[expose] public section

set_option maxRecDepth 16384

noncomputable section

namespace Cert.Reference4Ideal.Down

open Idealize.ShloMosaic Idealize.ShloMosaic.TcCoe Idealize.SL.Sem
open Cert.Reference4Ideal Cert.Reference4Ideal.Gen

/-- Everything but the product, at an entry, for any array in the product's place. -/
theorem outer (X D : Vec Ideal S4x4096x4096 .f32) (G : Vec Ideal S4x36864 .f32) (b : Fin 4) (s k : Fin 4096) :
    @Eq EReal ((addf (F := Ideal) (φ := .f32) X (mulf (broadcastInDim S4x4096x4096 ![0, 1, 2] bcast_S4x1x4096_S4x4096x4096_0_1_2 (broadcastInDim S4x1x4096 ![0, 2] bcast_S4x4096_S4x1x4096_0_2 (extractStridedSlice S4x4096 ![0, 20480] G slices_S4x36864_S4x4096_0_20480))) D)) (ix3 b s k))
      (X (ix3 b s k) + G (ix2 b (⟨20480 + (k : ℕ), by omega⟩ : Fin 36864)) * D (ix3 b s k)) := by
  pointwise

theorem concat_lo (A B : FVec Ideal S16384x2048 .bf16) (r : Fin 16384) (n : Fin 2048) :
    @Eq EReal ((concatenate S16384x4096 1 [⟨S16384x2048, A⟩, ⟨S16384x2048, B⟩] concatenates_S16384x2048_S16384x2048_S16384x4096_d1) (ix2 r (Fin.castAdd 2048 n))) (A (ix2 r n)) := by
  pointwise
  exact dif_pos n.isLt

theorem concat_hi (A B : FVec Ideal S16384x2048 .bf16) (r : Fin 16384) (n : Fin 2048) :
    @Eq EReal ((concatenate S16384x4096 1 [⟨S16384x2048, A⟩, ⟨S16384x2048, B⟩] concatenates_S16384x2048_S16384x2048_S16384x4096_d1) (ix2 r (Fin.natAdd 2048 n))) (B (ix2 r n)) := by
  pointwise
  refine (dif_neg (by simp)).trans (congrArg (fun k => B (ix2 r k)) (Fin.ext ?_))
  simp

theorem dot_at (A B : FVec Ideal S16384x2048 .bf16) (W : FVec Ideal S4096x4096 .bf16) (r : Fin 16384) (k : Fin 4096) :
    @Eq EReal ((Host.dotGeneral (F := Ideal) dot_S16384x4096_S4096x4096_S16384x4096_1_0_0_1_n_n none (extf .f32 (concatenate S16384x4096 1 [⟨S16384x2048, A⟩, ⟨S16384x2048, B⟩] concatenates_S16384x2048_S16384x2048_S16384x4096_d1) bitsLt_bf16_f32) (extf .f32 W bitsLt_bf16_f32)) (ix2 r k))
      (∑ n : Fin 2048, A (ix2 r n) * W (ix2 (⟨(n : ℕ), by omega⟩ : Fin 4096) k)
        + ∑ n : Fin 2048, B (ix2 r n) * W (ix2 (⟨2048 + (n : ℕ), by omega⟩ : Fin 4096) k)) := by
  refine Eq.trans (b := ∑ n : Fin (2048 + 2048), (concatenate S16384x4096 1 [⟨S16384x2048, A⟩, ⟨S16384x2048, B⟩] concatenates_S16384x2048_S16384x2048_S16384x4096_d1) (ix2 r n) * W (ix2 n k)) ?_ ?_
  · generalize (concatenate S16384x4096 1 [⟨S16384x2048, A⟩, ⟨S16384x2048, B⟩] concatenates_S16384x2048_S16384x2048_S16384x4096_d1) = C
    pointwise
  · rw [Fin.sum_univ_add]
    exact congrArg₂ (· + ·) (Finset.sum_congr rfl fun n _ => congrArg (· * _) (concat_lo A B r n))
      (Finset.sum_congr rfl fun n _ => congrArg (· * _) (concat_hi A B r n))

/-- The reference's array at an entry. -/
theorem at_entry (A B : FVec Ideal S16384x2048 .bf16) (W : FVec Ideal S4096x4096 .bf16) (X : FVec Ideal S16384x4096 .f32) (G : FVec Ideal S4x36864 .f32)
    (r : Fin 16384) (k : Fin 4096) :
    @Eq EReal (shapeCast S16384x4096 (addf (F := Ideal) (φ := .f32) (shapeCast _ X shapeCasts_S16384x4096_S4x4096x4096) (mulf (broadcastInDim S4x4096x4096 ![0, 1, 2] bcast_S4x1x4096_S4x4096x4096_0_1_2 (broadcastInDim S4x1x4096 ![0, 2] bcast_S4x4096_S4x1x4096_0_2 (extractStridedSlice S4x4096 ![0, 20480] G slices_S4x36864_S4x4096_0_20480))) (shapeCast _ (Host.dotGeneral (F := Ideal) dot_S16384x4096_S4096x4096_S16384x4096_1_0_0_1_n_n none (extf .f32 (concatenate S16384x4096 1 [⟨S16384x2048, A⟩, ⟨S16384x2048, B⟩] concatenates_S16384x2048_S16384x2048_S16384x4096_d1) bitsLt_bf16_f32) (extf .f32 W bitsLt_bf16_f32)) shapeCasts_S16384x4096_S4x4096x4096))) shapeCasts_S4x4096x4096_S16384x4096 (ix2 r k))
      (Cert.Kernel4Ideal.Down.val A B W X G r k) := by
  have e : (S4x4096x4096.rowMajor (ix3 (⟨(r : ℕ) / 4096, by omega⟩ : Fin 4) (⟨(r : ℕ) % 4096, by omega⟩ : Fin 4096) k)).val
      = (S16384x4096.rowMajor (ix2 r k)).val := by
    rw [rowMajor_val3 _ 16777216 4096 rfl rfl, rowMajor_val2 _ 4096 rfl]
    show (r : ℕ) / 4096 * 16777216 + (r : ℕ) % 4096 * 4096 + (k : ℕ) = (r : ℕ) * 4096 + (k : ℕ)
    omega
  refine (shapeCast_apply _ _ _ _ e).trans ((outer _ _ _ _ _ _).trans ?_)
  exact congrArg₂ (· + _ * ·) (shapeCast_apply _ _ _ _ e.symm) ((shapeCast_apply _ _ _ _ e.symm).trans (dot_at A B W r k))

theorem frame : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem algebraic : Cert.algebraic_Kernel4Ideal_Reference4Ideal := by
  intro m g m' g' _ hagree
  refine ⟨fun c q => Cert.Kernel4Ideal.Down.out m c (q 0) (q 1), fun c q => Cert.Kernel4Ideal.Down.out m c (q 0) (q 1), ?_, ?_⟩
  · exact (θ_run Cert.Kernel4Ideal.defs _ _).mono (fun r h c => ⟨(h c).1.trans (Cert.Kernel4Ideal.Down.final6 m c),
      (h c).2.1.trans (Cert.Kernel4Ideal.Down.final7 m c), (h c).2.2⟩) (Cert.Kernel4Ideal.Value.run_blocks (F := Ideal) m g)
  · have same : ∀ c, ∀ q : S16384x4096.Idx, Cert.Kernel4Ideal.Down.val (m' (c, Proc.tc.devRef main_arg0)) (m' (c, Proc.tc.devRef main_arg1)) (m' (c, Proc.tc.devRef main_arg2)) (m' (c, Proc.tc.devRef main_arg3)) (m' (c, Proc.tc.devRef main_arg4)) (q 0) (q 1)
        = Cert.Kernel4Ideal.Down.out m c (q 0) (q 1) := fun c q => by
      obtain ⟨e0, e1, e2, e3, e4⟩ := hagree c
      rw [show m' (c, Proc.tc.devRef main_arg0) = _ from e0, show m' (c, Proc.tc.devRef main_arg1) = _ from e1,
        show m' (c, Proc.tc.devRef main_arg2) = _ from e2, show m' (c, Proc.tc.devRef main_arg3) = _ from e3, show m' (c, Proc.tc.devRef main_arg4) = _ from e4]
    refine (θ_run Cert.Reference4Ideal.defs _ _).mono (fun r h c => ⟨(h c).1.trans ?_, (h c).2.1.trans ?_, (h c).2.2⟩)
      (Cert.Reference4Ideal.Value.run (F := Ideal) m' g')
    · funext q
      idx_vars q
      exact (at_entry _ _ _ _ _ q0 q1).trans (same c (ix2 q0 q1))
    · funext q
      idx_vars q
      exact (at_entry _ _ _ _ _ q0 q1).trans (same c (ix2 q0 q1))

end Cert.Reference4Ideal.Down

end
-- ==== Proof.Up5.lean ====
/- The second gated product up, two column tiles to a step, and the cast done beside it, entry by entry. -/
module

public import proofs.«01_k».proof.Proof.Silu
public import proofs.«01_k».proof.Proof.Gen.Kernel5Ideal.Value
public import Idealize.ShloMosaic.Lib.Pipeline.ReadBack

@[expose] public section

set_option maxRecDepth 16384

noncomputable section

namespace Cert.Kernel5Ideal.Up

open Idealize.ShloMosaic Idealize.ShloMosaic.TcCoe Idealize.SL.Sem
open Cert.Kernel5Ideal Cert.Kernel5Ideal.Gen

variable (m : (ℓ : Loc nD τ sig) → Buf (Elt Ideal) ℓ) (c : Dev nD)

theorem idx0 : ∀ t : Fin cfg0.N, win0_0.index t = ![t.val / 22, 0] :=
  (by decide +kernel : ∀ t : Fin grid0.N, _)
theorem idx1 : ∀ t : Fin cfg0.N, win0_1.index t = ![0, 2 * (t.val % 22)] :=
  (by decide +kernel : ∀ t : Fin grid0.N, _)
theorem idx2 : ∀ t : Fin cfg0.N, win0_2.index t = ![0, min (2 * (t.val % 22) + 1) 42] :=
  (by decide +kernel : ∀ t : Fin grid0.N, _)
theorem idx3 : ∀ t : Fin cfg0.N, win0_3.index t = ![0, 2 * (t.val % 22)] :=
  (by decide +kernel : ∀ t : Fin grid0.N, _)
theorem idx4 : ∀ t : Fin cfg0.N, win0_4.index t = ![0, min (2 * (t.val % 22) + 1) 42] :=
  (by decide +kernel : ∀ t : Fin grid0.N, _)
theorem idx6 : ∀ t : Fin cfg0.N, win0_6.index t = ![t.val / 22, t.val % 22] :=
  (by decide +kernel : ∀ t : Fin grid0.N, _)

/-- The result at a row and a column: zero in the columns past the weights'. -/
def val (H : Vec Ideal S16384x4096 .bf16) (W V : Vec Ideal S4096x11008 .bf16) (r : Fin 16384) (k : Fin 11264) : EReal :=
  if h : (k : ℕ) < 11008 then
    Silu.gate (∑ n : Fin 4096, H (ix2 r n) * W (ix2 n ⟨k, h⟩)) (∑ n : Fin 4096, H (ix2 r n) * V (ix2 n ⟨k, h⟩))
  else 0

theorem blk0 (t : Fin cfg0.N) (i : Fin 2048) (n : Fin 4096) (r : Fin 16384) (hr : (r : ℕ) = t.val / 22 * 2048 + i) :
    @Eq EReal (iblk m c 0 t (ix2 i n)) (m (c, Proc.tc.devRef main_arg0) (ix2 r n)) := by
  rw [show r = ⟨t.val / 22 * 2048 + i, by omega⟩ from Fin.ext hr]
  blk_point [iblk, V, idx0 t]

theorem blk1 (t : Fin cfg0.N) (n : Fin 4096) (j : Fin 256) (k : Fin 11008) (hk : (k : ℕ) = 2 * (t.val % 22) * 256 + j) :
    @Eq EReal (iblk m c 1 t (ix2 n j)) (m (c, Proc.tc.devRef main_arg1) (ix2 n k)) := by
  rw [show k = ⟨2 * (t.val % 22) * 256 + j, by omega⟩ from Fin.ext hk]
  blk_point [iblk, V, idx1 t]

theorem blk2 (t : Fin cfg0.N) (n : Fin 4096) (j : Fin 256) (k : Fin 11008) (hk : (k : ℕ) = min (2 * (t.val % 22) + 1) 42 * 256 + j) :
    @Eq EReal (iblk m c 2 t (ix2 n j)) (m (c, Proc.tc.devRef main_arg1) (ix2 n k)) := by
  rw [show k = ⟨min (2 * (t.val % 22) + 1) 42 * 256 + j, by omega⟩ from Fin.ext hk]
  blk_point [iblk, V, idx2 t]

theorem blk3 (t : Fin cfg0.N) (n : Fin 4096) (j : Fin 256) (k : Fin 11008) (hk : (k : ℕ) = 2 * (t.val % 22) * 256 + j) :
    @Eq EReal (iblk m c 3 t (ix2 n j)) (m (c, Proc.tc.devRef main_arg2) (ix2 n k)) := by
  rw [show k = ⟨2 * (t.val % 22) * 256 + j, by omega⟩ from Fin.ext hk]
  blk_point [iblk, V, idx3 t]

theorem blk4 (t : Fin cfg0.N) (n : Fin 4096) (j : Fin 256) (k : Fin 11008) (hk : (k : ℕ) = min (2 * (t.val % 22) + 1) 42 * 256 + j) :
    @Eq EReal (iblk m c 4 t (ix2 n j)) (m (c, Proc.tc.devRef main_arg2) (ix2 n k)) := by
  rw [show k = ⟨min (2 * (t.val % 22) + 1) 42 * 256 + j, by omega⟩ from Fin.ext hk]
  blk_point [iblk, V, idx4 t]

theorem pay_at (H : Vec Ideal S2048x4096 .bf16) (W V : Vec Ideal S4096x256 .bf16) (i : Fin 2048) (j : Fin 256) :
    @Eq EReal (k0_pay1 H W V (ix2 i j))
      (Silu.gate (∑ n : Fin 4096, H (ix2 i n) * W (ix2 n j)) (∑ n : Fin 4096, H (ix2 i n) * V (ix2 n j))) := by
  unfold k0_pay1 Silu.gate
  pointwise

/-- The arrays of the run. -/
abbrev out : Fin 16384 → Fin 11264 → EReal :=
  val (m (c, Proc.tc.devRef main_arg0)) (m (c, Proc.tc.devRef main_arg1)) (m (c, Proc.tc.devRef main_arg2))

/-- One tile of columns, from what its two blocks of weights hold. -/
theorem tile (t : Fin cfg0.N) (W V : Vec Ideal S4096x256 .bf16) (i : Fin 2048) (j : Fin 256) (r : Fin 16384) (k : Fin 11264)
    (hr : (r : ℕ) = t.val / 22 * 2048 + i) (hk : (k : ℕ) < 11008)
    (hW : ∀ n : Fin 4096, @Eq EReal (W (ix2 n j)) (m (c, Proc.tc.devRef main_arg1) (ix2 n ⟨k, hk⟩)))
    (hV : ∀ n : Fin 4096, @Eq EReal (V (ix2 n j)) (m (c, Proc.tc.devRef main_arg2) (ix2 n ⟨k, hk⟩))) :
    @Eq EReal (Silu.gate (∑ n : Fin 4096, @HMul.hMul EReal EReal EReal _ (iblk m c 0 t (ix2 i n)) (W (ix2 n j)))
      (∑ n : Fin 4096, @HMul.hMul EReal EReal EReal _ (iblk m c 0 t (ix2 i n)) (V (ix2 n j)))) (out m c r k) := by
  refine Eq.trans ?_ (dif_pos hk).symm
  exact congrArg₂ Silu.gate
    (Finset.sum_congr rfl fun n _ => congrArg₂ (· * ·) (blk0 m c t i n r hr) (hW n))
    (Finset.sum_congr rfl fun n _ => congrArg₂ (· * ·) (blk0 m c t i n r hr) (hV n))

theorem zero_at (x : S2048x256.Idx) : @Eq EReal (k0_pay6 (F := Ideal) x) 0 := by
  unfold k0_pay6
  pointwise

set_option maxHeartbeats 8000000 in
theorem block_A (t : Fin cfg0.N) (hA : t.val % 22 ≤ 20) (y : S2048x512.Idx) (r : Fin 16384) (k : Fin 11264)
    (hr : (r : ℕ) = t.val / 22 * 2048 + (y 0 : ℕ)) (hk : (k : ℕ) = t.val % 22 * 512 + (y 1 : ℕ)) :
    @Eq EReal ((outsAt0 m c t.val t.isLt).1 y) (out m c r k) := by
  rw [outsAt0_A m c t hA (by omega)]
  frame_open
  simp (disch := decide) only [↓ View.readCov_skip, ↓ View.readCov_cons_toLoadRect, ↓ View.readCov_fill]
  frame_out
  canon_tiles x h
  case piece0 =>
    idx_vars x
    refine (pay_at _ _ _ x0 x1).trans ?_
    have hk' : (k : ℕ) < 11008 := by omega
    exact tile m c t _ _ x0 x1 r k (by omega) hk' (fun n => blk2 m c t n x1 _ (show (k : ℕ) = _ by omega)) (fun n => blk4 m c t n x1 _ (show (k : ℕ) = _ by omega))
  case piece1 =>
    idx_vars x
    refine (pay_at _ _ _ x0 x1).trans ?_
    have hk' : (k : ℕ) < 11008 := by omega
    exact tile m c t _ _ x0 x1 r k (by omega) hk' (fun n => blk1 m c t n x1 _ (show (k : ℕ) = _ by omega)) (fun n => blk3 m c t n x1 _ (show (k : ℕ) = _ by omega))

set_option maxHeartbeats 8000000 in
theorem block_B (t : Fin cfg0.N) (hB : t.val % 22 = 21) (y : S2048x512.Idx) (r : Fin 16384) (k : Fin 11264)
    (hr : (r : ℕ) = t.val / 22 * 2048 + (y 0 : ℕ)) (hk : (k : ℕ) = t.val % 22 * 512 + (y 1 : ℕ)) :
    @Eq EReal ((outsAt0 m c t.val t.isLt).1 y) (out m c r k) := by
  rw [outsAt0_B m c t (by omega) hB (by omega) hB]
  frame_open
  simp (disch := decide) only [↓ View.readCov_skip, ↓ View.readCov_cons_toLoadRect, ↓ View.readCov_fill]
  frame_out
  canon_tiles x h
  case piece0 =>
    have hk' : ¬(k : ℕ) < 11008 := by omega
    have e : @Eq EReal (out m c r k) 0 := dif_neg hk'
    exact (zero_at x).trans e.symm
  case piece1 =>
    idx_vars x
    refine (pay_at _ _ _ x0 x1).trans ?_
    have hk' : (k : ℕ) < 11008 := by omega
    exact tile m c t _ _ x0 x1 r k (by omega) hk' (fun n => blk1 m c t n x1 _ (show (k : ℕ) = _ by omega)) (fun n => blk3 m c t n x1 _ (show (k : ℕ) = _ by omega))

theorem final6 : (dats m 0 c).arrAt 6 cfg0.N = fun q => out m c (q 0) (q 1) := by
  refine (dats m 0 c).arrAt_eq_of_covers 6 _ (by decide +kernel) fun t hf y => ?_
  blk_simp
  rw [after0_6]
  have h0 : ((((cfg0.win 6).blk t).view.emb y 0 : Fin 16384) : ℕ) = win0_6.index t (0 : Fin 2) * 2048 + 1 * (y 0 : ℕ) := rfl
  have h1 : ((((cfg0.win 6).blk t).view.emb y 1 : Fin 11264) : ℕ) = win0_6.index t (1 : Fin 2) * 512 + 1 * (y 1 : ℕ) := rfl
  rw [idx6] at h0 h1
  by_cases hA : t.val % 22 ≤ 20
  · exact block_A m c t hA y _ _ (h0.trans (congrArg _ (Nat.one_mul _))) (h1.trans (congrArg _ (Nat.one_mul _)))
  · exact block_B m c t (by omega) y _ _ (h0.trans (congrArg _ (Nat.one_mul _))) (h1.trans (congrArg _ (Nat.one_mul _)))

set_option maxHeartbeats 8000000 in
theorem final7 : (dats m 0 c).arrAt 7 cfg0.N = m (c, Proc.tc.devRef main_arg3) := by
  refine (dats m 0 c).arrAt_eq_of_covers 7 _ (by decide +kernel) fun t hf y => ?_
  blk_simp
  rw [after0_7]
  by_cases h0 : t.val % 22 ≤ 20
  · rw [outsAt0_A m c t h0 (by omega)]
    frame_open
    frame_out
    rfl
  · rw [outsAt0_B m c t h0 (by omega) h0 (by omega)]
    frame_open
    frame_out
    rfl

end Cert.Kernel5Ideal.Up

end
-- ==== Proof.UpR5.lean ====
/- The reference's gated product up, at an entry, and that both programs give the same arrays. -/
module

public import proofs.«01_k».proof.Defs
public import proofs.«01_k».proof.Proof.Up5
public import proofs.«01_k».proof.Proof.Gen.Pre_finite5
public import proofs.«01_k».proof.Proof.Gen.Reference5Ideal.Run

@[expose] public section

set_option maxRecDepth 16384

noncomputable section

namespace Cert.Reference5Ideal.Up

open Idealize.ShloMosaic Idealize.ShloMosaic.TcCoe Idealize.SL.Sem
open Cert.Reference5Ideal Cert.Reference5Ideal.Gen

/-- The activation of one array times another, at an entry. -/
theorem outer (D E : FVec Ideal S16384x11008 .f32) (q : S16384x11008.Idx) :
    @Eq EReal (mulf (F := Ideal) (mulf D (Host.divf (broadcastInDim S16384x11008 ![] bcast_S_S16384x11008 (constant S_ .f32 0x3F800000#32)) (addf (broadcastInDim S16384x11008 ![] bcast_S_S16384x11008 (constant S_ .f32 0x3F800000#32)) (Host.exp (Host.negf D))))) E q)
      (D q * Ideal.div (Ideal.ofBits .f32 1065353216#32) (Ideal.ofBits .f32 1065353216#32 + Ideal.exp (-(D q))) * E q) := by
  rfl

theorem dot_at (H : FVec Ideal S16384x4096 .bf16) (W : FVec Ideal S4096x11008 .bf16) (r : Fin 16384) (k : Fin 11008) :
    @Eq EReal (Host.dotGeneral (F := Ideal) dot_S16384x4096_S4096x11008_S16384x11008_1_0_0_1_n_n none (extf .f32 H bitsLt_bf16_f32) (extf .f32 W bitsLt_bf16_f32) (ix2 r k))
      (∑ n : Fin 4096, H (ix2 r n) * W (ix2 n k)) := by
  pointwise

theorem pad_at (X : FVec Ideal S16384x11008 .f32) (r : Fin 16384) (k : Fin 11264) :
    @Eq EReal (pad S16384x11264 ![0, 0] ![0, 256] ![0, 0] X (sitofp (F := Ideal) .f32 (constantI S_ 32 0#32)) pads_S16384x11008_S16384x11264_000_02560 h_S_ (ix2 r k))
      (if h : (k : ℕ) < 11008 then X (ix2 r ⟨k, h⟩) else (0 : EReal)) := by
  have e : @Eq EReal (FloatOps.sitofp (F := Ideal) .f32 (0#32)) 0 := by
    change ((((0#32 : BitVec 32).toInt : ℝ)) : EReal) = 0
    simp
  pointwise
  rw [e]

theorem real (H : FVec Ideal S16384x4096 .bf16) (W V : FVec Ideal S4096x11008 .bf16) (w2 : FVec Ideal S11008x4096 .f32)
    (h : Cert.Pre_finite5.fn (F := Ideal) H W V w2 = fun _ => 1#1) :
    (∀ q, @Eq EReal (H q) (EReal.toReal (H q) : ℝ)) ∧ ∀ q, @Eq EReal (W q) (EReal.toReal (W q) : ℝ) := by
  have h0 := congrFun h (fun a => a.elim0)
  have andi_one : ∀ a b : BitVec 1, IntOp.andi a b = 1#1 → a = 1#1 ∧ b = 1#1 := by decide
  unfold Cert.Pre_finite5.fn at h0
  obtain ⟨h1, h2⟩ := andi_one _ _ h0
  exact ⟨fun q => Finite.real_of_lt _ (Host.reduce_andi_all _ _ _ _ _ h1 q), fun q => Finite.real_of_lt _ (Host.reduce_andi_all _ _ _ _ _ h2 q)⟩

theorem frame : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem algebraic : Cert.algebraic_Kernel5Ideal_Reference5Ideal_pre_finite5 := by
  intro m g m' g' hpre hagree
  refine ⟨fun c q => Cert.Kernel5Ideal.Up.out m c (q 0) (q 1), fun c => m (c, Proc.tc.devRef Cert.Kernel5Ideal.main_arg3), ?_, ?_⟩
  · exact (θ_run Cert.Kernel5Ideal.defs _ _).mono (fun r h c => by
      obtain ⟨h6, h7, hrest⟩ := h c
      exact ⟨h6.trans (Cert.Kernel5Ideal.Up.final6 m c), h7.trans (Cert.Kernel5Ideal.Up.final7 m c), hrest⟩)
      (Cert.Kernel5Ideal.Value.run_blocks (F := Ideal) m g)
  · refine (θ_run Cert.Reference5Ideal.defs _ _).mono (fun r h c => ?_) (Cert.Reference5Ideal.Value.run (F := Ideal) m' g')
    obtain ⟨h0, h1, hrest⟩ := h c
    obtain ⟨e0, e1, e2, e3⟩ := hagree c
    refine ⟨h0.trans ?_, h1.trans e3, hrest⟩
    obtain ⟨rH, rW⟩ := real _ _ _ _ (hpre c)
    rw [e0, e1, e2]
    funext q
    idx_vars q
    refine (pad_at _ q0 q1).trans ?_
    by_cases hk : (q1 : ℕ) < 11008
    · refine (dif_pos hk).trans (Eq.trans ?_ (dif_pos hk).symm)
      refine (outer _ _ (ix2 q0 ⟨q1, hk⟩)).trans ?_
      have d1 := dot_at (m (c, Proc.tc.devRef Cert.Kernel5Ideal.main_arg0)) (m (c, Proc.tc.devRef Cert.Kernel5Ideal.main_arg1)) q0 ⟨q1, hk⟩
      have d2 := dot_at (m (c, Proc.tc.devRef Cert.Kernel5Ideal.main_arg0)) (m (c, Proc.tc.devRef Cert.Kernel5Ideal.main_arg2)) q0 ⟨q1, hk⟩
      refine (Silu.gate_eq _ _ (d1.symm ▸ Silu.sum_real _ _ (fun _ => rH _) (fun _ => rW _))).trans ?_
      exact congrArg₂ Silu.gate d1 d2
    · have e : @Eq EReal (Cert.Kernel5Ideal.Up.out m c q0 q1) 0 := dif_neg hk
      exact (dif_neg hk).trans e.symm

end Cert.Reference5Ideal.Up

end
-- ==== Proof.Down6.lean ====
/- One entry of a product added to a residual, as the layer does it after the second feed-forward part. -/
module

public import proofs.«01_k».proof.Proof.Gen.Kernel6Ideal.Value
public import Idealize.ShloMosaic.Lib.Pipeline.ValueKit
public import Idealize.ShloMosaic.Lib.StableHlo.ReadAt

@[expose] public section

set_option maxRecDepth 16384

noncomputable section

namespace Cert.Kernel6Ideal.Down

open Idealize.ShloMosaic Idealize.ShloMosaic.TcCoe Idealize.SL.Sem
open Cert.Kernel6Ideal Cert.Kernel6Ideal.Gen

variable (m : (ℓ : Loc nD τ sig) → Buf (Elt Ideal) ℓ) (c : Dev nD)

theorem idx0 : ∀ t : Fin cfg0.N, win0_0.index t = ![t.val % 32, 0] :=
  (by decide +kernel : ∀ t : Fin grid0.N, _)
theorem idx1 : ∀ t : Fin cfg0.N, win0_1.index t = ![0, t.val / 32] :=
  (by decide +kernel : ∀ t : Fin grid0.N, _)
theorem idx2 : ∀ t : Fin cfg0.N, win0_2.index t = ![t.val % 32, t.val / 32] :=
  (by decide +kernel : ∀ t : Fin grid0.N, _)
theorem idx3 : ∀ t : Fin cfg0.N, win0_3.index t = ![t.val % 32 / 8, 0, 64 + t.val / 32] :=
  (by decide +kernel : ∀ t : Fin grid0.N, _)
theorem idx4 : ∀ t : Fin cfg0.N, win0_4.index t = ![t.val % 32, t.val / 32] :=
  (by decide +kernel : ∀ t : Fin grid0.N, _)

/-- The result at a row and a column: the residual plus half the gate times the product. -/
def val (A : Vec Ideal S16384x11264 .bf16) (W : Vec Ideal S11008x4096 .bf16) (X : Vec Ideal S16384x4096 .f32) (G : Vec Ideal S4x36864 .f32)
    (r : Fin 16384) (k : Fin 4096) : EReal :=
  X (ix2 r k)
    + Ideal.ofBits .f32 1056964608#32 * G (ix2 (⟨(r : ℕ) / 4096, by omega⟩ : Fin 4) (⟨32768 + (k : ℕ), by omega⟩ : Fin 36864))
      * ∑ n : Fin 11008, A (ix2 r (Fin.castLE (by decide) n)) * W (ix2 n k)

theorem blk0 (t : Fin cfg0.N) (i : Fin 512) (n : Fin 11264) (r : Fin 16384) (hr : (r : ℕ) = t.val % 32 * 512 + i) :
    @Eq EReal (iblk m c 0 t (ix2 i n)) (m (c, Proc.tc.devRef main_arg0) (ix2 r n)) := by
  rw [show r = ⟨t.val % 32 * 512 + i, by omega⟩ from Fin.ext hr]
  blk_point [iblk, V, idx0 t]

theorem load0 (X : Vec Ideal S512x11264 .bf16) (i : Fin 512) (n : Fin 11008) :
    @Eq EReal (View.ld X r0_0 (ix2 i n)) (X (ix2 i (Fin.castLE (by decide) n))) :=
  View.ld_unit_apply_of _ _ _ _ _ _ fun a => by fin_cases a <;> simp

theorem blk1 (t : Fin cfg0.N) (n : Fin 11008) (j : Fin 512) (k : Fin 4096) (hk : (k : ℕ) = t.val / 32 * 512 + j) :
    @Eq EReal (iblk m c 1 t (ix2 n j)) (m (c, Proc.tc.devRef main_arg1) (ix2 n k)) := by
  have ht : t.val < 256 := t.isLt
  rw [show k = ⟨t.val / 32 * 512 + j, by omega⟩ from Fin.ext hk]
  blk_point [iblk, V, idx1 t]

theorem blk2 (t : Fin cfg0.N) (i j : Fin 512) (r : Fin 16384) (k : Fin 4096) (hr : (r : ℕ) = t.val % 32 * 512 + i)
    (hk : (k : ℕ) = t.val / 32 * 512 + j) :
    @Eq EReal (iblk m c 2 t (ix2 i j)) (m (c, Proc.tc.devRef main_arg2) (ix2 r k)) := by
  have ht : t.val < 256 := t.isLt
  rw [show k = ⟨t.val / 32 * 512 + j, by omega⟩ from Fin.ext hk]
  rw [show r = ⟨t.val % 32 * 512 + i, by omega⟩ from Fin.ext hr]
  blk_point [iblk, V, idx2 t]

theorem blk3 (t : Fin cfg0.N) (j : Fin 512) (b : Fin 4) (k : Fin 36864) (hb : (b : ℕ) = t.val % 32 / 8)
    (hk : (k : ℕ) = (64 + t.val / 32) * 512 + j) :
    @Eq EReal (iblk m c 3 t (ix3 0 0 j)) (V m c main_v0 (ix3 b 0 k)) := by
  have ht : t.val < 256 := t.isLt
  rw [show k = ⟨(64 + t.val / 32) * 512 + j, by omega⟩ from Fin.ext hk]
  rw [show b = ⟨t.val % 32 / 8, by omega⟩ from Fin.ext hb]
  blk_point [iblk, idx3 t]

theorem entry_mod (b : Fin 4) (k : Fin 36864) : @Eq EReal (V m c main_v0 (ix3 b 0 k))
    (m (c, Proc.tc.devRef main_arg3) (ix2 b k)) := by
  unfold V
  after_reads_at

theorem pay1_at (A : Vec Ideal S512x11008 .bf16) (W : Vec Ideal S11008x512 .bf16) (X : Vec Ideal S512x512 .f32) (G : Vec Ideal S1x1x512 .f32) (i j : Fin 512) :
    @Eq EReal (k0_pay1 A W X G (ix2 i j))
      (X (ix2 i j) + Ideal.ofBits .f32 1056964608#32 * G (ix3 0 0 j) * ∑ n : Fin 11008, A (ix2 i n) * W (ix2 n j)) := by
  unfold k0_pay1
  pointwise

/-- The arrays of the run. -/
abbrev out : Fin 16384 → Fin 4096 → EReal :=
  val (m (c, Proc.tc.devRef main_arg0)) (m (c, Proc.tc.devRef main_arg1)) (m (c, Proc.tc.devRef main_arg2)) (m (c, Proc.tc.devRef main_arg3))

theorem block (t : Fin cfg0.N) (i j : Fin 512) (r : Fin 16384) (k : Fin 4096) (hr : (r : ℕ) = t.val % 32 * 512 + i)
    (hk : (k : ℕ) = t.val / 32 * 512 + j) :
    @Eq EReal (k0_pay1 (View.ld (iblk m c 0 t) r0_0) (iblk m c 1 t) (iblk m c 2 t) (iblk m c 3 t) (ix2 i j)) (out m c r k) := by
  have ht : t.val < 256 := t.isLt
  refine (pay1_at _ _ _ _ i j).trans ?_
  have e2 := blk2 m c t i j r k hr hk
  have e3 := (blk3 m c t j (⟨(r : ℕ) / 4096, by omega⟩ : Fin 4) (⟨32768 + (k : ℕ), by omega⟩ : Fin 36864)
    (show (r : ℕ) / 4096 = t.val % 32 / 8 by omega) (show 32768 + (k : ℕ) = (64 + t.val / 32) * 512 + j by omega)).trans (entry_mod m c _ _)
  exact congrArg₂ (· + ·) e2 (congrArg₂ (· * ·) (congrArg (Ideal.ofBits .f32 1056964608#32 * ·) e3)
    (Finset.sum_congr rfl fun n _ => congrArg₂ (· * ·) ((load0 _ i n).trans (blk0 m c t i _ r hr)) (blk1 m c t n j k hk)))

theorem final4 : (dats m 0 c).arrAt 4 cfg0.N = fun q => out m c (q 0) (q 1) := by
  refine (dats m 0 c).arrAt_eq_of_covers 4 _ (by decide +kernel) fun t hf y => ?_
  blk_simp
  rw [after0_4]
  frame_out
  idx_vars y
  have h0 : ((((cfg0.win 4).blk t).view.emb (ix2 y0 y1) 0 : Fin 16384) : ℕ) = win0_4.index t (0 : Fin 2) * 512 + 1 * (y0 : ℕ) := rfl
  have h1 : ((((cfg0.win 4).blk t).view.emb (ix2 y0 y1) 1 : Fin 4096) : ℕ) = win0_4.index t (1 : Fin 2) * 512 + 1 * (y1 : ℕ) := rfl
  rw [idx4] at h0 h1
  exact block m c t y0 y1 _ _ (h0.trans (congrArg _ (Nat.one_mul _))) (h1.trans (congrArg _ (Nat.one_mul _)))

end Cert.Kernel6Ideal.Down

end
-- ==== Proof.DownR6.lean ====
/- The reference's product added to a residual, at an entry, and that both programs give the same arrays. -/
module

public import proofs.«01_k».proof.Proof.Down6
public import proofs.«01_k».proof.Defs
public import proofs.«01_k».proof.Proof.Gen.Reference6Ideal.Run

@[expose] public section

set_option maxRecDepth 16384

noncomputable section

namespace Cert.Reference6Ideal.Down

open Idealize.ShloMosaic Idealize.ShloMosaic.TcCoe Idealize.SL.Sem
open Cert.Reference6Ideal Cert.Reference6Ideal.Gen

/-- Everything but the product, at an entry, for any array in the product's place. -/
theorem outer (X D : Vec Ideal S4x4096x4096 .f32) (G : Vec Ideal S4x36864 .f32) (b : Fin 4) (s k : Fin 4096) :
    @Eq EReal ((addf (F := Ideal) X (mulf (broadcastInDim S4x4096x4096 ![0, 1, 2] bcast_S4x1x4096_S4x4096x4096_0_1_2 (mulf (broadcastInDim S4x1x4096 ![] bcast_S_S4x1x4096 (constant S_ .f32 0x3F000000#32)) (broadcastInDim S4x1x4096 ![0, 2] bcast_S4x4096_S4x1x4096_0_2 (extractStridedSlice S4x4096 ![0, 32768] G slices_S4x36864_S4x4096_0_32768)))) D)) (ix3 b s k))
      (X (ix3 b s k) + Ideal.ofBits .f32 1056964608#32 * G (ix2 b (⟨32768 + (k : ℕ), by omega⟩ : Fin 36864)) * D (ix3 b s k)) := by
  pointwise

theorem dot_at (A : FVec Ideal S16384x11264 .bf16) (W : FVec Ideal S11008x4096 .bf16) (r : Fin 16384) (k : Fin 4096) :
    @Eq EReal (Host.dotGeneral (F := Ideal) dot_S16384x11008_S11008x4096_S16384x4096_1_0_0_1_n_n none (extf .f32 (extractStridedSlice S16384x11008 ![0, 0] A slices_S16384x11264_S16384x11008_0_0) bitsLt_bf16_f32) (extf .f32 W bitsLt_bf16_f32) (ix2 r k))
      (∑ n : Fin 11008, A (ix2 r (Fin.castLE (by decide) n)) * W (ix2 n k)) := by
  refine Eq.trans (b := ∑ n : Fin 11008, extractStridedSlice S16384x11008 ![0, 0] A slices_S16384x11264_S16384x11008_0_0 (ix2 r n) * W (ix2 n k)) ?_ ?_
  · pointwise
  · refine Finset.sum_congr rfl fun n _ => congrArg (· * W (ix2 n k)) ?_
    pointwise
    rfl

/-- The reference's array at an entry. -/
theorem at_entry (A : FVec Ideal S16384x11264 .bf16) (W : FVec Ideal S11008x4096 .bf16) (X : FVec Ideal S16384x4096 .f32) (G : FVec Ideal S4x36864 .f32)
    (r : Fin 16384) (k : Fin 4096) :
    @Eq EReal (shapeCast S16384x4096 (addf (F := Ideal) (shapeCast _ X shapeCasts_S16384x4096_S4x4096x4096) (mulf (broadcastInDim S4x4096x4096 ![0, 1, 2] bcast_S4x1x4096_S4x4096x4096_0_1_2 (mulf (broadcastInDim S4x1x4096 ![] bcast_S_S4x1x4096 (constant S_ .f32 0x3F000000#32)) (broadcastInDim S4x1x4096 ![0, 2] bcast_S4x4096_S4x1x4096_0_2 (extractStridedSlice S4x4096 ![0, 32768] G slices_S4x36864_S4x4096_0_32768)))) (shapeCast _ (Host.dotGeneral dot_S16384x11008_S11008x4096_S16384x4096_1_0_0_1_n_n none (extf .f32 (extractStridedSlice S16384x11008 ![0, 0] A slices_S16384x11264_S16384x11008_0_0) bitsLt_bf16_f32) (extf .f32 W bitsLt_bf16_f32)) shapeCasts_S16384x4096_S4x4096x4096))) shapeCasts_S4x4096x4096_S16384x4096 (ix2 r k))
      (Cert.Kernel6Ideal.Down.val A W X G r k) := by
  have e : (S4x4096x4096.rowMajor (ix3 (⟨(r : ℕ) / 4096, by omega⟩ : Fin 4) (⟨(r : ℕ) % 4096, by omega⟩ : Fin 4096) k)).val
      = (S16384x4096.rowMajor (ix2 r k)).val := by
    rw [rowMajor_val3 _ 16777216 4096 rfl rfl, rowMajor_val2 _ 4096 rfl]
    show (r : ℕ) / 4096 * 16777216 + (r : ℕ) % 4096 * 4096 + (k : ℕ) = (r : ℕ) * 4096 + (k : ℕ)
    omega
  refine (shapeCast_apply _ _ _ _ e).trans ((outer _ _ _ _ _ _).trans ?_)
  exact congrArg₂ (· + _ * ·) (shapeCast_apply _ _ _ _ e.symm) ((shapeCast_apply _ _ _ _ e.symm).trans (dot_at A W r k))

theorem frame : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic : Cert.algebraic_Kernel6Ideal_Reference6Ideal := by
  intro m g m' g' _ hagree
  refine ⟨fun c q => Cert.Kernel6Ideal.Down.out m c (q 0) (q 1), ?_, ?_⟩
  · exact (θ_run Cert.Kernel6Ideal.defs _ _).mono (fun r h c => ⟨(h c).1.trans (Cert.Kernel6Ideal.Down.final4 m c), (h c).2⟩) (Cert.Kernel6Ideal.Value.run_blocks (F := Ideal) m g)
  · have same : ∀ c, ∀ q : S16384x4096.Idx, Cert.Kernel6Ideal.Down.val (m' (c, Proc.tc.devRef main_arg0)) (m' (c, Proc.tc.devRef main_arg1)) (m' (c, Proc.tc.devRef main_arg2)) (m' (c, Proc.tc.devRef main_arg3)) (q 0) (q 1)
        = Cert.Kernel6Ideal.Down.out m c (q 0) (q 1) := fun c q => by
      obtain ⟨e0, e1, e2, e3⟩ := hagree c
      rw [show m' (c, Proc.tc.devRef main_arg0) = _ from e0, show m' (c, Proc.tc.devRef main_arg1) = _ from e1,
        show m' (c, Proc.tc.devRef main_arg2) = _ from e2, show m' (c, Proc.tc.devRef main_arg3) = _ from e3]
    refine (θ_run Cert.Reference6Ideal.defs _ _).mono (fun r h c => ⟨(h c).1.trans ?_, (h c).2⟩)
      (Cert.Reference6Ideal.Value.run (F := Ideal) m' g')
    · funext q
      idx_vars q
      exact (at_entry _ _ _ _ q0 q1).trans (same c (ix2 q0 q1))

end Cert.Reference6Ideal.Down

end
-- ==== Proof.Norm7.lean ====
/- The norm before the first feed-forward part, with its shift and scale, entry by entry. -/
module

public import proofs.«01_k».proof.Proof.Gen.Kernel7Ideal.Value
public import Idealize.ShloMosaic.Lib.Pipeline.ReadBack
public import Idealize.ShloMosaic.Lib.Pipeline.ValueKit
public import Idealize.ShloMosaic.Lib.StableHlo.ReadAt

@[expose] public section

set_option maxRecDepth 16384

noncomputable section

namespace Cert.Kernel7Ideal.Norm

open Idealize.ShloMosaic Idealize.ShloMosaic.TcCoe Idealize.SL.Sem
open Cert.Kernel7Ideal Cert.Kernel7Ideal.Gen

variable (m : (ℓ : Loc nD τ sig) → Buf (Elt Ideal) ℓ) (c : Dev nD)

theorem idx0 : ∀ t : Fin cfg0.N, win0_0.index t = ![t.val, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![t.val / 4, 0, 0] :=
  (by decide +kernel : ∀ t : Fin grid0.N, _)
theorem idx3 : ∀ t : Fin cfg0.N, win0_3.index t = ![t.val / 4, 0, 1] :=
  (by decide +kernel : ∀ t : Fin grid0.N, _)
theorem idx4 : ∀ t : Fin cfg0.N, win0_4.index t = ![t.val, 0] :=
  (by decide +kernel : ∀ t : Fin grid0.N, _)

/-- An entry over its row's root mean square, times the gain, times one plus its sequence's scale, plus the shift. -/
def val (X : Vec Ideal S16384x4096 .f32) (g : Vec Ideal S4096 .f32) (G : Vec Ideal S4x36864 .f32) (r : Fin 16384) (k : Fin 4096) : EReal :=
  X (ix2 r k) * Ideal.rsqrt (Ideal.div (∑ n : Fin 4096, X (ix2 r n) * X (ix2 r n)) (Ideal.ofBits .f32 0x45800000#32) + Ideal.ofBits .f32 0x358637BD#32)
      * g (ix1 k) * (Ideal.ofBits .f32 0x3F800000#32 + G (ix2 (⟨(r : ℕ) / 4096, by omega⟩ : Fin 4) (⟨4096 + (k : ℕ), by omega⟩ : Fin 36864)))
    + G (ix2 (⟨(r : ℕ) / 4096, by omega⟩ : Fin 4) (⟨0 + (k : ℕ), by omega⟩ : Fin 36864))

theorem blk0 (t : Fin cfg0.N) (i : Fin 1024) (n : Fin 4096) (r : Fin 16384) (hr : (r : ℕ) = t.val * 1024 + i) :
    @Eq EReal (iblk m c 0 t (ix2 i n)) (m (c, Proc.tc.devRef main_arg0) (ix2 r n)) := by
  have ht : t.val < 16 := t.isLt
  rw [show r = ⟨t.val * 1024 + i, by omega⟩ from Fin.ext hr]
  blk_point [iblk, V, idx0 t]

theorem blk1 (t : Fin cfg0.N) (k : Fin 4096) :
    @Eq EReal (iblk m c 1 t (ix2 0 k)) (V m c main_v1 (ix2 0 k)) := by
  blk_point [iblk, idx1 t]

theorem entry_g (k : Fin 4096) : @Eq EReal (V m c main_v1 (ix2 0 k)) (m (c, Proc.tc.devRef main_arg1) (ix1 k)) := by
  unfold V
  after_reads_at

theorem blk2 (t : Fin cfg0.N) (j : Fin 4096) (b : Fin 4) (k : Fin 36864) (hb : (b : ℕ) = t.val / 4) (hk : (k : ℕ) = 0 * 4096 + j) :
    @Eq EReal (iblk m c 2 t (ix3 0 0 j)) (V m c main_v0 (ix3 b 0 k)) := by
  have ht : t.val < 16 := t.isLt
  rw [show k = ⟨0 * 4096 + j, by omega⟩ from Fin.ext hk]
  rw [show b = ⟨t.val / 4, by omega⟩ from Fin.ext hb]
  blk_point [iblk, idx2 t]

theorem blk3 (t : Fin cfg0.N) (j : Fin 4096) (b : Fin 4) (k : Fin 36864) (hb : (b : ℕ) = t.val / 4) (hk : (k : ℕ) = 1 * 4096 + j) :
    @Eq EReal (iblk m c 3 t (ix3 0 0 j)) (V m c main_v0 (ix3 b 0 k)) := by
  have ht : t.val < 16 := t.isLt
  rw [show k = ⟨1 * 4096 + j, by omega⟩ from Fin.ext hk]
  rw [show b = ⟨t.val / 4, by omega⟩ from Fin.ext hb]
  blk_point [iblk, idx3 t]

theorem entry_mod (b : Fin 4) (k : Fin 36864) : @Eq EReal (V m c main_v0 (ix3 b 0 k))
    (m (c, Proc.tc.devRef main_arg2) (ix2 b k)) := by
  unfold V
  after_reads_at

theorem pay1_at (g : Vec Ideal S1x4096 .f32) (sc sh : Vec Ideal S1x1x4096 .f32) (X : Vec Ideal S8x4096 .f32) (i : Fin 8) (k : Fin 4096) :
    @Eq EReal (k0_pay1 g sc sh X (ix2 i k))
      (X (ix2 i k) * Ideal.rsqrt (Ideal.div (∑ n : Fin 4096, X (ix2 i n) * X (ix2 i n)) (Ideal.ofBits .f32 0x45800000#32) + Ideal.ofBits .f32 0x358637BD#32)
        * (g (ix2 0 k) * (Ideal.ofBits .f32 0x3F800000#32 + sc (ix3 0 0 k))) + sh (ix3 0 0 k)) := by
  unfold k0_pay1
  pointwise

/-- The array's row of a block's row. -/
def row (t : Fin cfg0.N) (i : Fin 1024) : Fin 16384 :=
  ⟨t.val * 1024 + i, by have ht : t.val < 16 := t.isLt; omega⟩

/-- The array of the run. -/
abbrev out : Fin 16384 → Fin 4096 → EReal :=
  val (m (c, Proc.tc.devRef main_arg0)) (m (c, Proc.tc.devRef main_arg1)) (m (c, Proc.tc.devRef main_arg2))

/-- The array's rows of a block. -/
def blk (t : Fin cfg0.N) : Vec Ideal S1024x4096 .bf16 := fun y => out m c (row t (y 0)) (y 1)

/-- What one trip of the loop stores: its eight rows. -/
theorem trip (𝒱 : Variants) (bd : Option 𝒱.V) (i : grid0.Coords) (arg1 : Memref sig .tc .vmem S1024x4096 .f32) (harg1 : arg1.IsWhole)
    (arg2 : Memref sig .tc .vmem S1x4096 .f32) (harg2 : arg2.IsWhole) (arg3 : Memref sig .tc .vmem S1x1x4096 .f32) (harg3 : arg3.IsWhole)
    (arg4 : Memref sig .tc .vmem S1x1x4096 .f32) (harg4 : arg4.IsWhole) (arg5 : Memref sig .tc .vmem S1024x4096 .bf16) (harg5 : arg5.IsWhole)
    (v0 : Vec Ideal S1x4096 .f32) (v2 v7 : Vec Ideal S1x1x4096 .f32) (X : BufTy.Contents (Elt Ideal) arg1.view.ty) (k : Fin k0_t1_loop.trips) :
    tripL_k0_t1 (F := Ideal) 𝒱 c bd i arg1 harg1 arg2 harg2 arg3 harg3 arg4 harg4 arg5 harg5 v0 v2 v7 X k
      = [⟨Rect.unit (s := S1024x4096) (k0_off1 k) S8x4096.size (k0_off1_inb k), k0_pay1 v0 v2 v7 (View.readAt (Elt Ideal) arg1.view (Rect.unit (s := S1024x4096) (k0_off1 k) S8x4096.size (k0_off1_inb k)).toLoadRect X)⟩] := by
  unfold tripL_k0_t1 trip_k0_t1
  rfl

theorem off (k : Fin k0_t1_loop.trips) : k0_off1 k = ![k.val * 8, 0] := by
  revert k
  decide +kernel

theorem pieces (𝒱 : Variants) (bd : Option 𝒱.V) (i : grid0.Coords) (arg1 : Memref sig .tc .vmem S1024x4096 .f32) (harg1 : arg1.IsWhole)
    (arg2 : Memref sig .tc .vmem S1x4096 .f32) (harg2 : arg2.IsWhole) (arg3 : Memref sig .tc .vmem S1x1x4096 .f32) (harg3 : arg3.IsWhole)
    (arg4 : Memref sig .tc .vmem S1x1x4096 .f32) (harg4 : arg4.IsWhole) (arg5 : Memref sig .tc .vmem S1024x4096 .bf16) (harg5 : arg5.IsWhole)
    (v0 : Vec Ideal S1x4096 .f32) (v2 v7 : Vec Ideal S1x1x4096 .f32) (X : BufTy.Contents (Elt Ideal) arg1.view.ty) (n : ℕ) :
    ∀ p ∈ pb_k0_t1 (F := Ideal) 𝒱 c bd i arg1 harg1 arg2 harg2 arg3 harg3 arg4 harg4 arg5 harg5 v0 v2 v7 X n, ∃ k : Fin k0_t1_loop.trips,
      p = ⟨Rect.unit (s := S1024x4096) (k0_off1 k) S8x4096.size (k0_off1_inb k), k0_pay1 v0 v2 v7 (View.readAt (Elt Ideal) arg1.view (Rect.unit (s := S1024x4096) (k0_off1 k) S8x4096.size (k0_off1_inb k)).toLoadRect X)⟩ := by
  induction n with
  | zero => exact fun p hp => absurd hp List.not_mem_nil
  | succ n ih =>
    by_cases h : n < k0_t1_loop.trips
    · rw [pb_k0_t1_succ (F := Ideal) 𝒱 c bd i arg1 harg1 arg2 harg2 arg3 harg3 arg4 harg4 arg5 harg5 v0 v2 v7 X ⟨n, h⟩, trip]
      intro p hp
      rcases List.mem_append.mp hp with hp | hp
      · exact ⟨⟨n, h⟩, List.mem_singleton.mp hp⟩
      · exact ih p hp
    · rw [pb_k0_t1.eq_2]
      unfold pb_k0_t1Step
      rw [dif_neg h]
      exact ih

/-- A row of the modulation, loaded whole, is the row itself. -/
theorem load_row (X : Vec Ideal S1x1x4096 .f32) (k : Fin 4096) :
    @Eq EReal (View.ld X (Rect.unit (s := S1x1x4096) ![0, 0, 0] S1x1x4096.size inb_S1x1x4096_S1x1x4096_0_0_0) (ix3 0 0 k)) (X (ix3 0 0 k)) :=
  View.ld_unit_apply_of _ _ _ _ _ _ fun a => by fin_cases a <;> simp

theorem block (t : Fin cfg0.N) (y : S1024x4096.Idx) (r : Fin 16384) (k : Fin 4096)
    (hr : (r : ℕ) = t.val * 1024 + (y 0 : ℕ)) (hk : (k : ℕ) = (y 1 : ℕ)) : @Eq EReal (outsAt0 m c t y) (out m c r k) := by
  have key : outsAt0 m c t y = blk m c t y := by
    unfold outsAt0 out0_A_4
    refine View.read_writes_apply_of_pieces (Val := Elt Ideal) _ _ (blk m c t) _ ?_ y (cover0_A_4 c _ _ _ _ _ _ _ _ _ _ _ _ _ _ _ y)
    unfold kernelRun0_A
    dsimp only
    intro p hp x
    obtain ⟨j, rfl⟩ := pieces c _ _ _ _ _ _ _ _ _ _ _ _ _ _ _ _ _ _ p hp
    have hj := off j
    idx_vars x
    refine (pay1_at _ _ _ _ x0 x1).trans ?_
    have hq : k0_off1 j 0 = j.val * 8 := congrFun hj 0
    have hq1 : k0_off1 j 1 = 0 := congrFun hj 1
    have h8 : j.val * 8 + x0.val < 1024 := by
      have := j.isLt.trans_le k0_t1_abs.2.1
      omega
    have ht : t.val < 16 := t.isLt
    have r0 : ((Rect.unit (s := S1024x4096) (k0_off1 j) S8x4096.size (k0_off1_inb j)).emb (ix2 x0 x1) 0 : Fin 1024) = ⟨j.val * 8 + x0.val, h8⟩ :=
      Fin.ext ((Rect.idx_unit_val _ _ _ _ 0).trans (congrArg (· + x0.val) hq))
    have r1 : ((Rect.unit (s := S1024x4096) (k0_off1 j) S8x4096.size (k0_off1_inb j)).emb (ix2 x0 x1) 1 : Fin 4096) = x1 :=
      Fin.ext ((Rect.idx_unit_val _ _ _ _ 1).trans ((congrArg (· + x1.val) hq1).trans (Nat.zero_add _)))
    have hx : ∀ n : Fin 4096, @Eq EReal (View.readAt (Elt Ideal) (ms0_0 t).view (Rect.unit (s := S1024x4096) (k0_off1 j) S8x4096.size (k0_off1_inb j)).toLoadRect ((hs0_0 t).unread (iblk m c 0 t)) (ix2 x0 n))
        (m (c, Proc.tc.devRef main_arg0) (ix2 (row t ⟨j.val * 8 + x0.val, h8⟩) n)) := fun n => by
      rw [View.readAt_eq_ld, Memref.IsWhole.read_unread]
      refine (View.ld_unit_apply_of _ _ _ _ _ (ix2 (⟨j.val * 8 + x0.val, h8⟩ : Fin 1024) n) fun a => ?_).trans (blk0 m c t _ n _ rfl)
      fin_cases a
      · exact (congrArg (· + x0.val) hq).symm
      · exact ((congrArg (· + n.val) hq1).trans (Nat.zero_add _)).symm
    have hg : @Eq EReal (View.readAt (Elt Ideal) (ms0_1 t).view (Rect.unit (s := S1x4096) ![0, 0] S1x4096.size inb_S1x4096_S1x4096_0_0).toLoadRect ((hs0_1 t).unread (iblk m c 1 t)) (ix2 0 x1))
        (m (c, Proc.tc.devRef main_arg1) (ix1 x1)) := by
      rw [View.readAt_eq_ld, Memref.IsWhole.read_unread]
      refine (View.ld_unit_apply_of _ _ _ _ _ (ix2 (0 : Fin 1) x1) fun a => ?_).trans ((blk1 m c t x1).trans (entry_g m c x1))
      fin_cases a
      · rfl
      · exact (Nat.zero_add _).symm
    have hb : ((⟨(row t ⟨j.val * 8 + x0.val, h8⟩ : Fin 16384) / 4096, by omega⟩ : Fin 4) : ℕ) = t.val / 4 := by
      show (t.val * 1024 + (j.val * 8 + x0.val)) / 4096 = t.val / 4
      omega
    have hs : @Eq EReal (View.readAt (Elt Ideal) (ms0_2 t).view (Rect.unit (s := S1x1x4096) ![0, 0, 0] S1x1x4096.size inb_S1x1x4096_S1x1x4096_0_0_0).toLoadRect ((hs0_2 t).unread (iblk m c 2 t)) (ix3 0 0 x1))
        (m (c, Proc.tc.devRef main_arg2) (ix2 (⟨(row t ⟨j.val * 8 + x0.val, h8⟩ : Fin 16384) / 4096, by omega⟩ : Fin 4) (⟨0 + (x1 : ℕ), by omega⟩ : Fin 36864))) := by
      rw [View.readAt_eq_ld, Memref.IsWhole.read_unread]
      exact (load_row _ x1).trans ((blk2 m c t x1 _ _ hb rfl).trans (entry_mod m c _ _))
    have hc : @Eq EReal (View.readAt (Elt Ideal) (ms0_3 t).view (Rect.unit (s := S1x1x4096) ![0, 0, 0] S1x1x4096.size inb_S1x1x4096_S1x1x4096_0_0_0).toLoadRect ((hs0_3 t).unread (iblk m c 3 t)) (ix3 0 0 x1))
        (m (c, Proc.tc.devRef main_arg2) (ix2 (⟨(row t ⟨j.val * 8 + x0.val, h8⟩ : Fin 16384) / 4096, by omega⟩ : Fin 4) (⟨4096 + (x1 : ℕ), by omega⟩ : Fin 36864))) := by
      rw [View.readAt_eq_ld, Memref.IsWhole.read_unread]
      exact (load_row _ x1).trans ((blk3 m c t x1 _ _ hb rfl).trans (entry_mod m c _ _))
    unfold blk
    refine Eq.trans ?_ (congrArg₂ (out m c) (congrArg (row t) r0) r1).symm
    refine congrArg₂ (fun a b : EReal => a + b) (Eq.trans ?_ (mul_assoc _ _ _).symm) hs
    exact congrArg₂ (· * ·) (congrArg₂ (· * ·) (hx x1) (congrArg (fun s : EReal => Ideal.rsqrt (Ideal.div s (Ideal.ofBits .f32 0x45800000#32) + Ideal.ofBits .f32 0x358637BD#32))
      (Finset.sum_congr rfl fun n _ => congrArg₂ (· * ·) (hx n) (hx n)))) (congrArg₂ (fun a b : EReal => a * (Ideal.ofBits .f32 0x3F800000#32 + b)) hg hc)
  rw [key]
  have e1 : row t (y 0) = r := Fin.ext hr.symm
  have e2 : (y 1 : Fin 4096) = k := Fin.ext hk.symm
  exact congrArg₂ (out m c) e1 e2

theorem final4 : (dats m 0 c).arrAt 4 cfg0.N = fun q => out m c (q 0) (q 1) := by
  refine (dats m 0 c).arrAt_eq_of_covers 4 _ (by decide +kernel) fun t hf y => ?_
  blk_simp
  rw [after0_4]
  have h0 : ((((cfg0.win 4).blk t).view.emb y 0 : Fin 16384) : ℕ) = win0_4.index t (0 : Fin 2) * 1024 + 1 * (y 0 : ℕ) := rfl
  have h1 : ((((cfg0.win 4).blk t).view.emb y 1 : Fin 4096) : ℕ) = win0_4.index t (1 : Fin 2) * 4096 + 1 * (y 1 : ℕ) := rfl
  rw [idx4] at h0 h1
  exact block m c t y _ _ (h0.trans (congrArg _ (Nat.one_mul _))) (h1.trans ((Nat.zero_add _).trans (Nat.one_mul _)))

end Cert.Kernel7Ideal.Norm

end
-- ==== Proof.NormR7.lean ====
/- The reference's norm before the first feed-forward part, at an entry, and that both programs give the same array. -/
module

public import proofs.«01_k».proof.Defs
public import proofs.«01_k».proof.Proof.Norm7
public import proofs.«01_k».proof.Proof.Gen.Reference7Ideal.Run

@[expose] public section

set_option maxRecDepth 16384

noncomputable section

namespace Cert.Reference7Ideal.Norm

open Idealize.ShloMosaic Idealize.ShloMosaic.TcCoe Idealize.SL.Sem
open Cert.Reference7Ideal Cert.Reference7Ideal.Gen

/-- The rows over their root mean squares, times the gain, at an entry. -/
theorem norm_at (X : FVec Ideal S16384x4096 .f32) (g : FVec Ideal S4096 .f32) (r : Fin 16384) (k : Fin 4096) :
    @Eq EReal ((mulf (F := Ideal) (mulf X (broadcastInDim S16384x4096 ![0, 1] bcast_S16384x1_S16384x4096_0_1 (Host.rsqrt (addf (Host.divf (broadcastInDim S16384x1 ![0] bcast_S16384_S16384x1_0 (Host.reduceAdd (mulf X X) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 g))) (ix2 r k))
      (X (ix2 r k) * Ideal.rsqrt (Ideal.div (∑ n : Fin 4096, X (ix2 r n) * X (ix2 r n)) (Ideal.ofBits .f32 0x45800000#32) + Ideal.ofBits .f32 0x358637BD#32)
        * g (ix1 k)) := by
  pointwise

/-- The scale and the shift, at an entry, for any array in the norm's place. -/
theorem outer (H : FVec Ideal S4x4096x4096 .f32) (G : FVec Ideal S4x36864 .f32) (b : Fin 4) (s k : Fin 4096) :
    @Eq EReal ((addf (F := Ideal) (mulf H (broadcastInDim S4x4096x4096 ![0, 1, 2] bcast_S4x1x4096_S4x4096x4096_0_1_2 (addf (broadcastInDim S4x1x4096 ![] bcast_S_S4x1x4096 (constant S_ .f32 0x3F800000#32)) (broadcastInDim S4x1x4096 ![0, 2] bcast_S4x4096_S4x1x4096_0_2 (extractStridedSlice S4x4096 ![0, 4096] G slices_S4x36864_S4x4096_0_4096))))) (broadcastInDim S4x4096x4096 ![0, 1, 2] bcast_S4x1x4096_S4x4096x4096_0_1_2 (broadcastInDim S4x1x4096 ![0, 2] bcast_S4x4096_S4x1x4096_0_2 (extractStridedSlice S4x4096 ![0, 0] G slices_S4x36864_S4x4096_0_0)))) (ix3 b s k))
      (H (ix3 b s k) * (Ideal.ofBits .f32 0x3F800000#32 + G (ix2 b (⟨4096 + (k : ℕ), by omega⟩ : Fin 36864))) + G (ix2 b (⟨0 + (k : ℕ), by omega⟩ : Fin 36864))) := by
  pointwise

/-- The reference's array at an entry. -/
theorem at_entry (X : FVec Ideal S16384x4096 .f32) (g : FVec Ideal S4096 .f32) (G : FVec Ideal S4x36864 .f32) (r : Fin 16384) (k : Fin 4096) :
    @Eq EReal (shapeCast S16384x4096 (addf (F := Ideal) (mulf (shapeCast _ (mulf (F := Ideal) (mulf X (broadcastInDim S16384x4096 ![0, 1] bcast_S16384x1_S16384x4096_0_1 (Host.rsqrt (addf (Host.divf (broadcastInDim S16384x1 ![0] bcast_S16384_S16384x1_0 (Host.reduceAdd (mulf X X) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 g))) shapeCasts_S16384x4096_S4x4096x4096) (broadcastInDim S4x4096x4096 ![0, 1, 2] bcast_S4x1x4096_S4x4096x4096_0_1_2 (addf (broadcastInDim S4x1x4096 ![] bcast_S_S4x1x4096 (constant S_ .f32 0x3F800000#32)) (broadcastInDim S4x1x4096 ![0, 2] bcast_S4x4096_S4x1x4096_0_2 (extractStridedSlice S4x4096 ![0, 4096] G slices_S4x36864_S4x4096_0_4096))))) (broadcastInDim S4x4096x4096 ![0, 1, 2] bcast_S4x1x4096_S4x4096x4096_0_1_2 (broadcastInDim S4x1x4096 ![0, 2] bcast_S4x4096_S4x1x4096_0_2 (extractStridedSlice S4x4096 ![0, 0] G slices_S4x36864_S4x4096_0_0)))) shapeCasts_S4x4096x4096_S16384x4096 (ix2 r k))
      (Cert.Kernel7Ideal.Norm.val X g G r k) := by
  have e : (S4x4096x4096.rowMajor (ix3 (⟨(r : ℕ) / 4096, by omega⟩ : Fin 4) (⟨(r : ℕ) % 4096, by omega⟩ : Fin 4096) k)).val
      = (S16384x4096.rowMajor (ix2 r k)).val := by
    rw [rowMajor_val3 _ 16777216 4096 rfl rfl, rowMajor_val2 _ 4096 rfl]
    show (r : ℕ) / 4096 * 16777216 + (r : ℕ) % 4096 * 4096 + (k : ℕ) = (r : ℕ) * 4096 + (k : ℕ)
    omega
  refine (shapeCast_apply _ _ _ _ e).trans ((outer _ _ _ _ _).trans ?_)
  exact congrArg (fun h : EReal => h * _ + _) ((shapeCast_apply _ _ _ _ e.symm).trans (norm_at X g r k))

theorem frame : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic : Cert.algebraic_Kernel7Ideal_Reference7Ideal := by
  intro m g m' g' _ hagree
  refine ⟨fun c q => Cert.Kernel7Ideal.Norm.out m c (q 0) (q 1), ?_, ?_⟩
  · exact (θ_run Cert.Kernel7Ideal.defs _ _).mono (fun r h c => ⟨(h c).1.trans (Cert.Kernel7Ideal.Norm.final4 m c), (h c).2⟩)
      (Cert.Kernel7Ideal.Value.run_blocks (F := Ideal) m g)
  · refine (θ_run Cert.Reference7Ideal.defs _ _).mono (fun r h c => ⟨(h c).1.trans ?_, (h c).2⟩)
      (Cert.Reference7Ideal.Value.run (F := Ideal) m' g')
    obtain ⟨e0, e1, e2⟩ := hagree c
    rw [e0, e1, e2]
    funext q
    idx_vars q
    exact at_entry _ _ _ q0 q1

end Cert.Reference7Ideal.Norm

end
-- ==== Proof.Norm8.lean ====
/- The last norm, entry by entry. -/
module

public import proofs.«01_k».proof.Proof.Gen.Kernel8Ideal.Value
public import Idealize.ShloMosaic.Lib.Pipeline.ReadBack
public import Idealize.ShloMosaic.Lib.Pipeline.ValueKit
public import Idealize.ShloMosaic.Lib.StableHlo.ReadAt

@[expose] public section

set_option maxRecDepth 16384

noncomputable section

namespace Cert.Kernel8Ideal.Norm

open Idealize.ShloMosaic Idealize.ShloMosaic.TcCoe Idealize.SL.Sem
open Cert.Kernel8Ideal Cert.Kernel8Ideal.Gen

variable (m : (ℓ : Loc nD τ sig) → Buf (Elt Ideal) ℓ) (c : Dev nD)

theorem idx0 : ∀ t : Fin cfg0.N, win0_0.index t = ![t.val, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![t.val, 0] :=
  (by decide +kernel : ∀ t : Fin grid0.N, _)

/-- An entry over its row's root mean square, times the gain. -/
def val (X : Vec Ideal S16384x4096 .bf16) (g : Vec Ideal S4096 .f32) (r : Fin 16384) (k : Fin 4096) : EReal :=
  X (ix2 r k) * Ideal.rsqrt (Ideal.div (∑ n : Fin 4096, X (ix2 r n) * X (ix2 r n)) (Ideal.ofBits .f32 0x45800000#32) + Ideal.ofBits .f32 0x358637BD#32)
    * g (ix1 k)

theorem blk0 (t : Fin cfg0.N) (i : Fin 1024) (n : Fin 4096) (r : Fin 16384) (hr : (r : ℕ) = t.val * 1024 + i) :
    @Eq EReal (iblk m c 0 t (ix2 i n)) (m (c, Proc.tc.devRef main_arg0) (ix2 r n)) := by
  have ht : t.val < 16 := t.isLt
  rw [show r = ⟨t.val * 1024 + i, by omega⟩ from Fin.ext hr]
  blk_point [iblk, V, idx0 t]

theorem blk1 (t : Fin cfg0.N) (k : Fin 4096) :
    @Eq EReal (iblk m c 1 t (ix2 0 k)) (V m c main_v0 (ix2 0 k)) := by
  blk_point [iblk, idx1 t]

theorem entry_g (k : Fin 4096) : @Eq EReal (V m c main_v0 (ix2 0 k)) (m (c, Proc.tc.devRef main_arg1) (ix1 k)) := by
  unfold V
  after_reads_at

theorem pay1_at (G : Vec Ideal S1x4096 .f32) (X : Vec Ideal S8x4096 .bf16) (i : Fin 8) (k : Fin 4096) :
    @Eq EReal (k0_pay1 G X (ix2 i k))
      (X (ix2 i k) * Ideal.rsqrt (Ideal.div (∑ n : Fin 4096, X (ix2 i n) * X (ix2 i n)) (Ideal.ofBits .f32 0x45800000#32) + Ideal.ofBits .f32 0x358637BD#32)
        * G (ix2 0 k)) := by
  unfold k0_pay1
  pointwise

/-- The array's row of a block's row. -/
def row (t : Fin cfg0.N) (i : Fin 1024) : Fin 16384 :=
  ⟨t.val * 1024 + i, by have ht : t.val < 16 := t.isLt; omega⟩

/-- The array of the run. -/
abbrev out : Fin 16384 → Fin 4096 → EReal :=
  val (m (c, Proc.tc.devRef main_arg0)) (m (c, Proc.tc.devRef main_arg1))

/-- The array's rows of a block. -/
def blk (t : Fin cfg0.N) : Vec Ideal S1024x4096 .f32 := fun y => out m c (row t (y 0)) (y 1)

/-- What one trip of the loop stores: its eight rows. -/
theorem trip (𝒱 : Variants) (bd : Option 𝒱.V) (i : grid0.Coords) (arg1 : Memref sig .tc .vmem S1024x4096 .bf16) (harg1 : arg1.IsWhole)
    (arg2 : Memref sig .tc .vmem S1x4096 .f32) (harg2 : arg2.IsWhole) (arg3 : Memref sig .tc .vmem S1024x4096 .f32) (harg3 : arg3.IsWhole)
    (v0 : Vec Ideal S1x4096 .f32) (X : BufTy.Contents (Elt Ideal) arg1.view.ty) (k : Fin k0_t1_loop.trips) :
    tripL_k0_t1 (F := Ideal) 𝒱 c bd i arg1 harg1 arg2 harg2 arg3 harg3 v0 X k
      = [⟨Rect.unit (s := S1024x4096) (k0_off1 k) S8x4096.size (k0_off1_inb k), k0_pay1 v0 (View.readAt (Elt Ideal) arg1.view (Rect.unit (s := S1024x4096) (k0_off1 k) S8x4096.size (k0_off1_inb k)).toLoadRect X)⟩] := by
  unfold tripL_k0_t1 trip_k0_t1
  rfl

theorem off (k : Fin k0_t1_loop.trips) : k0_off1 k = ![k.val * 8, 0] := by
  revert k
  decide +kernel

theorem pieces (𝒱 : Variants) (bd : Option 𝒱.V) (i : grid0.Coords) (arg1 : Memref sig .tc .vmem S1024x4096 .bf16) (harg1 : arg1.IsWhole)
    (arg2 : Memref sig .tc .vmem S1x4096 .f32) (harg2 : arg2.IsWhole) (arg3 : Memref sig .tc .vmem S1024x4096 .f32) (harg3 : arg3.IsWhole)
    (v0 : Vec Ideal S1x4096 .f32) (X : BufTy.Contents (Elt Ideal) arg1.view.ty) (n : ℕ) :
    ∀ p ∈ pb_k0_t1 (F := Ideal) 𝒱 c bd i arg1 harg1 arg2 harg2 arg3 harg3 v0 X n, ∃ k : Fin k0_t1_loop.trips,
      p = ⟨Rect.unit (s := S1024x4096) (k0_off1 k) S8x4096.size (k0_off1_inb k), k0_pay1 v0 (View.readAt (Elt Ideal) arg1.view (Rect.unit (s := S1024x4096) (k0_off1 k) S8x4096.size (k0_off1_inb k)).toLoadRect X)⟩ := by
  induction n with
  | zero => exact fun p hp => absurd hp List.not_mem_nil
  | succ n ih =>
    by_cases h : n < k0_t1_loop.trips
    · rw [pb_k0_t1_succ (F := Ideal) 𝒱 c bd i arg1 harg1 arg2 harg2 arg3 harg3 v0 X ⟨n, h⟩, trip]
      intro p hp
      rcases List.mem_append.mp hp with hp | hp
      · exact ⟨⟨n, h⟩, List.mem_singleton.mp hp⟩
      · exact ih p hp
    · rw [pb_k0_t1.eq_2]
      unfold pb_k0_t1Step
      rw [dif_neg h]
      exact ih

theorem block (t : Fin cfg0.N) (y : S1024x4096.Idx) (r : Fin 16384) (k : Fin 4096)
    (hr : (r : ℕ) = t.val * 1024 + (y 0 : ℕ)) (hk : (k : ℕ) = (y 1 : ℕ)) : @Eq EReal (outsAt0 m c t y) (out m c r k) := by
  have key : outsAt0 m c t y = blk m c t y := by
    unfold outsAt0 out0_A_2
    refine View.read_writes_apply_of_pieces (Val := Elt Ideal) _ _ (blk m c t) _ ?_ y (cover0_A_2 c _ _ _ _ _ _ _ _ _ y)
    unfold kernelRun0_A
    dsimp only
    intro p hp x
    obtain ⟨j, rfl⟩ := pieces c _ _ _ _ _ _ _ _ _ _ _ _ p hp
    have hj := off j
    idx_vars x
    refine (pay1_at _ _ x0 x1).trans ?_
    have hq : k0_off1 j 0 = j.val * 8 := congrFun hj 0
    have hq1 : k0_off1 j 1 = 0 := congrFun hj 1
    have h8 : j.val * 8 + x0.val < 1024 := by
      have := j.isLt.trans_le k0_t1_abs.2.1
      omega
    have r0 : ((Rect.unit (s := S1024x4096) (k0_off1 j) S8x4096.size (k0_off1_inb j)).emb (ix2 x0 x1) 0 : Fin 1024) = ⟨j.val * 8 + x0.val, h8⟩ :=
      Fin.ext ((Rect.idx_unit_val _ _ _ _ 0).trans (congrArg (· + x0.val) hq))
    have r1 : ((Rect.unit (s := S1024x4096) (k0_off1 j) S8x4096.size (k0_off1_inb j)).emb (ix2 x0 x1) 1 : Fin 4096) = x1 :=
      Fin.ext ((Rect.idx_unit_val _ _ _ _ 1).trans ((congrArg (· + x1.val) hq1).trans (Nat.zero_add _)))
    have hx : ∀ n : Fin 4096, @Eq EReal (View.readAt (Elt Ideal) (ms0_0 t).view (Rect.unit (s := S1024x4096) (k0_off1 j) S8x4096.size (k0_off1_inb j)).toLoadRect ((hs0_0 t).unread (iblk m c 0 t)) (ix2 x0 n))
        (m (c, Proc.tc.devRef main_arg0) (ix2 (row t ⟨j.val * 8 + x0.val, h8⟩) n)) := fun n => by
      rw [View.readAt_eq_ld, Memref.IsWhole.read_unread]
      refine (View.ld_unit_apply_of _ _ _ _ _ (ix2 (⟨j.val * 8 + x0.val, h8⟩ : Fin 1024) n) fun a => ?_).trans (blk0 m c t _ n _ rfl)
      fin_cases a
      · exact (congrArg (· + x0.val) hq).symm
      · exact ((congrArg (· + n.val) hq1).trans (Nat.zero_add _)).symm
    have hg : @Eq EReal (View.readAt (Elt Ideal) (ms0_1 t).view (Rect.unit (s := S1x4096) ![0, 0] S1x4096.size inb_S1x4096_S1x4096_0_0).toLoadRect ((hs0_1 t).unread (iblk m c 1 t)) (ix2 0 x1))
        (m (c, Proc.tc.devRef main_arg1) (ix1 x1)) := by
      rw [View.readAt_eq_ld, Memref.IsWhole.read_unread]
      refine (View.ld_unit_apply_of _ _ _ _ _ (ix2 (0 : Fin 1) x1) fun a => ?_).trans ((blk1 m c t x1).trans (entry_g m c x1))
      fin_cases a
      · rfl
      · exact (Nat.zero_add _).symm
    unfold blk
    refine Eq.trans ?_ (congrArg₂ (out m c) (congrArg (row t) r0) r1).symm
    exact congrArg₂ (· * ·) (congrArg₂ (· * ·) (hx x1) (congrArg (fun s : EReal => Ideal.rsqrt (Ideal.div s (Ideal.ofBits .f32 0x45800000#32) + Ideal.ofBits .f32 0x358637BD#32))
      (Finset.sum_congr rfl fun n _ => congrArg₂ (· * ·) (hx n) (hx n)))) hg
  rw [key]
  have e1 : row t (y 0) = r := Fin.ext hr.symm
  have e2 : (y 1 : Fin 4096) = k := Fin.ext hk.symm
  exact congrArg₂ (out m c) e1 e2

theorem final2 : (dats m 0 c).arrAt 2 cfg0.N = fun q => out m c (q 0) (q 1) := by
  refine (dats m 0 c).arrAt_eq_of_covers 2 _ (by decide +kernel) fun t hf y => ?_
  blk_simp
  rw [after0_2]
  have h0 : ((((cfg0.win 2).blk t).view.emb y 0 : Fin 16384) : ℕ) = win0_2.index t (0 : Fin 2) * 1024 + 1 * (y 0 : ℕ) := rfl
  have h1 : ((((cfg0.win 2).blk t).view.emb y 1 : Fin 4096) : ℕ) = win0_2.index t (1 : Fin 2) * 4096 + 1 * (y 1 : ℕ) := rfl
  rw [idx2] at h0 h1
  exact block m c t y _ _ (h0.trans (congrArg _ (Nat.one_mul _))) (h1.trans ((Nat.zero_add _).trans (Nat.one_mul _)))

end Cert.Kernel8Ideal.Norm

end
-- ==== Proof.NormR8.lean ====
/- The reference's last norm, at an entry, and that both programs give the same array. -/
module

public import proofs.«01_k».proof.Defs
public import proofs.«01_k».proof.Proof.Norm8
public import proofs.«01_k».proof.Proof.Gen.Reference8Ideal.Run

@[expose] public section

set_option maxRecDepth 16384

noncomputable section

namespace Cert.Reference8Ideal.Norm

open Idealize.ShloMosaic Idealize.ShloMosaic.TcCoe Idealize.SL.Sem
open Cert.Reference8Ideal Cert.Reference8Ideal.Gen

/-- The reference's array at an entry. -/
theorem at_entry (X : FVec Ideal S16384x4096 .bf16) (g : FVec Ideal S4096 .f32) (r : Fin 16384) (k : Fin 4096) :
    @Eq EReal (mulf (F := Ideal) (mulf (extf .f32 X bitsLt_bf16_f32) (broadcastInDim S16384x4096 ![0, 1] bcast_S16384x1_S16384x4096_0_1 (Host.rsqrt (addf (Host.divf (broadcastInDim S16384x1 ![0] bcast_S16384_S16384x1_0 (Host.reduceAdd (mulf (extf .f32 X bitsLt_bf16_f32) (extf .f32 X bitsLt_bf16_f32)) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 g)) (ix2 r k))
      (Cert.Kernel8Ideal.Norm.val X g r k) := by
  unfold Cert.Kernel8Ideal.Norm.val
  pointwise

theorem frame : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic : Cert.algebraic_Kernel8Ideal_Reference8Ideal := by
  intro m g m' g' _ hagree
  refine ⟨fun c q => Cert.Kernel8Ideal.Norm.out m c (q 0) (q 1), ?_, ?_⟩
  · exact (θ_run Cert.Kernel8Ideal.defs _ _).mono (fun r h c => ⟨(h c).1.trans (Cert.Kernel8Ideal.Norm.final2 m c), (h c).2⟩)
      (Cert.Kernel8Ideal.Value.run_blocks (F := Ideal) m g)
  · refine (θ_run Cert.Reference8Ideal.defs _ _).mono (fun r h c => ⟨(h c).1.trans ?_, (h c).2⟩)
      (Cert.Reference8Ideal.Value.run (F := Ideal) m' g')
    obtain ⟨e0, e1⟩ := hagree c
    rw [e0, e1]
    funext q
    idx_vars q
    exact at_entry _ _ q0 q1

end Cert.Reference8Ideal.Norm

end
-- ==== Proof.Norm9.lean ====
/- The norm before the input projection, with its shift and scale, entry by entry. -/
module

public import proofs.«01_k».proof.Proof.Gen.Kernel9Ideal.Value
public import Idealize.ShloMosaic.Lib.Pipeline.ReadBack
public import Idealize.ShloMosaic.Lib.Pipeline.ValueKit
public import Idealize.ShloMosaic.Lib.StableHlo.ReadAt

@[expose] public section

set_option maxRecDepth 16384

noncomputable section

namespace Cert.Kernel9Ideal.Norm

open Idealize.ShloMosaic Idealize.ShloMosaic.TcCoe Idealize.SL.Sem
open Cert.Kernel9Ideal Cert.Kernel9Ideal.Gen

variable (m : (ℓ : Loc nD τ sig) → Buf (Elt Ideal) ℓ) (c : Dev nD)

theorem idx0 : ∀ t : Fin cfg0.N, win0_0.index t = ![t.val, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![t.val / 4, 0, 3] :=
  (by decide +kernel : ∀ t : Fin grid0.N, _)
theorem idx3 : ∀ t : Fin cfg0.N, win0_3.index t = ![t.val / 4, 0, 4] :=
  (by decide +kernel : ∀ t : Fin grid0.N, _)
theorem idx4 : ∀ t : Fin cfg0.N, win0_4.index t = ![t.val, 0] :=
  (by decide +kernel : ∀ t : Fin grid0.N, _)

/-- An entry over its row's root mean square, times the gain, times one plus its sequence's scale, plus the shift. -/
def val (X : Vec Ideal S16384x4096 .bf16) (g : Vec Ideal S4096 .f32) (G : Vec Ideal S4x36864 .f32) (r : Fin 16384) (k : Fin 4096) : EReal :=
  X (ix2 r k) * Ideal.rsqrt (Ideal.div (∑ n : Fin 4096, X (ix2 r n) * X (ix2 r n)) (Ideal.ofBits .f32 0x45800000#32) + Ideal.ofBits .f32 0x358637BD#32)
      * g (ix1 k) * (Ideal.ofBits .f32 0x3F800000#32 + G (ix2 (⟨(r : ℕ) / 4096, by omega⟩ : Fin 4) (⟨16384 + (k : ℕ), by omega⟩ : Fin 36864)))
    + G (ix2 (⟨(r : ℕ) / 4096, by omega⟩ : Fin 4) (⟨12288 + (k : ℕ), by omega⟩ : Fin 36864))

theorem blk0 (t : Fin cfg0.N) (i : Fin 1024) (n : Fin 4096) (r : Fin 16384) (hr : (r : ℕ) = t.val * 1024 + i) :
    @Eq EReal (iblk m c 0 t (ix2 i n)) (m (c, Proc.tc.devRef main_arg0) (ix2 r n)) := by
  have ht : t.val < 16 := t.isLt
  rw [show r = ⟨t.val * 1024 + i, by omega⟩ from Fin.ext hr]
  blk_point [iblk, V, idx0 t]

theorem blk1 (t : Fin cfg0.N) (k : Fin 4096) :
    @Eq EReal (iblk m c 1 t (ix2 0 k)) (V m c main_v1 (ix2 0 k)) := by
  blk_point [iblk, idx1 t]

theorem entry_g (k : Fin 4096) : @Eq EReal (V m c main_v1 (ix2 0 k)) (m (c, Proc.tc.devRef main_arg1) (ix1 k)) := by
  unfold V
  after_reads_at

theorem blk2 (t : Fin cfg0.N) (j : Fin 4096) (b : Fin 4) (k : Fin 36864) (hb : (b : ℕ) = t.val / 4) (hk : (k : ℕ) = 3 * 4096 + j) :
    @Eq EReal (iblk m c 2 t (ix3 0 0 j)) (V m c main_v0 (ix3 b 0 k)) := by
  have ht : t.val < 16 := t.isLt
  rw [show k = ⟨3 * 4096 + j, by omega⟩ from Fin.ext hk]
  rw [show b = ⟨t.val / 4, by omega⟩ from Fin.ext hb]
  blk_point [iblk, idx2 t]

theorem blk3 (t : Fin cfg0.N) (j : Fin 4096) (b : Fin 4) (k : Fin 36864) (hb : (b : ℕ) = t.val / 4) (hk : (k : ℕ) = 4 * 4096 + j) :
    @Eq EReal (iblk m c 3 t (ix3 0 0 j)) (V m c main_v0 (ix3 b 0 k)) := by
  have ht : t.val < 16 := t.isLt
  rw [show k = ⟨4 * 4096 + j, by omega⟩ from Fin.ext hk]
  rw [show b = ⟨t.val / 4, by omega⟩ from Fin.ext hb]
  blk_point [iblk, idx3 t]

theorem entry_mod (b : Fin 4) (k : Fin 36864) : @Eq EReal (V m c main_v0 (ix3 b 0 k))
    (m (c, Proc.tc.devRef main_arg2) (ix2 b k)) := by
  unfold V
  after_reads_at

theorem pay1_at (g : Vec Ideal S1x4096 .f32) (sc sh : Vec Ideal S1x1x4096 .f32) (X : Vec Ideal S8x4096 .bf16) (i : Fin 8) (k : Fin 4096) :
    @Eq EReal (k0_pay1 g sc sh X (ix2 i k))
      (X (ix2 i k) * Ideal.rsqrt (Ideal.div (∑ n : Fin 4096, X (ix2 i n) * X (ix2 i n)) (Ideal.ofBits .f32 0x45800000#32) + Ideal.ofBits .f32 0x358637BD#32)
        * (g (ix2 0 k) * (Ideal.ofBits .f32 0x3F800000#32 + sc (ix3 0 0 k))) + sh (ix3 0 0 k)) := by
  unfold k0_pay1
  pointwise

/-- The array's row of a block's row. -/
def row (t : Fin cfg0.N) (i : Fin 1024) : Fin 16384 :=
  ⟨t.val * 1024 + i, by have ht : t.val < 16 := t.isLt; omega⟩

/-- The array of the run. -/
abbrev out : Fin 16384 → Fin 4096 → EReal :=
  val (m (c, Proc.tc.devRef main_arg0)) (m (c, Proc.tc.devRef main_arg1)) (m (c, Proc.tc.devRef main_arg2))

/-- The array's rows of a block. -/
def blk (t : Fin cfg0.N) : Vec Ideal S1024x4096 .bf16 := fun y => out m c (row t (y 0)) (y 1)

/-- What one trip of the loop stores: its eight rows. -/
theorem trip (𝒱 : Variants) (bd : Option 𝒱.V) (i : grid0.Coords) (arg1 : Memref sig .tc .vmem S1024x4096 .bf16) (harg1 : arg1.IsWhole)
    (arg2 : Memref sig .tc .vmem S1x4096 .f32) (harg2 : arg2.IsWhole) (arg3 : Memref sig .tc .vmem S1x1x4096 .f32) (harg3 : arg3.IsWhole)
    (arg4 : Memref sig .tc .vmem S1x1x4096 .f32) (harg4 : arg4.IsWhole) (arg5 : Memref sig .tc .vmem S1024x4096 .bf16) (harg5 : arg5.IsWhole)
    (v0 : Vec Ideal S1x4096 .f32) (v2 v7 : Vec Ideal S1x1x4096 .f32) (X : BufTy.Contents (Elt Ideal) arg1.view.ty) (k : Fin k0_t1_loop.trips) :
    tripL_k0_t1 (F := Ideal) 𝒱 c bd i arg1 harg1 arg2 harg2 arg3 harg3 arg4 harg4 arg5 harg5 v0 v2 v7 X k
      = [⟨Rect.unit (s := S1024x4096) (k0_off1 k) S8x4096.size (k0_off1_inb k), k0_pay1 v0 v2 v7 (View.readAt (Elt Ideal) arg1.view (Rect.unit (s := S1024x4096) (k0_off1 k) S8x4096.size (k0_off1_inb k)).toLoadRect X)⟩] := by
  unfold tripL_k0_t1 trip_k0_t1
  rfl

theorem off (k : Fin k0_t1_loop.trips) : k0_off1 k = ![k.val * 8, 0] := by
  revert k
  decide +kernel

theorem pieces (𝒱 : Variants) (bd : Option 𝒱.V) (i : grid0.Coords) (arg1 : Memref sig .tc .vmem S1024x4096 .bf16) (harg1 : arg1.IsWhole)
    (arg2 : Memref sig .tc .vmem S1x4096 .f32) (harg2 : arg2.IsWhole) (arg3 : Memref sig .tc .vmem S1x1x4096 .f32) (harg3 : arg3.IsWhole)
    (arg4 : Memref sig .tc .vmem S1x1x4096 .f32) (harg4 : arg4.IsWhole) (arg5 : Memref sig .tc .vmem S1024x4096 .bf16) (harg5 : arg5.IsWhole)
    (v0 : Vec Ideal S1x4096 .f32) (v2 v7 : Vec Ideal S1x1x4096 .f32) (X : BufTy.Contents (Elt Ideal) arg1.view.ty) (n : ℕ) :
    ∀ p ∈ pb_k0_t1 (F := Ideal) 𝒱 c bd i arg1 harg1 arg2 harg2 arg3 harg3 arg4 harg4 arg5 harg5 v0 v2 v7 X n, ∃ k : Fin k0_t1_loop.trips,
      p = ⟨Rect.unit (s := S1024x4096) (k0_off1 k) S8x4096.size (k0_off1_inb k), k0_pay1 v0 v2 v7 (View.readAt (Elt Ideal) arg1.view (Rect.unit (s := S1024x4096) (k0_off1 k) S8x4096.size (k0_off1_inb k)).toLoadRect X)⟩ := by
  induction n with
  | zero => exact fun p hp => absurd hp List.not_mem_nil
  | succ n ih =>
    by_cases h : n < k0_t1_loop.trips
    · rw [pb_k0_t1_succ (F := Ideal) 𝒱 c bd i arg1 harg1 arg2 harg2 arg3 harg3 arg4 harg4 arg5 harg5 v0 v2 v7 X ⟨n, h⟩, trip]
      intro p hp
      rcases List.mem_append.mp hp with hp | hp
      · exact ⟨⟨n, h⟩, List.mem_singleton.mp hp⟩
      · exact ih p hp
    · rw [pb_k0_t1.eq_2]
      unfold pb_k0_t1Step
      rw [dif_neg h]
      exact ih

/-- A row of the modulation, loaded whole, is the row itself. -/
theorem load_row (X : Vec Ideal S1x1x4096 .f32) (k : Fin 4096) :
    @Eq EReal (View.ld X (Rect.unit (s := S1x1x4096) ![0, 0, 0] S1x1x4096.size inb_S1x1x4096_S1x1x4096_0_0_0) (ix3 0 0 k)) (X (ix3 0 0 k)) :=
  View.ld_unit_apply_of _ _ _ _ _ _ fun a => by fin_cases a <;> simp

theorem block (t : Fin cfg0.N) (y : S1024x4096.Idx) (r : Fin 16384) (k : Fin 4096)
    (hr : (r : ℕ) = t.val * 1024 + (y 0 : ℕ)) (hk : (k : ℕ) = (y 1 : ℕ)) : @Eq EReal (outsAt0 m c t y) (out m c r k) := by
  have key : outsAt0 m c t y = blk m c t y := by
    unfold outsAt0 out0_A_4
    refine View.read_writes_apply_of_pieces (Val := Elt Ideal) _ _ (blk m c t) _ ?_ y (cover0_A_4 c _ _ _ _ _ _ _ _ _ _ _ _ _ _ _ y)
    unfold kernelRun0_A
    dsimp only
    intro p hp x
    obtain ⟨j, rfl⟩ := pieces c _ _ _ _ _ _ _ _ _ _ _ _ _ _ _ _ _ _ p hp
    have hj := off j
    idx_vars x
    refine (pay1_at _ _ _ _ x0 x1).trans ?_
    have hq : k0_off1 j 0 = j.val * 8 := congrFun hj 0
    have hq1 : k0_off1 j 1 = 0 := congrFun hj 1
    have h8 : j.val * 8 + x0.val < 1024 := by
      have := j.isLt.trans_le k0_t1_abs.2.1
      omega
    have ht : t.val < 16 := t.isLt
    have r0 : ((Rect.unit (s := S1024x4096) (k0_off1 j) S8x4096.size (k0_off1_inb j)).emb (ix2 x0 x1) 0 : Fin 1024) = ⟨j.val * 8 + x0.val, h8⟩ :=
      Fin.ext ((Rect.idx_unit_val _ _ _ _ 0).trans (congrArg (· + x0.val) hq))
    have r1 : ((Rect.unit (s := S1024x4096) (k0_off1 j) S8x4096.size (k0_off1_inb j)).emb (ix2 x0 x1) 1 : Fin 4096) = x1 :=
      Fin.ext ((Rect.idx_unit_val _ _ _ _ 1).trans ((congrArg (· + x1.val) hq1).trans (Nat.zero_add _)))
    have hx : ∀ n : Fin 4096, @Eq EReal (View.readAt (Elt Ideal) (ms0_0 t).view (Rect.unit (s := S1024x4096) (k0_off1 j) S8x4096.size (k0_off1_inb j)).toLoadRect ((hs0_0 t).unread (iblk m c 0 t)) (ix2 x0 n))
        (m (c, Proc.tc.devRef main_arg0) (ix2 (row t ⟨j.val * 8 + x0.val, h8⟩) n)) := fun n => by
      rw [View.readAt_eq_ld, Memref.IsWhole.read_unread]
      refine (View.ld_unit_apply_of _ _ _ _ _ (ix2 (⟨j.val * 8 + x0.val, h8⟩ : Fin 1024) n) fun a => ?_).trans (blk0 m c t _ n _ rfl)
      fin_cases a
      · exact (congrArg (· + x0.val) hq).symm
      · exact ((congrArg (· + n.val) hq1).trans (Nat.zero_add _)).symm
    have hg : @Eq EReal (View.readAt (Elt Ideal) (ms0_1 t).view (Rect.unit (s := S1x4096) ![0, 0] S1x4096.size inb_S1x4096_S1x4096_0_0).toLoadRect ((hs0_1 t).unread (iblk m c 1 t)) (ix2 0 x1))
        (m (c, Proc.tc.devRef main_arg1) (ix1 x1)) := by
      rw [View.readAt_eq_ld, Memref.IsWhole.read_unread]
      refine (View.ld_unit_apply_of _ _ _ _ _ (ix2 (0 : Fin 1) x1) fun a => ?_).trans ((blk1 m c t x1).trans (entry_g m c x1))
      fin_cases a
      · rfl
      · exact (Nat.zero_add _).symm
    have hb : ((⟨(row t ⟨j.val * 8 + x0.val, h8⟩ : Fin 16384) / 4096, by omega⟩ : Fin 4) : ℕ) = t.val / 4 := by
      show (t.val * 1024 + (j.val * 8 + x0.val)) / 4096 = t.val / 4
      omega
    have hs : @Eq EReal (View.readAt (Elt Ideal) (ms0_2 t).view (Rect.unit (s := S1x1x4096) ![0, 0, 0] S1x1x4096.size inb_S1x1x4096_S1x1x4096_0_0_0).toLoadRect ((hs0_2 t).unread (iblk m c 2 t)) (ix3 0 0 x1))
        (m (c, Proc.tc.devRef main_arg2) (ix2 (⟨(row t ⟨j.val * 8 + x0.val, h8⟩ : Fin 16384) / 4096, by omega⟩ : Fin 4) (⟨12288 + (x1 : ℕ), by omega⟩ : Fin 36864))) := by
      rw [View.readAt_eq_ld, Memref.IsWhole.read_unread]
      exact (load_row _ x1).trans ((blk2 m c t x1 _ _ hb rfl).trans (entry_mod m c _ _))
    have hc : @Eq EReal (View.readAt (Elt Ideal) (ms0_3 t).view (Rect.unit (s := S1x1x4096) ![0, 0, 0] S1x1x4096.size inb_S1x1x4096_S1x1x4096_0_0_0).toLoadRect ((hs0_3 t).unread (iblk m c 3 t)) (ix3 0 0 x1))
        (m (c, Proc.tc.devRef main_arg2) (ix2 (⟨(row t ⟨j.val * 8 + x0.val, h8⟩ : Fin 16384) / 4096, by omega⟩ : Fin 4) (⟨16384 + (x1 : ℕ), by omega⟩ : Fin 36864))) := by
      rw [View.readAt_eq_ld, Memref.IsWhole.read_unread]
      exact (load_row _ x1).trans ((blk3 m c t x1 _ _ hb rfl).trans (entry_mod m c _ _))
    unfold blk
    refine Eq.trans ?_ (congrArg₂ (out m c) (congrArg (row t) r0) r1).symm
    refine congrArg₂ (fun a b : EReal => a + b) (Eq.trans ?_ (mul_assoc _ _ _).symm) hs
    exact congrArg₂ (· * ·) (congrArg₂ (· * ·) (hx x1) (congrArg (fun s : EReal => Ideal.rsqrt (Ideal.div s (Ideal.ofBits .f32 0x45800000#32) + Ideal.ofBits .f32 0x358637BD#32))
      (Finset.sum_congr rfl fun n _ => congrArg₂ (· * ·) (hx n) (hx n)))) (congrArg₂ (fun a b : EReal => a * (Ideal.ofBits .f32 0x3F800000#32 + b)) hg hc)
  rw [key]
  have e1 : row t (y 0) = r := Fin.ext hr.symm
  have e2 : (y 1 : Fin 4096) = k := Fin.ext hk.symm
  exact congrArg₂ (out m c) e1 e2

theorem final4 : (dats m 0 c).arrAt 4 cfg0.N = fun q => out m c (q 0) (q 1) := by
  refine (dats m 0 c).arrAt_eq_of_covers 4 _ (by decide +kernel) fun t hf y => ?_
  blk_simp
  rw [after0_4]
  have h0 : ((((cfg0.win 4).blk t).view.emb y 0 : Fin 16384) : ℕ) = win0_4.index t (0 : Fin 2) * 1024 + 1 * (y 0 : ℕ) := rfl
  have h1 : ((((cfg0.win 4).blk t).view.emb y 1 : Fin 4096) : ℕ) = win0_4.index t (1 : Fin 2) * 4096 + 1 * (y 1 : ℕ) := rfl
  rw [idx4] at h0 h1
  exact block m c t y _ _ (h0.trans (congrArg _ (Nat.one_mul _))) (h1.trans ((Nat.zero_add _).trans (Nat.one_mul _)))

end Cert.Kernel9Ideal.Norm

end
-- ==== Proof.NormR9.lean ====
/- The reference's norm before the input projection, at an entry, and that both programs give the same array. -/
module

public import proofs.«01_k».proof.Defs
public import proofs.«01_k».proof.Proof.Norm9
public import proofs.«01_k».proof.Proof.Gen.Reference9Ideal.Run

@[expose] public section

set_option maxRecDepth 16384

noncomputable section

namespace Cert.Reference9Ideal.Norm

open Idealize.ShloMosaic Idealize.ShloMosaic.TcCoe Idealize.SL.Sem
open Cert.Reference9Ideal Cert.Reference9Ideal.Gen

/-- The rows over their root mean squares, times the gain, at an entry. -/
theorem norm_at (X : FVec Ideal S16384x4096 .bf16) (g : FVec Ideal S4096 .f32) (r : Fin 16384) (k : Fin 4096) :
    @Eq EReal ((mulf (F := Ideal) (mulf (extf .f32 X bitsLt_bf16_f32) (broadcastInDim S16384x4096 ![0, 1] bcast_S16384x1_S16384x4096_0_1 (Host.rsqrt (addf (Host.divf (broadcastInDim S16384x1 ![0] bcast_S16384_S16384x1_0 (Host.reduceAdd (mulf (extf .f32 X bitsLt_bf16_f32) (extf .f32 X bitsLt_bf16_f32)) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 g))) (ix2 r k))
      (X (ix2 r k) * Ideal.rsqrt (Ideal.div (∑ n : Fin 4096, X (ix2 r n) * X (ix2 r n)) (Ideal.ofBits .f32 0x45800000#32) + Ideal.ofBits .f32 0x358637BD#32)
        * g (ix1 k)) := by
  pointwise

/-- The scale and the shift, at an entry, for any array in the norm's place. -/
theorem outer (H : FVec Ideal S4x4096x4096 .f32) (G : FVec Ideal S4x36864 .f32) (b : Fin 4) (s k : Fin 4096) :
    @Eq EReal ((addf (F := Ideal) (mulf H (broadcastInDim S4x4096x4096 ![0, 1, 2] bcast_S4x1x4096_S4x4096x4096_0_1_2 (addf (broadcastInDim S4x1x4096 ![] bcast_S_S4x1x4096 (constant S_ .f32 0x3F800000#32)) (broadcastInDim S4x1x4096 ![0, 2] bcast_S4x4096_S4x1x4096_0_2 (extractStridedSlice S4x4096 ![0, 16384] G slices_S4x36864_S4x4096_0_16384))))) (broadcastInDim S4x4096x4096 ![0, 1, 2] bcast_S4x1x4096_S4x4096x4096_0_1_2 (broadcastInDim S4x1x4096 ![0, 2] bcast_S4x4096_S4x1x4096_0_2 (extractStridedSlice S4x4096 ![0, 12288] G slices_S4x36864_S4x4096_0_12288)))) (ix3 b s k))
      (H (ix3 b s k) * (Ideal.ofBits .f32 0x3F800000#32 + G (ix2 b (⟨16384 + (k : ℕ), by omega⟩ : Fin 36864))) + G (ix2 b (⟨12288 + (k : ℕ), by omega⟩ : Fin 36864))) := by
  pointwise

/-- The reference's array at an entry. -/
theorem at_entry (X : FVec Ideal S16384x4096 .bf16) (g : FVec Ideal S4096 .f32) (G : FVec Ideal S4x36864 .f32) (r : Fin 16384) (k : Fin 4096) :
    @Eq EReal (shapeCast S16384x4096 (addf (F := Ideal) (mulf (shapeCast _ (mulf (F := Ideal) (mulf (extf .f32 X bitsLt_bf16_f32) (broadcastInDim S16384x4096 ![0, 1] bcast_S16384x1_S16384x4096_0_1 (Host.rsqrt (addf (Host.divf (broadcastInDim S16384x1 ![0] bcast_S16384_S16384x1_0 (Host.reduceAdd (mulf (extf .f32 X bitsLt_bf16_f32) (extf .f32 X bitsLt_bf16_f32)) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 g))) shapeCasts_S16384x4096_S4x4096x4096) (broadcastInDim S4x4096x4096 ![0, 1, 2] bcast_S4x1x4096_S4x4096x4096_0_1_2 (addf (broadcastInDim S4x1x4096 ![] bcast_S_S4x1x4096 (constant S_ .f32 0x3F800000#32)) (broadcastInDim S4x1x4096 ![0, 2] bcast_S4x4096_S4x1x4096_0_2 (extractStridedSlice S4x4096 ![0, 16384] G slices_S4x36864_S4x4096_0_16384))))) (broadcastInDim S4x4096x4096 ![0, 1, 2] bcast_S4x1x4096_S4x4096x4096_0_1_2 (broadcastInDim S4x1x4096 ![0, 2] bcast_S4x4096_S4x1x4096_0_2 (extractStridedSlice S4x4096 ![0, 12288] G slices_S4x36864_S4x4096_0_12288)))) shapeCasts_S4x4096x4096_S16384x4096 (ix2 r k))
      (Cert.Kernel9Ideal.Norm.val X g G r k) := by
  have e : (S4x4096x4096.rowMajor (ix3 (⟨(r : ℕ) / 4096, by omega⟩ : Fin 4) (⟨(r : ℕ) % 4096, by omega⟩ : Fin 4096) k)).val
      = (S16384x4096.rowMajor (ix2 r k)).val := by
    rw [rowMajor_val3 _ 16777216 4096 rfl rfl, rowMajor_val2 _ 4096 rfl]
    show (r : ℕ) / 4096 * 16777216 + (r : ℕ) % 4096 * 4096 + (k : ℕ) = (r : ℕ) * 4096 + (k : ℕ)
    omega
  refine (shapeCast_apply _ _ _ _ e).trans ((outer _ _ _ _ _).trans ?_)
  exact congrArg (fun h : EReal => h * _ + _) ((shapeCast_apply _ _ _ _ e.symm).trans (norm_at X g r k))

theorem frame : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic : Cert.algebraic_Kernel9Ideal_Reference9Ideal := by
  intro m g m' g' _ hagree
  refine ⟨fun c q => Cert.Kernel9Ideal.Norm.out m c (q 0) (q 1), ?_, ?_⟩
  · exact (θ_run Cert.Kernel9Ideal.defs _ _).mono (fun r h c => ⟨(h c).1.trans (Cert.Kernel9Ideal.Norm.final4 m c), (h c).2⟩)
      (Cert.Kernel9Ideal.Value.run_blocks (F := Ideal) m g)
  · refine (θ_run Cert.Reference9Ideal.defs _ _).mono (fun r h c => ⟨(h c).1.trans ?_, (h c).2⟩)
      (Cert.Reference9Ideal.Value.run (F := Ideal) m' g')
    obtain ⟨e0, e1, e2⟩ := hagree c
    rw [e0, e1, e2]
    funext q
    idx_vars q
    exact at_entry _ _ _ q0 q1

end Cert.Reference9Ideal.Norm

end
-- ==== Proof.Norm10.lean ====
/- The norm before the second feed-forward part, with its shift and scale, entry by entry. -/
module

public import proofs.«01_k».proof.Proof.Gen.Kernel10Ideal.Value
public import Idealize.ShloMosaic.Lib.Pipeline.ReadBack
public import Idealize.ShloMosaic.Lib.Pipeline.ValueKit
public import Idealize.ShloMosaic.Lib.StableHlo.ReadAt

@[expose] public section

set_option maxRecDepth 16384

noncomputable section

namespace Cert.Kernel10Ideal.Norm

open Idealize.ShloMosaic Idealize.ShloMosaic.TcCoe Idealize.SL.Sem
open Cert.Kernel10Ideal Cert.Kernel10Ideal.Gen

variable (m : (ℓ : Loc nD τ sig) → Buf (Elt Ideal) ℓ) (c : Dev nD)

theorem idx0 : ∀ t : Fin cfg0.N, win0_0.index t = ![t.val, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![t.val / 4, 0, 6] :=
  (by decide +kernel : ∀ t : Fin grid0.N, _)
theorem idx3 : ∀ t : Fin cfg0.N, win0_3.index t = ![t.val / 4, 0, 7] :=
  (by decide +kernel : ∀ t : Fin grid0.N, _)
theorem idx4 : ∀ t : Fin cfg0.N, win0_4.index t = ![t.val, 0] :=
  (by decide +kernel : ∀ t : Fin grid0.N, _)

/-- An entry over its row's root mean square, times the gain, times one plus its sequence's scale, plus the shift. -/
def val (X : Vec Ideal S16384x4096 .bf16) (g : Vec Ideal S4096 .f32) (G : Vec Ideal S4x36864 .f32) (r : Fin 16384) (k : Fin 4096) : EReal :=
  X (ix2 r k) * Ideal.rsqrt (Ideal.div (∑ n : Fin 4096, X (ix2 r n) * X (ix2 r n)) (Ideal.ofBits .f32 0x45800000#32) + Ideal.ofBits .f32 0x358637BD#32)
      * g (ix1 k) * (Ideal.ofBits .f32 0x3F800000#32 + G (ix2 (⟨(r : ℕ) / 4096, by omega⟩ : Fin 4) (⟨28672 + (k : ℕ), by omega⟩ : Fin 36864)))
    + G (ix2 (⟨(r : ℕ) / 4096, by omega⟩ : Fin 4) (⟨24576 + (k : ℕ), by omega⟩ : Fin 36864))

theorem blk0 (t : Fin cfg0.N) (i : Fin 1024) (n : Fin 4096) (r : Fin 16384) (hr : (r : ℕ) = t.val * 1024 + i) :
    @Eq EReal (iblk m c 0 t (ix2 i n)) (m (c, Proc.tc.devRef main_arg0) (ix2 r n)) := by
  have ht : t.val < 16 := t.isLt
  rw [show r = ⟨t.val * 1024 + i, by omega⟩ from Fin.ext hr]
  blk_point [iblk, V, idx0 t]

theorem blk1 (t : Fin cfg0.N) (k : Fin 4096) :
    @Eq EReal (iblk m c 1 t (ix2 0 k)) (V m c main_v1 (ix2 0 k)) := by
  blk_point [iblk, idx1 t]

theorem entry_g (k : Fin 4096) : @Eq EReal (V m c main_v1 (ix2 0 k)) (m (c, Proc.tc.devRef main_arg1) (ix1 k)) := by
  unfold V
  after_reads_at

theorem blk2 (t : Fin cfg0.N) (j : Fin 4096) (b : Fin 4) (k : Fin 36864) (hb : (b : ℕ) = t.val / 4) (hk : (k : ℕ) = 6 * 4096 + j) :
    @Eq EReal (iblk m c 2 t (ix3 0 0 j)) (V m c main_v0 (ix3 b 0 k)) := by
  have ht : t.val < 16 := t.isLt
  rw [show k = ⟨6 * 4096 + j, by omega⟩ from Fin.ext hk]
  rw [show b = ⟨t.val / 4, by omega⟩ from Fin.ext hb]
  blk_point [iblk, idx2 t]

theorem blk3 (t : Fin cfg0.N) (j : Fin 4096) (b : Fin 4) (k : Fin 36864) (hb : (b : ℕ) = t.val / 4) (hk : (k : ℕ) = 7 * 4096 + j) :
    @Eq EReal (iblk m c 3 t (ix3 0 0 j)) (V m c main_v0 (ix3 b 0 k)) := by
  have ht : t.val < 16 := t.isLt
  rw [show k = ⟨7 * 4096 + j, by omega⟩ from Fin.ext hk]
  rw [show b = ⟨t.val / 4, by omega⟩ from Fin.ext hb]
  blk_point [iblk, idx3 t]

theorem entry_mod (b : Fin 4) (k : Fin 36864) : @Eq EReal (V m c main_v0 (ix3 b 0 k))
    (m (c, Proc.tc.devRef main_arg2) (ix2 b k)) := by
  unfold V
  after_reads_at

theorem pay1_at (g : Vec Ideal S1x4096 .f32) (sc sh : Vec Ideal S1x1x4096 .f32) (X : Vec Ideal S8x4096 .bf16) (i : Fin 8) (k : Fin 4096) :
    @Eq EReal (k0_pay1 g sc sh X (ix2 i k))
      (X (ix2 i k) * Ideal.rsqrt (Ideal.div (∑ n : Fin 4096, X (ix2 i n) * X (ix2 i n)) (Ideal.ofBits .f32 0x45800000#32) + Ideal.ofBits .f32 0x358637BD#32)
        * (g (ix2 0 k) * (Ideal.ofBits .f32 0x3F800000#32 + sc (ix3 0 0 k))) + sh (ix3 0 0 k)) := by
  unfold k0_pay1
  pointwise

/-- The array's row of a block's row. -/
def row (t : Fin cfg0.N) (i : Fin 1024) : Fin 16384 :=
  ⟨t.val * 1024 + i, by have ht : t.val < 16 := t.isLt; omega⟩

/-- The array of the run. -/
abbrev out : Fin 16384 → Fin 4096 → EReal :=
  val (m (c, Proc.tc.devRef main_arg0)) (m (c, Proc.tc.devRef main_arg1)) (m (c, Proc.tc.devRef main_arg2))

/-- The array's rows of a block. -/
def blk (t : Fin cfg0.N) : Vec Ideal S1024x4096 .bf16 := fun y => out m c (row t (y 0)) (y 1)

/-- What one trip of the loop stores: its eight rows. -/
theorem trip (𝒱 : Variants) (bd : Option 𝒱.V) (i : grid0.Coords) (arg1 : Memref sig .tc .vmem S1024x4096 .bf16) (harg1 : arg1.IsWhole)
    (arg2 : Memref sig .tc .vmem S1x4096 .f32) (harg2 : arg2.IsWhole) (arg3 : Memref sig .tc .vmem S1x1x4096 .f32) (harg3 : arg3.IsWhole)
    (arg4 : Memref sig .tc .vmem S1x1x4096 .f32) (harg4 : arg4.IsWhole) (arg5 : Memref sig .tc .vmem S1024x4096 .bf16) (harg5 : arg5.IsWhole)
    (v0 : Vec Ideal S1x4096 .f32) (v2 v7 : Vec Ideal S1x1x4096 .f32) (X : BufTy.Contents (Elt Ideal) arg1.view.ty) (k : Fin k0_t1_loop.trips) :
    tripL_k0_t1 (F := Ideal) 𝒱 c bd i arg1 harg1 arg2 harg2 arg3 harg3 arg4 harg4 arg5 harg5 v0 v2 v7 X k
      = [⟨Rect.unit (s := S1024x4096) (k0_off1 k) S8x4096.size (k0_off1_inb k), k0_pay1 v0 v2 v7 (View.readAt (Elt Ideal) arg1.view (Rect.unit (s := S1024x4096) (k0_off1 k) S8x4096.size (k0_off1_inb k)).toLoadRect X)⟩] := by
  unfold tripL_k0_t1 trip_k0_t1
  rfl

theorem off (k : Fin k0_t1_loop.trips) : k0_off1 k = ![k.val * 8, 0] := by
  revert k
  decide +kernel

theorem pieces (𝒱 : Variants) (bd : Option 𝒱.V) (i : grid0.Coords) (arg1 : Memref sig .tc .vmem S1024x4096 .bf16) (harg1 : arg1.IsWhole)
    (arg2 : Memref sig .tc .vmem S1x4096 .f32) (harg2 : arg2.IsWhole) (arg3 : Memref sig .tc .vmem S1x1x4096 .f32) (harg3 : arg3.IsWhole)
    (arg4 : Memref sig .tc .vmem S1x1x4096 .f32) (harg4 : arg4.IsWhole) (arg5 : Memref sig .tc .vmem S1024x4096 .bf16) (harg5 : arg5.IsWhole)
    (v0 : Vec Ideal S1x4096 .f32) (v2 v7 : Vec Ideal S1x1x4096 .f32) (X : BufTy.Contents (Elt Ideal) arg1.view.ty) (n : ℕ) :
    ∀ p ∈ pb_k0_t1 (F := Ideal) 𝒱 c bd i arg1 harg1 arg2 harg2 arg3 harg3 arg4 harg4 arg5 harg5 v0 v2 v7 X n, ∃ k : Fin k0_t1_loop.trips,
      p = ⟨Rect.unit (s := S1024x4096) (k0_off1 k) S8x4096.size (k0_off1_inb k), k0_pay1 v0 v2 v7 (View.readAt (Elt Ideal) arg1.view (Rect.unit (s := S1024x4096) (k0_off1 k) S8x4096.size (k0_off1_inb k)).toLoadRect X)⟩ := by
  induction n with
  | zero => exact fun p hp => absurd hp List.not_mem_nil
  | succ n ih =>
    by_cases h : n < k0_t1_loop.trips
    · rw [pb_k0_t1_succ (F := Ideal) 𝒱 c bd i arg1 harg1 arg2 harg2 arg3 harg3 arg4 harg4 arg5 harg5 v0 v2 v7 X ⟨n, h⟩, trip]
      intro p hp
      rcases List.mem_append.mp hp with hp | hp
      · exact ⟨⟨n, h⟩, List.mem_singleton.mp hp⟩
      · exact ih p hp
    · rw [pb_k0_t1.eq_2]
      unfold pb_k0_t1Step
      rw [dif_neg h]
      exact ih

/-- A row of the modulation, loaded whole, is the row itself. -/
theorem load_row (X : Vec Ideal S1x1x4096 .f32) (k : Fin 4096) :
    @Eq EReal (View.ld X (Rect.unit (s := S1x1x4096) ![0, 0, 0] S1x1x4096.size inb_S1x1x4096_S1x1x4096_0_0_0) (ix3 0 0 k)) (X (ix3 0 0 k)) :=
  View.ld_unit_apply_of _ _ _ _ _ _ fun a => by fin_cases a <;> simp

theorem block (t : Fin cfg0.N) (y : S1024x4096.Idx) (r : Fin 16384) (k : Fin 4096)
    (hr : (r : ℕ) = t.val * 1024 + (y 0 : ℕ)) (hk : (k : ℕ) = (y 1 : ℕ)) : @Eq EReal (outsAt0 m c t y) (out m c r k) := by
  have key : outsAt0 m c t y = blk m c t y := by
    unfold outsAt0 out0_A_4
    refine View.read_writes_apply_of_pieces (Val := Elt Ideal) _ _ (blk m c t) _ ?_ y (cover0_A_4 c _ _ _ _ _ _ _ _ _ _ _ _ _ _ _ y)
    unfold kernelRun0_A
    dsimp only
    intro p hp x
    obtain ⟨j, rfl⟩ := pieces c _ _ _ _ _ _ _ _ _ _ _ _ _ _ _ _ _ _ p hp
    have hj := off j
    idx_vars x
    refine (pay1_at _ _ _ _ x0 x1).trans ?_
    have hq : k0_off1 j 0 = j.val * 8 := congrFun hj 0
    have hq1 : k0_off1 j 1 = 0 := congrFun hj 1
    have h8 : j.val * 8 + x0.val < 1024 := by
      have := j.isLt.trans_le k0_t1_abs.2.1
      omega
    have ht : t.val < 16 := t.isLt
    have r0 : ((Rect.unit (s := S1024x4096) (k0_off1 j) S8x4096.size (k0_off1_inb j)).emb (ix2 x0 x1) 0 : Fin 1024) = ⟨j.val * 8 + x0.val, h8⟩ :=
      Fin.ext ((Rect.idx_unit_val _ _ _ _ 0).trans (congrArg (· + x0.val) hq))
    have r1 : ((Rect.unit (s := S1024x4096) (k0_off1 j) S8x4096.size (k0_off1_inb j)).emb (ix2 x0 x1) 1 : Fin 4096) = x1 :=
      Fin.ext ((Rect.idx_unit_val _ _ _ _ 1).trans ((congrArg (· + x1.val) hq1).trans (Nat.zero_add _)))
    have hx : ∀ n : Fin 4096, @Eq EReal (View.readAt (Elt Ideal) (ms0_0 t).view (Rect.unit (s := S1024x4096) (k0_off1 j) S8x4096.size (k0_off1_inb j)).toLoadRect ((hs0_0 t).unread (iblk m c 0 t)) (ix2 x0 n))
        (m (c, Proc.tc.devRef main_arg0) (ix2 (row t ⟨j.val * 8 + x0.val, h8⟩) n)) := fun n => by
      rw [View.readAt_eq_ld, Memref.IsWhole.read_unread]
      refine (View.ld_unit_apply_of _ _ _ _ _ (ix2 (⟨j.val * 8 + x0.val, h8⟩ : Fin 1024) n) fun a => ?_).trans (blk0 m c t _ n _ rfl)
      fin_cases a
      · exact (congrArg (· + x0.val) hq).symm
      · exact ((congrArg (· + n.val) hq1).trans (Nat.zero_add _)).symm
    have hg : @Eq EReal (View.readAt (Elt Ideal) (ms0_1 t).view (Rect.unit (s := S1x4096) ![0, 0] S1x4096.size inb_S1x4096_S1x4096_0_0).toLoadRect ((hs0_1 t).unread (iblk m c 1 t)) (ix2 0 x1))
        (m (c, Proc.tc.devRef main_arg1) (ix1 x1)) := by
      rw [View.readAt_eq_ld, Memref.IsWhole.read_unread]
      refine (View.ld_unit_apply_of _ _ _ _ _ (ix2 (0 : Fin 1) x1) fun a => ?_).trans ((blk1 m c t x1).trans (entry_g m c x1))
      fin_cases a
      · rfl
      · exact (Nat.zero_add _).symm
    have hb : ((⟨(row t ⟨j.val * 8 + x0.val, h8⟩ : Fin 16384) / 4096, by omega⟩ : Fin 4) : ℕ) = t.val / 4 := by
      show (t.val * 1024 + (j.val * 8 + x0.val)) / 4096 = t.val / 4
      omega
    have hs : @Eq EReal (View.readAt (Elt Ideal) (ms0_2 t).view (Rect.unit (s := S1x1x4096) ![0, 0, 0] S1x1x4096.size inb_S1x1x4096_S1x1x4096_0_0_0).toLoadRect ((hs0_2 t).unread (iblk m c 2 t)) (ix3 0 0 x1))
        (m (c, Proc.tc.devRef main_arg2) (ix2 (⟨(row t ⟨j.val * 8 + x0.val, h8⟩ : Fin 16384) / 4096, by omega⟩ : Fin 4) (⟨24576 + (x1 : ℕ), by omega⟩ : Fin 36864))) := by
      rw [View.readAt_eq_ld, Memref.IsWhole.read_unread]
      exact (load_row _ x1).trans ((blk2 m c t x1 _ _ hb rfl).trans (entry_mod m c _ _))
    have hc : @Eq EReal (View.readAt (Elt Ideal) (ms0_3 t).view (Rect.unit (s := S1x1x4096) ![0, 0, 0] S1x1x4096.size inb_S1x1x4096_S1x1x4096_0_0_0).toLoadRect ((hs0_3 t).unread (iblk m c 3 t)) (ix3 0 0 x1))
        (m (c, Proc.tc.devRef main_arg2) (ix2 (⟨(row t ⟨j.val * 8 + x0.val, h8⟩ : Fin 16384) / 4096, by omega⟩ : Fin 4) (⟨28672 + (x1 : ℕ), by omega⟩ : Fin 36864))) := by
      rw [View.readAt_eq_ld, Memref.IsWhole.read_unread]
      exact (load_row _ x1).trans ((blk3 m c t x1 _ _ hb rfl).trans (entry_mod m c _ _))
    unfold blk
    refine Eq.trans ?_ (congrArg₂ (out m c) (congrArg (row t) r0) r1).symm
    refine congrArg₂ (fun a b : EReal => a + b) (Eq.trans ?_ (mul_assoc _ _ _).symm) hs
    exact congrArg₂ (· * ·) (congrArg₂ (· * ·) (hx x1) (congrArg (fun s : EReal => Ideal.rsqrt (Ideal.div s (Ideal.ofBits .f32 0x45800000#32) + Ideal.ofBits .f32 0x358637BD#32))
      (Finset.sum_congr rfl fun n _ => congrArg₂ (· * ·) (hx n) (hx n)))) (congrArg₂ (fun a b : EReal => a * (Ideal.ofBits .f32 0x3F800000#32 + b)) hg hc)
  rw [key]
  have e1 : row t (y 0) = r := Fin.ext hr.symm
  have e2 : (y 1 : Fin 4096) = k := Fin.ext hk.symm
  exact congrArg₂ (out m c) e1 e2

theorem final4 : (dats m 0 c).arrAt 4 cfg0.N = fun q => out m c (q 0) (q 1) := by
  refine (dats m 0 c).arrAt_eq_of_covers 4 _ (by decide +kernel) fun t hf y => ?_
  blk_simp
  rw [after0_4]
  have h0 : ((((cfg0.win 4).blk t).view.emb y 0 : Fin 16384) : ℕ) = win0_4.index t (0 : Fin 2) * 1024 + 1 * (y 0 : ℕ) := rfl
  have h1 : ((((cfg0.win 4).blk t).view.emb y 1 : Fin 4096) : ℕ) = win0_4.index t (1 : Fin 2) * 4096 + 1 * (y 1 : ℕ) := rfl
  rw [idx4] at h0 h1
  exact block m c t y _ _ (h0.trans (congrArg _ (Nat.one_mul _))) (h1.trans ((Nat.zero_add _).trans (Nat.one_mul _)))

end Cert.Kernel10Ideal.Norm

end
-- ==== Proof.NormR10.lean ====
/- The reference's norm before the second feed-forward part, at an entry, and that both programs give the same array. -/
module

public import proofs.«01_k».proof.Defs
public import proofs.«01_k».proof.Proof.Norm10
public import proofs.«01_k».proof.Proof.Gen.Reference10Ideal.Run

@[expose] public section

set_option maxRecDepth 16384

noncomputable section

namespace Cert.Reference10Ideal.Norm

open Idealize.ShloMosaic Idealize.ShloMosaic.TcCoe Idealize.SL.Sem
open Cert.Reference10Ideal Cert.Reference10Ideal.Gen

/-- The rows over their root mean squares, times the gain, at an entry. -/
theorem norm_at (X : FVec Ideal S16384x4096 .bf16) (g : FVec Ideal S4096 .f32) (r : Fin 16384) (k : Fin 4096) :
    @Eq EReal ((mulf (F := Ideal) (mulf (extf .f32 X bitsLt_bf16_f32) (broadcastInDim S16384x4096 ![0, 1] bcast_S16384x1_S16384x4096_0_1 (Host.rsqrt (addf (Host.divf (broadcastInDim S16384x1 ![0] bcast_S16384_S16384x1_0 (Host.reduceAdd (mulf (extf .f32 X bitsLt_bf16_f32) (extf .f32 X bitsLt_bf16_f32)) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 g))) (ix2 r k))
      (X (ix2 r k) * Ideal.rsqrt (Ideal.div (∑ n : Fin 4096, X (ix2 r n) * X (ix2 r n)) (Ideal.ofBits .f32 0x45800000#32) + Ideal.ofBits .f32 0x358637BD#32)
        * g (ix1 k)) := by
  pointwise

/-- The scale and the shift, at an entry, for any array in the norm's place. -/
theorem outer (H : FVec Ideal S4x4096x4096 .f32) (G : FVec Ideal S4x36864 .f32) (b : Fin 4) (s k : Fin 4096) :
    @Eq EReal ((addf (F := Ideal) (mulf H (broadcastInDim S4x4096x4096 ![0, 1, 2] bcast_S4x1x4096_S4x4096x4096_0_1_2 (addf (broadcastInDim S4x1x4096 ![] bcast_S_S4x1x4096 (constant S_ .f32 0x3F800000#32)) (broadcastInDim S4x1x4096 ![0, 2] bcast_S4x4096_S4x1x4096_0_2 (extractStridedSlice S4x4096 ![0, 28672] G slices_S4x36864_S4x4096_0_28672))))) (broadcastInDim S4x4096x4096 ![0, 1, 2] bcast_S4x1x4096_S4x4096x4096_0_1_2 (broadcastInDim S4x1x4096 ![0, 2] bcast_S4x4096_S4x1x4096_0_2 (extractStridedSlice S4x4096 ![0, 24576] G slices_S4x36864_S4x4096_0_24576)))) (ix3 b s k))
      (H (ix3 b s k) * (Ideal.ofBits .f32 0x3F800000#32 + G (ix2 b (⟨28672 + (k : ℕ), by omega⟩ : Fin 36864))) + G (ix2 b (⟨24576 + (k : ℕ), by omega⟩ : Fin 36864))) := by
  pointwise

/-- The reference's array at an entry. -/
theorem at_entry (X : FVec Ideal S16384x4096 .bf16) (g : FVec Ideal S4096 .f32) (G : FVec Ideal S4x36864 .f32) (r : Fin 16384) (k : Fin 4096) :
    @Eq EReal (shapeCast S16384x4096 (addf (F := Ideal) (mulf (shapeCast _ (mulf (F := Ideal) (mulf (extf .f32 X bitsLt_bf16_f32) (broadcastInDim S16384x4096 ![0, 1] bcast_S16384x1_S16384x4096_0_1 (Host.rsqrt (addf (Host.divf (broadcastInDim S16384x1 ![0] bcast_S16384_S16384x1_0 (Host.reduceAdd (mulf (extf .f32 X bitsLt_bf16_f32) (extf .f32 X bitsLt_bf16_f32)) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 g))) shapeCasts_S16384x4096_S4x4096x4096) (broadcastInDim S4x4096x4096 ![0, 1, 2] bcast_S4x1x4096_S4x4096x4096_0_1_2 (addf (broadcastInDim S4x1x4096 ![] bcast_S_S4x1x4096 (constant S_ .f32 0x3F800000#32)) (broadcastInDim S4x1x4096 ![0, 2] bcast_S4x4096_S4x1x4096_0_2 (extractStridedSlice S4x4096 ![0, 28672] G slices_S4x36864_S4x4096_0_28672))))) (broadcastInDim S4x4096x4096 ![0, 1, 2] bcast_S4x1x4096_S4x4096x4096_0_1_2 (broadcastInDim S4x1x4096 ![0, 2] bcast_S4x4096_S4x1x4096_0_2 (extractStridedSlice S4x4096 ![0, 24576] G slices_S4x36864_S4x4096_0_24576)))) shapeCasts_S4x4096x4096_S16384x4096 (ix2 r k))
      (Cert.Kernel10Ideal.Norm.val X g G r k) := by
  have e : (S4x4096x4096.rowMajor (ix3 (⟨(r : ℕ) / 4096, by omega⟩ : Fin 4) (⟨(r : ℕ) % 4096, by omega⟩ : Fin 4096) k)).val
      = (S16384x4096.rowMajor (ix2 r k)).val := by
    rw [rowMajor_val3 _ 16777216 4096 rfl rfl, rowMajor_val2 _ 4096 rfl]
    show (r : ℕ) / 4096 * 16777216 + (r : ℕ) % 4096 * 4096 + (k : ℕ) = (r : ℕ) * 4096 + (k : ℕ)
    omega
  refine (shapeCast_apply _ _ _ _ e).trans ((outer _ _ _ _ _).trans ?_)
  exact congrArg (fun h : EReal => h * _ + _) ((shapeCast_apply _ _ _ _ e.symm).trans (norm_at X g r k))

theorem frame : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic : Cert.algebraic_Kernel10Ideal_Reference10Ideal := by
  intro m g m' g' _ hagree
  refine ⟨fun c q => Cert.Kernel10Ideal.Norm.out m c (q 0) (q 1), ?_, ?_⟩
  · exact (θ_run Cert.Kernel10Ideal.defs _ _).mono (fun r h c => ⟨(h c).1.trans (Cert.Kernel10Ideal.Norm.final4 m c), (h c).2⟩)
      (Cert.Kernel10Ideal.Value.run_blocks (F := Ideal) m g)
  · refine (θ_run Cert.Reference10Ideal.defs _ _).mono (fun r h c => ⟨(h c).1.trans ?_, (h c).2⟩)
      (Cert.Reference10Ideal.Value.run (F := Ideal) m' g')
    obtain ⟨e0, e1, e2⟩ := hagree c
    rw [e0, e1, e2]
    funext q
    idx_vars q
    exact at_entry _ _ _ q0 q1

end Cert.Reference10Ideal.Norm

end
-- ==== Proof.Ada.lean ====
/- The modulation of the parts, and the cosines and sines of the positions' angles, entry by entry. -/
module

public import proofs.«01_k».proof.Proof.Silu
public import proofs.«01_k».proof.Proof.Gen.Kernel11Ideal.Frame
public import Idealize.ShloMosaic.Lib.Pipeline.ValueKit
public import Idealize.ShloMosaic.Lib.StableHlo.ReadAt
public import Idealize.ShloMosaic.Lib.Routing.OpsOne

@[expose] public section

set_option maxRecDepth 16384

noncomputable section

namespace Cert.Kernel11Ideal.Ada

open Idealize.ShloMosaic Idealize.ShloMosaic.TcCoe Idealize.SL.Sem
open Cert.Kernel11Ideal Cert.Kernel11Ideal.Gen

variable (m : (ℓ : Loc nD τ sig) → Buf (Elt Ideal) ℓ) (c : Dev nD)

theorem idx0 : ∀ t : Fin cfg0.N, win0_0.index t = ![0, 0] :=
  (by decide +kernel : ∀ t : Fin grid0.N, _)
theorem idx1 : ∀ t : Fin cfg0.N, win0_1.index t = ![0, t.val] :=
  (by decide +kernel : ∀ t : Fin grid0.N, _)
theorem idx2 : ∀ t : Fin cfg0.N, win0_2.index t = ![0, t.val] :=
  (by decide +kernel : ∀ t : Fin grid0.N, _)
theorem idx3 : ∀ t : Fin cfg0.N, win0_3.index t = ![min t.val 63, 0] :=
  (by decide +kernel : ∀ t : Fin grid0.N, _)
theorem idx4 : ∀ t : Fin cfg0.N, win0_4.index t = ![0, 0] :=
  (by decide +kernel : ∀ t : Fin grid0.N, _)
theorem idx5 : ∀ t : Fin cfg0.N, win0_5.index t = ![0, t.val] :=
  (by decide +kernel : ∀ t : Fin grid0.N, _)
theorem idx6 : ∀ t : Fin cfg0.N, win0_6.index t = ![min t.val 63, 0] :=
  (by decide +kernel : ∀ t : Fin grid0.N, _)
theorem idx7 : ∀ t : Fin cfg0.N, win0_7.index t = ![min t.val 63, 0] :=
  (by decide +kernel : ∀ t : Fin grid0.N, _)

/-- The modulation that a row of the conditioning gives, at a column. -/
def val (C : Fin 4096 → EReal) (W : Vec Ideal S4096x36864 .f32) (b : Vec Ideal S36864 .f32) (k : Fin 36864) : EReal :=
  (∑ n : Fin 4096, Silu.gate (C n) (W (ix2 n k))) + b (ix1 k)

/-- The angles' frequencies: powers of the base. -/
def freq : Vec Ideal S128 .f32 :=
  Host.powf (F := Ideal) (broadcastInDim S128 ![] bcast_S_S128 (constant S_ .f32 0x461C4000#32))
    (Host.divf (Host.negf (sitofp .f32 (iotaInDim S128 32 0))) (broadcastInDim S128 ![] bcast_S_S128 (constant S_ .f32 0x43000000#32)))

/-- The angle of a token's position at a frequency. -/
def angle (P : Vec Ideal S4x4096 .i32) (r : Fin 16384) (k : Fin 128) : EReal :=
  FloatOps.sitofp (F := Ideal) .f32 (P (ix2 (⟨(r : ℕ) / 4096, by omega⟩ : Fin 4) (⟨(r : ℕ) % 4096, by omega⟩ : Fin 4096))) * freq (ix1 k)

theorem whole0 (X : Vec Ideal S8x4096 .f32) (t : Fin cfg0.N) (i : Fin 8) (n : Fin 4096) :
    @Eq EReal (((cfg0.win 0).blk t).view.read (Elt Ideal) X (ix2 i n)) (X (ix2 i n)) := by
  blk_point [idx0 t]

theorem blk0 (t : Fin cfg0.N) (i : Fin 8) (n : Fin 4096) :
    @Eq EReal (iblk m c 0 t (ix2 i n)) (V m c main_v2 (ix2 i n)) := whole0 (V m c main_v2) t i n

theorem blk1 (t : Fin cfg0.N) (n : Fin 4096) (j : Fin 512) (k : Fin 36864) (hk : (k : ℕ) = t.val * 512 + j) :
    @Eq EReal (iblk m c 1 t (ix2 n j)) (m (c, Proc.tc.devRef main_arg2) (ix2 n k)) := by
  have ht : t.val < 72 := t.isLt
  rw [show k = ⟨t.val * 512 + j, by omega⟩ from Fin.ext hk]
  blk_point [iblk, V, idx1 t]

theorem blk2 (t : Fin cfg0.N) (j : Fin 512) (k : Fin 36864) (hk : (k : ℕ) = t.val * 512 + j) :
    @Eq EReal (iblk m c 2 t (ix2 0 j)) (V m c main_v10 (ix2 0 k)) := by
  have ht : t.val < 72 := t.isLt
  rw [show k = ⟨t.val * 512 + j, by omega⟩ from Fin.ext hk]
  blk_point [iblk, idx2 t]

theorem entry_b (k : Fin 36864) : @Eq EReal (V m c main_v10 (ix2 0 k)) (m (c, Proc.tc.devRef main_arg3) (ix1 k)) := by
  unfold V
  after_reads_at

theorem blk3 (t : Fin cfg0.N) (i : Fin 256) (r : Fin 16384) (hr : (r : ℕ) = min t.val 63 * 256 + i) :
    @Eq (BitVec 32) (iblk m c 3 t (ix2 i 0)) (V m c main_v9 (ix2 r 0)) := by
  rw [show r = ⟨min t.val 63 * 256 + i, by omega⟩ from Fin.ext hr]
  blk_point [iblk, idx3 t]

theorem entry_p (r : Fin 16384) : @Eq (BitVec 32) (V m c main_v9 (ix2 r 0))
    (m (c, Proc.tc.devRef main_arg1) (ix2 (⟨(r : ℕ) / 4096, by omega⟩ : Fin 4) (⟨(r : ℕ) % 4096, by omega⟩ : Fin 4096))) := by
  unfold V
  after_reads_at

theorem blk4 (t : Fin cfg0.N) (k : Fin 128) :
    @Eq EReal (iblk m c 4 t (ix2 0 k)) (V m c main_v11 (ix2 0 k)) := by
  blk_point [iblk, idx4 t]

theorem entry_f (k : Fin 128) : @Eq EReal (V m c main_v11 (ix2 0 k)) (freq (ix1 k)) := by
  unfold V freq
  after_reads_at

theorem pay1_at (C : Vec Ideal S8x4096 .f32) (W : Vec Ideal S4096x512 .f32) (b : Vec Ideal S1x512 .f32) (i : Fin 8) (j : Fin 512) :
    @Eq EReal (k0_pay1 C W b (ix2 i j)) ((∑ n : Fin 4096, Silu.gate (C (ix2 i n)) (W (ix2 n j))) + b (ix2 0 j)) := by
  unfold k0_pay1 Silu.gate
  pointwise

theorem pay3_at (P : Vec Ideal S256x1 .i32) (f : Vec Ideal S1x128 .f32) (i : Fin 256) (k : Fin 128) :
    @Eq EReal (k0_pay3 P f (ix2 i k)) (Ideal.cos (FloatOps.sitofp (F := Ideal) .f32 (P (ix2 i 0)) * f (ix2 0 k))) := by
  unfold k0_pay3 k0_pay2
  pointwise

theorem pay4_at (P : Vec Ideal S256x1 .i32) (f : Vec Ideal S1x128 .f32) (i : Fin 256) (k : Fin 128) :
    @Eq EReal (k0_pay4 P f (ix2 i k)) (Ideal.sin (FloatOps.sitofp (F := Ideal) .f32 (P (ix2 i 0)) * f (ix2 0 k))) := by
  unfold k0_pay4 k0_pay2
  pointwise

theorem lands (i : IVec S1 32) (h : (i (ix1 0)).toInt = 0) (a : Fin 4) (b e : Fin 4096) (r : Fin 8) :
    scatter_S8x4096_S1_S4x4096_01_n_0_0.resultIdx? (ix2 a b) i = some (ix2 r e) ↔ (a : ℕ) = r ∧ b = e := by
  have s0 : scatter_S8x4096_S1_S4x4096_01_n_0_0.start (ix2 a b) i 0 = 0 := by
    unfold ScatterDims.start
    rw [dif_pos (by exact List.mem_singleton.2 rfl)]
    refine (congrArg (fun x => (i x).toInt) (funext fun x => ?_)).trans h
    match x with
    | ⟨0, _⟩ => exact Subsingleton.elim (α := Fin 1) _ _
  have s1 : scatter_S8x4096_S1_S4x4096_01_n_0_0.start (ix2 a b) i 1 = 0 := rfl
  have w0 : scatter_S8x4096_S1_S4x4096_01_n_0_0.window (ix2 a b) 0 = a := rfl
  have w1 : scatter_S8x4096_S1_S4x4096_01_n_0_0.window (ix2 a b) 1 = b := rfl
  refine (Routing.resultIdx?_ix2 _ _ i r e).trans ?_
  rw [s0, s1, w0, w1, Fin.ext_iff]
  omega

/-- Setting the first four rows leaves there what was set. -/
theorem set_at (x : Vec Ideal S8x4096 .f32) (i : IVec S1 32) (h : (i (ix1 0)).toInt = 0) (u : Vec Ideal S4x4096 .f32) (r : Fin 4) (k : Fin 4096) :
    @Eq EReal (Host.scatter scatter_S8x4096_S1_S4x4096_01_n_0_0 (fun _ b => b) x i u (ix2 (⟨r, by omega⟩ : Fin 8) k)) (u (ix2 r k)) := by
  refine Routing.scatter_set_hit _ x i u _ _ (fun j hj => ?_) (ix2 r k) ((lands i h r k k ⟨r, by omega⟩).2 ⟨rfl, rfl⟩)
  idx_vars j
  obtain ⟨e, rfl⟩ := (lands i h j0 j1 k ⟨r, by omega⟩).1 hj
  obtain rfl : j0 = r := Fin.ext e
  rfl

theorem entry_c (r : Fin 4) (n : Fin 4096) :
    @Eq EReal (V m c main_v2 (ix2 (⟨r, by omega⟩ : Fin 8) n)) (m (c, Proc.tc.devRef main_arg0) (ix2 r n)) := by
  unfold V
  after_reads_at
  exact set_at _ _ rfl _ r n

/-- The modulation that the steps write, a row for each row of the array they read. -/
abbrev out : Fin 8 → Fin 36864 → EReal := fun r =>
  val (fun n => V m c main_v2 (ix2 r n)) (m (c, Proc.tc.devRef main_arg2)) (m (c, Proc.tc.devRef main_arg3))

/-- The modulation of the run: that of the four sequences. -/
abbrev mod : Fin 4 → Fin 36864 → EReal := fun r =>
  val (fun n => m (c, Proc.tc.devRef main_arg0) (ix2 r n)) (m (c, Proc.tc.devRef main_arg2)) (m (c, Proc.tc.devRef main_arg3))

theorem final5 : (dats m 0 c).arrAt 5 cfg0.N = fun q => out m c (q 0) (q 1) := by
  refine (dats m 0 c).arrAt_eq_of_covers 5 _ (by decide +kernel) fun t hf y => ?_
  blk_simp
  rw [after0_5]
  frame_out
  idx_vars y
  have h0 : ((((cfg0.win 5).blk t).view.emb (ix2 y0 y1) 0 : Fin 8) : ℕ) = win0_5.index t (0 : Fin 2) * 8 + 1 * (y0 : ℕ) := rfl
  have h1 : ((((cfg0.win 5).blk t).view.emb (ix2 y0 y1) 1 : Fin 36864) : ℕ) = win0_5.index t (1 : Fin 2) * 512 + 1 * (y1 : ℕ) := rfl
  rw [idx5] at h0 h1
  have e0 : (((cfg0.win 5).blk t).view.emb (ix2 y0 y1) 0 : Fin 8) = y0 := Fin.ext (h0.trans ((Nat.zero_add _).trans (Nat.one_mul _)))
  have e1 := h1.trans (congrArg _ (Nat.one_mul _))
  refine (pay1_at _ _ _ y0 y1).trans ?_
  rw [e0]
  exact congrArg₂ (· + ·) (Finset.sum_congr rfl fun n _ => congrArg₂ Silu.gate (blk0 m c t y0 n) (blk1 m c t n y1 _ e1))
    ((blk2 m c t y1 _ e1).trans (entry_b m c _))

/-- The angle that a step takes at a row of its block and a frequency. -/
theorem angle_at (t : Fin cfg0.N) (i : Fin 256) (k k' : Fin 128) (r : Fin 16384) (hr : (r : ℕ) = min t.val 63 * 256 + i) (hk : (k' : ℕ) = k) :
    @Eq EReal (FloatOps.sitofp (F := Ideal) .f32 (iblk m c 3 t (ix2 i 0)) * iblk m c 4 t (ix2 0 k)) (angle (m (c, Proc.tc.devRef main_arg1)) r k') := by
  obtain rfl : k' = k := Fin.ext hk
  exact congrArg₂ (fun (p : BitVec 32) (f : EReal) => FloatOps.sitofp (F := Ideal) .f32 p * f)
    ((blk3 m c t i r hr).trans (entry_p m c r)) ((blk4 m c t k').trans (entry_f m c k'))

theorem final6 : (dats m 0 c).arrAt 6 cfg0.N = fun q => Ideal.cos (angle (m (c, Proc.tc.devRef main_arg1)) (q 0) (q 1)) := by
  refine (dats m 0 c).arrAt_eq_of_covers 6 _ (by decide +kernel) fun t hf y => ?_
  blk_simp
  rw [after0_6]
  frame_out
  idx_vars y
  have h0 : ((((cfg0.win 6).blk t).view.emb (ix2 y0 y1) 0 : Fin 16384) : ℕ) = win0_6.index t (0 : Fin 2) * 256 + 1 * (y0 : ℕ) := rfl
  have h1 : ((((cfg0.win 6).blk t).view.emb (ix2 y0 y1) 1 : Fin 128) : ℕ) = win0_6.index t (1 : Fin 2) * 128 + 1 * (y1 : ℕ) := rfl
  rw [idx6] at h0 h1
  exact (pay3_at _ _ y0 y1).trans (congrArg Ideal.cos (angle_at m c t y0 y1 _ _ (h0.trans (congrArg _ (Nat.one_mul _))) (h1.trans ((Nat.zero_add _).trans (Nat.one_mul _)))))

theorem final7 : (dats m 0 c).arrAt 7 cfg0.N = fun q => Ideal.sin (angle (m (c, Proc.tc.devRef main_arg1)) (q 0) (q 1)) := by
  refine (dats m 0 c).arrAt_eq_of_covers 7 _ (by decide +kernel) fun t hf y => ?_
  blk_simp
  rw [after0_7]
  frame_out
  idx_vars y
  have h0 : ((((cfg0.win 7).blk t).view.emb (ix2 y0 y1) 0 : Fin 16384) : ℕ) = win0_7.index t (0 : Fin 2) * 256 + 1 * (y0 : ℕ) := rfl
  have h1 : ((((cfg0.win 7).blk t).view.emb (ix2 y0 y1) 1 : Fin 128) : ℕ) = win0_7.index t (1 : Fin 2) * 128 + 1 * (y1 : ℕ) := rfl
  rw [idx7] at h0 h1
  exact (pay4_at _ _ y0 y1).trans (congrArg Ideal.sin (angle_at m c t y0 y1 _ _ (h0.trans (congrArg _ (Nat.one_mul _))) (h1.trans ((Nat.zero_add _).trans (Nat.one_mul _)))))

/-- The first four rows are what is returned. -/
theorem rows : Pipeline.afterTail₀ cfgs (dats m) 0 (V0 m) [hostOps1] c main_v13 = fun q => mod m c (q 0) (q 1) := by
  funext q
  idx_vars q
  have e : Pipeline.afterTail₀ cfgs (dats m) 0 (V0 m) [hostOps1] c main_v13
      = extractStridedSlice S4x36864 ![0, 0] ((dats m 0 c).arrAt 5 cfg0.N) slices_S8x36864_S4x36864_0_0 := by
    unfold Pipeline.afterTail₀
    simp only [List.flatten_cons, List.flatten_nil, List.append_nil, StableHlo.after_cons, StableHlo.after_nil, StableHlo.unary_result']
    exact congrArg (fun x => extractStridedSlice S4x36864 ![0, 0] x slices_S8x36864_S4x36864_0_0)
      (Pipeline.withArrays_arr spec0 (by decide) c (V0 m c) (fun w => (dats m 0 c).arrAt w cfg0.N) 5)
  rw [e, final5]
  have e' : ∀ X : Vec Ideal S8x36864 .f32, @Eq EReal (extractStridedSlice S4x36864 ![0, 0] X slices_S8x36864_S4x36864_0_0 (ix2 q0 q1)) (X (ix2 (⟨q0, by omega⟩ : Fin 8) q1)) := fun X => by
    pointwise
  refine (e' _).trans ?_
  exact congrArg (fun C => val C (m (c, Proc.tc.devRef main_arg2)) (m (c, Proc.tc.devRef main_arg3)) q1) (funext fun n => entry_c m c q0 n)

/-- The run leaves the three arrays as the steps wrote them, and the arguments as they were. -/
theorem run (g : Dev nD → PrngReg) : θ_run defs (onTc (τ := τ) (main (F := Ideal))) ⟨m, fun _ => 0, g⟩ fun r => ∀ c : Dev nD,
    r.2.mem (c, Proc.tc.devRef main_v13) = (fun q => mod m c (q 0) (q 1))
    ∧ r.2.mem (c, Proc.tc.devRef main_v12_1) = (fun q => Ideal.cos (angle (m (c, Proc.tc.devRef main_arg1)) (q 0) (q 1)))
    ∧ r.2.mem (c, Proc.tc.devRef main_v12_2) = (fun q => Ideal.sin (angle (m (c, Proc.tc.devRef main_arg1)) (q 0) (q 1)))
    ∧ r.2.mem (c, Proc.tc.devRef main_arg0) = m (c, Proc.tc.devRef main_arg0)
    ∧ r.2.mem (c, Proc.tc.devRef main_arg1) = m (c, Proc.tc.devRef main_arg1)
    ∧ r.2.mem (c, Proc.tc.devRef main_arg2) = m (c, Proc.tc.devRef main_arg2)
    ∧ r.2.mem (c, Proc.tc.devRef main_arg3) = m (c, Proc.tc.devRef main_arg3) := by
  refine (θ_run defs _ _).mono (fun r h c => ?_) (run_main (F := Ideal) m g)
  obtain ⟨hw, ho⟩ := h c
  exact ⟨(ho main_v13 (Pipeline.mem_restRefs_of main_v13 (by decide) (by decide))).trans (rows m c),
    (hw 6).trans (final6 m c), (hw 7).trans (final7 m c),
    (ho main_arg0 (Pipeline.mem_restRefs_of main_arg0 (by decide) (by decide))).trans (W_main_arg0 m (dats m) c),
    (ho main_arg1 (Pipeline.mem_restRefs_of main_arg1 (by decide) (by decide))).trans (W_main_arg1 m (dats m) c),
    (hw 1).trans (((dats m 0 c).arrAt_in 1 rfl _).trans ((A_eq m c 1).trans (V_main_arg2 m c))),
    (ho main_arg3 (Pipeline.mem_restRefs_of main_arg3 (by decide) (by decide))).trans (W_main_arg3 m (dats m) c)⟩

end Cert.Kernel11Ideal.Ada

end
-- ==== Proof.AdaR.lean ====
/- The reference's modulation, cosines and sines, at an entry, and that both programs give the same arrays. -/
module

public import proofs.«01_k».proof.Defs
public import proofs.«01_k».proof.Proof.Ada
public import proofs.«01_k».proof.Proof.Gen.Pre_finite11
public import proofs.«01_k».proof.Proof.Gen.Reference11Ideal.Run

@[expose] public section

set_option maxRecDepth 16384

noncomputable section

namespace Cert.Reference11Ideal.Ada

open Idealize.ShloMosaic Idealize.ShloMosaic.TcCoe Idealize.SL.Sem
open Cert.Reference11Ideal Cert.Reference11Ideal.Gen

/-- The reference's modulation at an entry. -/
theorem mod_at (C : FVec Ideal S4x4096 .f32) (W : FVec Ideal S4096x36864 .f32) (b : FVec Ideal S36864 .f32) (r : Fin 4) (k : Fin 36864) :
    @Eq EReal (addf (F := Ideal) (Host.dotGeneral dot_S4x4096_S4096x36864_S4x36864_1_0_0_1_n_n none (mulf C (Host.divf (broadcastInDim S4x4096 ![] bcast_S_S4x4096 (constant S_ .f32 0x3F800000#32)) (addf (broadcastInDim S4x4096 ![] bcast_S_S4x4096 (constant S_ .f32 0x3F800000#32)) (Host.exp (Host.negf C))))) W) (broadcastInDim S4x36864 ![0, 1] bcast_S1x36864_S4x36864_0_1 (broadcastInDim S1x36864 ![1] bcast_S36864_S1x36864_1 b)) (ix2 r k))
      ((∑ n : Fin 4096, C (ix2 r n) * Ideal.div (Ideal.ofBits .f32 1065353216#32) (Ideal.ofBits .f32 1065353216#32 + Ideal.exp (-(C (ix2 r n)))) * W (ix2 n k)) + b (ix1 k)) := by
  pointwise

/-- A token's angle at a frequency, as the reference lays it out. -/
theorem angle_at (P : IVec S4x4096 32) (r : Fin 16384) (k : Fin 128) :
    @Eq EReal (mulf (F := Ideal) (broadcastInDim S4x4096x128 ![0, 1, 2] bcast_S4x4096x1_S4x4096x128_0_1_2 (broadcastInDim S4x4096x1 ![0, 1] bcast_S4x4096_S4x4096x1_0_1 (sitofp .f32 P))) (broadcastInDim S4x4096x128 ![0, 1, 2] bcast_S1x1x128_S4x4096x128_0_1_2 (broadcastInDim S1x1x128 ![2] bcast_S128_S1x1x128_2 Cert.Kernel11Ideal.Ada.freq)) (ix3 (⟨(r : ℕ) / 4096, by omega⟩ : Fin 4) (⟨(r : ℕ) % 4096, by omega⟩ : Fin 4096) k))
      (Cert.Kernel11Ideal.Ada.angle P r k) := by
  unfold Cert.Kernel11Ideal.Ada.angle
  pointwise

theorem token (r : Fin 16384) (k : Fin 128) :
    (S4x4096x128.rowMajor (ix3 (⟨(r : ℕ) / 4096, by omega⟩ : Fin 4) (⟨(r : ℕ) % 4096, by omega⟩ : Fin 4096) k)).val
      = (S16384x128.rowMajor (ix2 r k)).val := by
  rw [rowMajor_val3 _ 524288 128 rfl rfl, rowMajor_val2 _ 128 rfl]
  show (r : ℕ) / 4096 * 524288 + (r : ℕ) % 4096 * 128 + (k : ℕ) = (r : ℕ) * 128 + (k : ℕ)
  omega

theorem real (C : Vec Ideal S4x4096 .f32) (P : Vec Ideal S4x4096 .i32) (W : Vec Ideal S4096x36864 .f32) (b : Vec Ideal S36864 .f32)
    (h : Cert.Pre_finite11.fn (F := Ideal) C P W b = fun _ => 1#1) : ∀ q, @Eq EReal (C q) (EReal.toReal (C q) : ℝ) := by
  have h0 := congrFun h (fun a => a.elim0)
  unfold Cert.Pre_finite11.fn at h0
  exact fun q => Finite.real_of_lt _ (Host.reduce_andi_all _ _ _ _ _ h0 q)

theorem frame : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

theorem algebraic : Cert.algebraic_Kernel11Ideal_Reference11Ideal_pre_finite11 := by
  intro m g m' g' hpre hagree
  refine ⟨fun c q => Cert.Kernel11Ideal.Ada.mod m c (q 0) (q 1),
    fun c q => Ideal.cos (Cert.Kernel11Ideal.Ada.angle (m (c, Proc.tc.devRef Cert.Kernel11Ideal.main_arg1)) (q 0) (q 1)),
    fun c q => Ideal.sin (Cert.Kernel11Ideal.Ada.angle (m (c, Proc.tc.devRef Cert.Kernel11Ideal.main_arg1)) (q 0) (q 1)), ?_, ?_⟩
  · exact Cert.Kernel11Ideal.Ada.run m g
  · refine (θ_run Cert.Reference11Ideal.defs _ _).mono (fun r h c => ?_) (Cert.Reference11Ideal.Value.run (F := Ideal) m' g')
    obtain ⟨h0, h1, h2, hrest⟩ := h c
    obtain ⟨e0, e1, e2, e3⟩ := hagree c
    refine ⟨h0.trans ?_, h1.trans ?_, h2.trans ?_, hrest⟩
    · have rC := real _ _ _ _ (hpre c)
      rw [e0, e2, e3]
      funext q
      idx_vars q
      refine (mod_at _ _ _ q0 q1).trans ?_
      exact congrArg (· + _) (Finset.sum_congr rfl fun n _ => Silu.gate_eq _ _ (rC _))
    · rw [e1]
      funext q
      idx_vars q
      exact (shapeCast_apply _ _ _ _ (token q0 q1)).trans (congrArg Ideal.cos (angle_at _ q0 q1))
    · rw [e1]
      funext q
      idx_vars q
      exact (shapeCast_apply _ _ _ _ (token q0 q1)).trans (congrArg Ideal.sin (angle_at _ q0 q1))

end Cert.Reference11Ideal.Ada

end
-- ==== Proof.lean ====
/- The certificate: the frames, the named constant's entry, and the equality of results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Pre_finite
public import proofs.«01_k».proof.Proof.Gen.Pre_finite2
public import proofs.«01_k».proof.Proof.Gen.Pre_finite5
public import proofs.«01_k».proof.Proof.Gen.Pre_finite11
public import proofs.«01_k».proof.Proof.Equal
public import proofs.«01_k».proof.Proof.UpR
public import proofs.«01_k».proof.Proof.DownR
public import proofs.«01_k».proof.Proof.DownR4
public import proofs.«01_k».proof.Proof.UpR5
public import proofs.«01_k».proof.Proof.DownR6
public import proofs.«01_k».proof.Proof.NormR7
public import proofs.«01_k».proof.Proof.NormR8
public import proofs.«01_k».proof.Proof.NormR9
public import proofs.«01_k».proof.Proof.NormR10
public import proofs.«01_k».proof.Proof.AdaR
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts,
  Cert.Pre_finite.Gen.facts, Cert.Pre_finite2.Gen.facts, Cert.Pre_finite5.Gen.facts, Cert.Pre_finite11.Gen.facts,
  fun m ρ _ => Cert.Kernel.Gen.frame m ρ,
  fun m ρ _ => Cert.KernelIdeal.Gen.frame m ρ,
  fun m ρ _ => Cert.KernelIdeal.Gen.frame m ρ,
  Cert.Equal.frame_reference,
  fun m ρ _ => Cert.Equal.frame_reference m ρ trivial,
  fun m ρ _ => Cert.Kernel2.Gen.frame m ρ,
  fun m ρ _ => Cert.Kernel2Ideal.Gen.frame m ρ,
  fun m ρ _ => Cert.Kernel2Ideal.Gen.frame m ρ,
  Cert.Reference2Ideal.Up.frame,
  fun m ρ _ => Cert.Reference2Ideal.Up.frame m ρ trivial,
  fun m ρ _ => Cert.Kernel3.Gen.frame m ρ,
  fun m ρ _ => Cert.Kernel3Ideal.Gen.frame m ρ,
  Cert.Reference3Ideal.Down.frame,
  fun m ρ _ => Cert.Kernel4.Gen.frame m ρ,
  fun m ρ _ => Cert.Kernel4Ideal.Gen.frame m ρ,
  Cert.Reference4Ideal.Down.frame,
  fun m ρ _ => Cert.Kernel5.Gen.frame m ρ,
  fun m ρ _ => Cert.Kernel5Ideal.Gen.frame m ρ,
  fun m ρ _ => Cert.Kernel5Ideal.Gen.frame m ρ,
  Cert.Reference5Ideal.Up.frame,
  fun m ρ _ => Cert.Reference5Ideal.Up.frame m ρ trivial,
  fun m ρ _ => Cert.Kernel6.Gen.frame m ρ,
  fun m ρ _ => Cert.Kernel6Ideal.Gen.frame m ρ,
  Cert.Reference6Ideal.Down.frame,
  fun m ρ _ => Cert.Kernel7.Gen.frame m ρ,
  fun m ρ _ => Cert.Kernel7Ideal.Gen.frame m ρ,
  Cert.Reference7Ideal.Norm.frame,
  fun m ρ _ => Cert.Kernel8.Gen.frame m ρ,
  fun m ρ _ => Cert.Kernel8Ideal.Gen.frame m ρ,
  Cert.Reference8Ideal.Norm.frame,
  fun m ρ _ => Cert.Kernel9.Gen.frame m ρ,
  fun m ρ _ => Cert.Kernel9Ideal.Gen.frame m ρ,
  Cert.Reference9Ideal.Norm.frame,
  fun m ρ _ => Cert.Kernel10.Gen.frame m ρ,
  fun m ρ _ => Cert.Kernel10Ideal.Gen.frame m ρ,
  Cert.Reference10Ideal.Norm.frame,
  fun m ρ _ => Cert.Kernel11.Gen.frame m ρ,
  fun m ρ _ => Cert.Kernel11Ideal.Gen.frame m ρ,
  fun m ρ _ => Cert.Kernel11Ideal.Gen.frame m ρ,
  Cert.Reference11Ideal.Ada.frame,
  fun m ρ _ => Cert.Reference11Ideal.Ada.frame m ρ trivial,
  Cert.Equal.preserves,
  Cert.Equal.algebraic,
  trivial,
  Cert.Reference2Ideal.Up.algebraic,
  trivial,
  Cert.Reference3Ideal.Down.algebraic,
  trivial,
  Cert.Reference4Ideal.Down.algebraic,
  trivial,
  Cert.Reference5Ideal.Up.algebraic,
  trivial,
  Cert.Reference6Ideal.Down.algebraic,
  trivial,
  Cert.Reference7Ideal.Norm.algebraic,
  trivial,
  Cert.Reference8Ideal.Norm.algebraic,
  trivial,
  Cert.Reference9Ideal.Norm.algebraic,
  trivial,
  Cert.Reference10Ideal.Norm.algebraic,
  trivial,
  Cert.Reference11Ideal.Ada.algebraic⟩

end Cert.Proof

end
